-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale" .bf16 0x3DB5#16 ((11863283 / 134217728 : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v85) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x1024 : Shape := ⟨3, ![2, 512, 1024]⟩
abbrev S1024x1024 : Shape := ⟨2, ![1024, 1024]⟩
abbrev S_ : Shape := ⟨0, ![]⟩

class Facts : Prop where
  bcast_S_S2x512x1024 : S_.BroadcastsInDim S2x512x1024 (![] : Fin 0 → Fin S2x512x1024.rank)
  reducesTo_S2x512x1024_S_d0_1_2 : S2x512x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2x512x1024 .bf16) (main_arg1 : FVec F S1024x1024 .bf16) (main_arg2 : FVec F S1024x1024 .bf16) (main_arg3 : FVec F S1024x1024 .bf16) (main_arg4 : FVec F S1024x1024 .bf16) : IVec S_ 1 :=
  let main_v0 : FVec F S2x512x1024 .bf16 := Host.absf main_arg0
  let main_cst : FVec F S_ .bf16 := constant S_ .bf16 0x7F80#16
  let main_v1 : FVec F S2x512x1024 .bf16 := broadcastInDim S2x512x1024 ![] bcast_S_S2x512x1024 main_cst
  let main_v2 : IVec S2x512x1024 1 := cmpf .olt main_v0 main_v1
  let main_c : IVec S_ 1 := constantI S_ 1 1#1
  let main_v3 : IVec S_ 1 := (fun x v => Host.reduce IntOp.andi x v reducesTo_S2x512x1024_S_d0_1_2 h_S_) main_v2 main_c
  let main_v4 : FVec F S1024x1024 .bf16 := Host.absf main_arg1
  let main_cst_0 : FVec F S_ .bf16 := constant S_ .bf16 0x7F80#16
  let main_v5 : FVec F S1024x1024 .bf16 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .bf16 := Host.absf main_arg2
  let main_cst_2 : FVec F S_ .bf16 := constant S_ .bf16 0x7F80#16
  let main_v10 : FVec F S1024x1024 .bf16 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Pre_finite_ReferenceIdeal.lean ====
abbrev S2x512x1024 : Shape := ⟨3, ![2, 512, 1024]⟩
abbrev S1024x16384 : Shape := ⟨2, ![1024, 16384]⟩
abbrev S16384x1024 : Shape := ⟨2, ![16384, 1024]⟩
abbrev S_ : Shape := ⟨0, ![]⟩

class Facts : Prop where
  bcast_S_S2x512x1024 : S_.BroadcastsInDim S2x512x1024 (![] : Fin 0 → Fin S2x512x1024.rank)
  reducesTo_S2x512x1024_S_d0_1_2 : S2x512x1024.ReducesTo [0, 1, 2] S_
  h_S_ : 0 < S_.numel
  bcast_S_S1024x16384 : S_.BroadcastsInDim S1024x16384 (![] : Fin 0 → Fin S1024x16384.rank)
  reducesTo_S1024x16384_S_d0_1 : S1024x16384.ReducesTo [0, 1] S_

variable [Facts]

def fn {F : FTy → Type} [FloatOps F] (main_arg0 : FVec F S2x512x1024 .bf16) (main_arg1 : FVec F S1024x16384 .bf16) (main_arg2 : FVec F S1024x16384 .bf16) (main_arg3 : FVec F S1024x16384 .bf16) (main_arg4 : FVec F S16384x1024 .bf16) : IVec S_ 1 :=
  let main_v0 : FVec F S2x512x1024 .bf16 := Host.absf main_arg0
  let main_cst : FVec F S_ .bf16 := constant S_ .bf16 0x7F80#16
  let main_v1 : FVec F S2x512x1024 .bf16 := broadcastInDim S2x512x1024 ![] bcast_S_S2x512x1024 main_cst
  let main_v2 : IVec S2x512x1024 1 := cmpf .olt main_v0 main_v1
  let main_c : IVec S_ 1 := constantI S_ 1 1#1
  let main_v3 : IVec S_ 1 := (fun x v => Host.reduce IntOp.andi x v reducesTo_S2x512x1024_S_d0_1_2 h_S_) main_v2 main_c
  let main_v4 : FVec F S1024x16384 .bf16 := Host.absf main_arg1
  let main_cst_0 : FVec F S_ .bf16 := constant S_ .bf16 0x7F80#16
  let main_v5 : FVec F S1024x16384 .bf16 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_v9 : FVec F S1024x16384 .bf16 := Host.absf main_arg2
  let main_cst_2 : FVec F S_ .bf16 := constant S_ .bf16 0x7F80#16
  let main_v10 : FVec F S1024x16384 .bf16 := broadcastInDim S1024x16384 ![] bcast_S_S1024x16384 main_cst_2
  let main_v11 : IVec S1024x16384 1 := cmpf .olt main_v9 main_v10
  let main_c_3 : IVec S_ 1 := constantI S_ 1 1#1
  let main_v12 : IVec S_ 1 := (fun x v => Host.reduce IntOp.andi x v reducesTo_S1024x16384_S_d0_1 h_S_) main_v11 main_c_3
  let main_v13 : IVec S_ 1 := andi main_v8 main_v12
  main_v13
-- ==== Kernel.lean ====
abbrev S2x512x1024 : Shape := ⟨3, ![2, 512, 1024]⟩
abbrev S1024x1024 : Shape := ⟨2, ![1024, 1024]⟩
abbrev S64 : Shape := ⟨1, ![64]⟩
abbrev S_ : Shape := ⟨0, ![]⟩
abbrev S512 : Shape := ⟨1, ![512]⟩
abbrev S512x1 : Shape := ⟨2, ![512, 1]⟩
abbrev S1x64 : Shape := ⟨2, ![1, 64]⟩
abbrev S512x64 : Shape := ⟨2, ![512, 64]⟩
abbrev S1024x8x64x2 : Shape := ⟨4, ![1024, 8, 64, 2]⟩
abbrev S1024x8x2x64 : Shape := ⟨4, ![1024, 8, 2, 64]⟩
abbrev S3x4x64x1024 : Shape := ⟨4, ![3, 4, 64, 1024]⟩
abbrev S3x64x1024 : Shape := ⟨3, ![3, 64, 1024]⟩
abbrev S3x4 : Shape := ⟨2, ![3, 4]⟩
abbrev S3 : Shape := ⟨1, ![3]⟩
abbrev S512x128 : Shape := ⟨2, ![512, 128]⟩
abbrev S512x1024 : Shape := ⟨2, ![512, 1024]⟩
abbrev S512x512 : Shape := ⟨2, ![512, 512]⟩
abbrev S1x1 : Shape := ⟨2, ![1, 1]⟩
abbrev S1x1x64x1024 : Shape := ⟨4, ![1, 1, 64, 1024]⟩
abbrev S64x1024 : Shape := ⟨2, ![64, 1024]⟩
abbrev S1 : Shape := ⟨1, ![1]⟩
abbrev S1x64x1024 : Shape := ⟨3, ![1, 64, 1024]⟩

abbrev nBuf : Space → Nat
  | .hbm => 47
  | .vmem => 12
  | .smem => 0
  | _ => 0

abbrev bufTy : (tb : Table) → Fin (tcTables nBuf tb) → BufTy
  | .hbm, ⟨0, _⟩ => ⟨S2x512x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S512, .f32⟩
  | .hbm, ⟨23, _⟩ => ⟨S512x1, .f32⟩
  | .hbm, ⟨24, _⟩ => ⟨S1x64, .f32⟩
  | .hbm, ⟨25, _⟩ => ⟨S512x64, .f32⟩
  | .hbm, ⟨26, _⟩ => ⟨S512x64, .f32⟩
  | .hbm, ⟨27, _⟩ => ⟨S512x64, .f32⟩
  | .hbm, ⟨28, _⟩ => ⟨S512x64, .f32⟩
  | .hbm, ⟨29, _⟩ => ⟨S512x64, .bf16⟩
  | .hbm, ⟨30, _⟩ => ⟨S512x64, .f32⟩
  | .hbm, ⟨31, _⟩ => ⟨S512x64, .bf16⟩
  | .hbm, ⟨32, _⟩ => ⟨S_, .bf16⟩
  | .hbm, ⟨33, _⟩ => ⟨S1024x1024, .bf16⟩
  | .hbm, ⟨34, _⟩ => ⟨S1024x1024, .bf16⟩
  | .hbm, ⟨35, _⟩ => ⟨S1024x8x64x2, .bf16⟩
  | .hbm, ⟨36, _⟩ => ⟨S1024x8x2x64, .bf16⟩
  | .hbm, ⟨37, _⟩ => ⟨S1024x1024, .bf16⟩
  | .hbm, ⟨38, _⟩ => ⟨S_, .bf16⟩
  | .hbm, ⟨39, _⟩ => ⟨S1024x1024, .bf16⟩
  | .hbm, ⟨40, _⟩ => ⟨S1024x1024, .bf16⟩
  | .hbm, ⟨41, _⟩ => ⟨S1024x8x64x2, .bf16⟩
  | .hbm, ⟨42, _⟩ => ⟨S1024x8x2x64, .bf16⟩
  | .hbm, ⟨43, _⟩ => ⟨S1024x1024, .bf16⟩
  | .hbm, ⟨44, _⟩ => ⟨S1024x1024, .bf16⟩
  | .hbm, ⟨45, _⟩ => ⟨S1024x1024, .f32⟩
  | .hbm, ⟨46, _⟩ => ⟨S2x512x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x64, .bf16⟩
  | .local _ .vmem, ⟨6, _⟩ => ⟨S512x64, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S3x4x64x1024, .bf16⟩
  | .local _ .vmem, ⟨11, _⟩ => ⟨S3x64x1024, .bf16⟩
  | _, _ => ⟨S2x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 2 → Bool
  | ⟨0, _⟩ => false
  | ⟨1, _⟩ => true
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 2 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v5 : BitVec 32 := Scalar.xori v2 c1_i32_0
  let c1_i32_4 : BitVec 32 := 1#32
  let v12 : BitVec 32 := Scalar.muli v5 c1_i32_4
  let v13 : BitVec 32 := Scalar.addi c0_i32 v12
  v13.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1 : BitVec 32 := 2#32
  let v6 : BitVec 32 := Scalar.xori v2 c2_i32_1
  let c1_i32_6 : BitVec 32 := 1#32
  let v14 : BitVec 32 := Scalar.muli v6 c1_i32_6
  let v15 : BitVec 32 := Scalar.addi c0_i32_7 v14
  v15.toNat
def k0_dev3 (d0 : Dev nD) : Nat :=
  let c0_i32_10 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2 : BitVec 32 := 3#32
  let v7 : BitVec 32 := Scalar.xori v2 c3_i32_2
  let c1_i32_9 : BitVec 32 := 1#32
  let v16 : BitVec 32 := Scalar.muli v7 c1_i32_9
  let v17 : BitVec 32 := Scalar.addi c0_i32_10 v16
  v17.toNat
def k0_dev4 (d0 : Dev nD) : Nat :=
  let c0_i32_13 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v8 : BitVec 32 := Scalar.xori v2 c4_i32
  let c1_i32_12 : BitVec 32 := 1#32
  let v18 : BitVec 32 := Scalar.muli v8 c1_i32_12
  let v19 : BitVec 32 := Scalar.addi c0_i32_13 v18
  v19.toNat
def k0_dev5 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v9 : BitVec 32 := Scalar.xori v2 c8_i32
  let c1_i32_15 : BitVec 32 := 1#32
  let v20 : BitVec 32 := Scalar.muli v9 c1_i32_15
  let v21 : BitVec 32 := Scalar.addi c0_i32_16 v20
  v21.toNat
def k0_dev6 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v10 : BitVec 32 := Scalar.xori v2 c12_i32
  let c1_i32_18 : BitVec 32 := 1#32
  let v22 : BitVec 32 := Scalar.muli v10 c1_i32_18
  let v23 : BitVec 32 := Scalar.addi c0_i32_19 v22
  v23.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let c1_i32_59 : BitVec 32 := 1#32
  let v251 : BitVec 32 := Scalar.shrsi v3 c1_i32_59
  let c1_i32_60 : BitVec 32 := 1#32
  let v252 : BitVec 32 := Scalar.xori v251 c1_i32_60
  let c512_i32 : BitVec 32 := 512#32
  let v253 : BitVec 32 := Scalar.muli v252 c512_i32
  let v254 : Index := Scalar.indexCast v253
  let c0_61 : Index := 0#32
  ![v254.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let c1_i32_59 : BitVec 32 := 1#32
  let v251 : BitVec 32 := Scalar.shrsi v3 c1_i32_59
  let c1_i32_60 : BitVec 32 := 1#32
  let v252 : BitVec 32 := Scalar.xori v251 c1_i32_60
  let c512_i32 : BitVec 32 := 512#32
  let v253 : BitVec 32 := Scalar.muli v252 c512_i32
  let v273 : Index := Scalar.indexCast v253
  let c0_66 : Index := 0#32
  ![v273.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let c1_i32_59 : BitVec 32 := 1#32
  let v251 : BitVec 32 := Scalar.shrsi v3 c1_i32_59
  let c1_i32_60 : BitVec 32 := 1#32
  let v252 : BitVec 32 := Scalar.xori v251 c1_i32_60
  let c512_i32 : BitVec 32 := 512#32
  let v253 : BitVec 32 := Scalar.muli v252 c512_i32
  let v298 : Index := Scalar.indexCast v253
  let c128_72 : Index := 128#32
  ![v298.toNat, 128]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let c1_i32_59 : BitVec 32 := 1#32
  let v251 : BitVec 32 := Scalar.shrsi v3 c1_i32_59
  let c1_i32_60 : BitVec 32 := 1#32
  let v252 : BitVec 32 := Scalar.xori v251 c1_i32_60
  let c512_i32 : BitVec 32 := 512#32
  let v253 : BitVec 32 := Scalar.muli v252 c512_i32
  let v323 : Index := Scalar.indexCast v253
  let c256_78 : Index := 256#32
  ![v323.toNat, 256]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let c1_i32_59 : BitVec 32 := 1#32
  let v251 : BitVec 32 := Scalar.shrsi v3 c1_i32_59
  let c1_i32_60 : BitVec 32 := 1#32
  let v252 : BitVec 32 := Scalar.xori v251 c1_i32_60
  let c512_i32 : BitVec 32 := 512#32
  let v253 : BitVec 32 := Scalar.muli v252 c512_i32
  let v348 : Index := Scalar.indexCast v253
  let c384_84 : Index := 384#32
  ![v348.toNat, 384]
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let c1_i32_59 : BitVec 32 := 1#32
  let v251 : BitVec 32 := Scalar.shrsi v3 c1_i32_59
  let c1_i32_60 : BitVec 32 := 1#32
  let v252 : BitVec 32 := Scalar.xori v251 c1_i32_60
  let c512_i32 : BitVec 32 := 512#32
  let v253 : BitVec 32 := Scalar.muli v252 c512_i32
  let v373 : Index := Scalar.indexCast v253
  let c512_90 : Index := 512#32
  ![v373.toNat, 512]
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let c1_i32_59 : BitVec 32 := 1#32
  let v251 : BitVec 32 := Scalar.shrsi v3 c1_i32_59
  let c1_i32_60 : BitVec 32 := 1#32
  let v252 : BitVec 32 := Scalar.xori v251 c1_i32_60
  let c512_i32 : BitVec 32 := 512#32
  let v253 : BitVec 32 := Scalar.muli v252 c512_i32
  let v398 : Index := Scalar.indexCast v253
  let c640_96 : Index := 640#32
  ![v398.toNat, 640]
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let c1_i32_59 : BitVec 32 := 1#32
  let v251 : BitVec 32 := Scalar.shrsi v3 c1_i32_59
  let c1_i32_60 : BitVec 32 := 1#32
  let v252 : BitVec 32 := Scalar.xori v251 c1_i32_60
  let c512_i32 : BitVec 32 := 512#32
  let v253 : BitVec 32 := Scalar.muli v252 c512_i32
  let v423 : Index := Scalar.indexCast v253
  let c768_102 : Index := 768#32
  ![v423.toNat, 768]
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let c1_i32_59 : BitVec 32 := 1#32
  let v251 : BitVec 32 := Scalar.shrsi v3 c1_i32_59
  let c1_i32_60 : BitVec 32 := 1#32
  let v252 : BitVec 32 := Scalar.xori v251 c1_i32_60
  let c512_i32 : BitVec 32 := 512#32
  let v253 : BitVec 32 := Scalar.muli v252 c512_i32
  let v448 : Index := Scalar.indexCast v253
  let c896_108 : Index := 896#32
  ![v448.toNat, 896]
def k0_off10 (d0 : Dev nD) (c2_i32_119 : BitVec 32) (c1_i32_118 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v471 : BitVec 32 := Scalar.xori v3 c2_i32_119
  let c256_i32 : BitVec 32 := 256#32
  let v472 : BitVec 32 := Scalar.muli v471 c256_i32
  let c2_i32 : BitVec 32 := 2#32
  let v4 : BitVec 32 := Scalar.shrsi v2 c2_i32
  let v470 : BitVec 32 := Scalar.xori v4 c1_i32_118
  let c64_i32 : BitVec 32 := 64#32
  let v473 : BitVec 32 := Scalar.muli v470 c64_i32
  let v474 : BitVec 32 := Scalar.addi v472 v473
  let c0_i32_130 : BitVec 32 := 0#32
  ![v474.toNat, 0]
def k0_dev7 (d0 : Dev nD) : Nat :=
  let c0_i32_127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1 : BitVec 32 := 2#32
  let v6 : BitVec 32 := Scalar.xori v2 c2_i32_1
  let c1_i32_126 : BitVec 32 := 1#32
  let v475 : BitVec 32 := Scalar.muli v6 c1_i32_126
  let v476 : BitVec 32 := Scalar.addi c0_i32_127 v475
  v476.toNat
def k0_dev8 (d0 : Dev nD) : Nat :=
  let c0_i32_142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1 : BitVec 32 := 2#32
  let v6 : BitVec 32 := Scalar.xori v2 c2_i32_1
  let c1_i32_141 : BitVec 32 := 1#32
  let v489 : BitVec 32 := Scalar.muli v6 c1_i32_141
  let v490 : BitVec 32 := Scalar.addi c0_i32_142 v489
  v490.toNat
def k0_dev9 (d0 : Dev nD) : Nat :=
  let c0_i32_157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1 : BitVec 32 := 2#32
  let v6 : BitVec 32 := Scalar.xori v2 c2_i32_1
  let c1_i32_156 : BitVec 32 := 1#32
  let v503 : BitVec 32 := Scalar.muli v6 c1_i32_156
  let v504 : BitVec 32 := Scalar.addi c0_i32_157 v503
  v504.toNat
def k0_dev10 (d0 : Dev nD) : Nat :=
  let c0_i32_172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1 : BitVec 32 := 2#32
  let v6 : BitVec 32 := Scalar.xori v2 c2_i32_1
  let c1_i32_171 : BitVec 32 := 1#32
  let v517 : BitVec 32 := Scalar.muli v6 c1_i32_171
  let v518 : BitVec 32 := Scalar.addi c0_i32_172 v517
  v518.toNat
def k0_dev11 (d0 : Dev nD) : Nat :=
  let c0_i32_187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2 : BitVec 32 := 3#32
  let v7 : BitVec 32 := Scalar.xori v2 c3_i32_2
  let c1_i32_186 : BitVec 32 := 1#32
  let v531 : BitVec 32 := Scalar.muli v7 c1_i32_186
  let v532 : BitVec 32 := Scalar.addi c0_i32_187 v531
  v532.toNat
def k0_dev12 (d0 : Dev nD) : Nat :=
  let c0_i32_202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2 : BitVec 32 := 3#32
  let v7 : BitVec 32 := Scalar.xori v2 c3_i32_2
  let c1_i32_201 : BitVec 32 := 1#32
  let v545 : BitVec 32 := Scalar.muli v7 c1_i32_201
  let v546 : BitVec 32 := Scalar.addi c0_i32_202 v545
  v546.toNat
def k0_dev13 (d0 : Dev nD) : Nat :=
  let c0_i32_217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2 : BitVec 32 := 3#32
  let v7 : BitVec 32 := Scalar.xori v2 c3_i32_2
  let c1_i32_216 : BitVec 32 := 1#32
  let v559 : BitVec 32 := Scalar.muli v7 c1_i32_216
  let v560 : BitVec 32 := Scalar.addi c0_i32_217 v559
  v560.toNat
def k0_dev14 (d0 : Dev nD) : Nat :=
  let c0_i32_232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2 : BitVec 32 := 3#32
  let v7 : BitVec 32 := Scalar.xori v2 c3_i32_2
  let c1_i32_231 : BitVec 32 := 1#32
  let v573 : BitVec 32 := Scalar.muli v7 c1_i32_231
  let v574 : BitVec 32 := Scalar.addi c0_i32_232 v573
  v574.toNat
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let c1_i32_236 : BitVec 32 := 1#32
  let v582 : BitVec 32 := Scalar.shrsi v3 c1_i32_236
  let c512_i32_237 : BitVec 32 := 512#32
  let v583 : BitVec 32 := Scalar.muli v582 c512_i32_237
  let v584 : Index := Scalar.indexCast v583
  let c0_238 : Index := 0#32
  ![v584.toNat, 0]
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let c1_i32_236 : BitVec 32 := 1#32
  let v582 : BitVec 32 := Scalar.shrsi v3 c1_i32_236
  let c512_i32_237 : BitVec 32 := 512#32
  let v583 : BitVec 32 := Scalar.muli v582 c512_i32_237
  let v603 : Index := Scalar.indexCast v583
  let c0_243 : Index := 0#32
  ![v603.toNat, 0]
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let c1_i32_236 : BitVec 32 := 1#32
  let v582 : BitVec 32 := Scalar.shrsi v3 c1_i32_236
  let c512_i32_237 : BitVec 32 := 512#32
  let v583 : BitVec 32 := Scalar.muli v582 c512_i32_237
  let v628 : Index := Scalar.indexCast v583
  let c128_249 : Index := 128#32
  ![v628.toNat, 128]
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let c1_i32_236 : BitVec 32 := 1#32
  let v582 : BitVec 32 := Scalar.shrsi v3 c1_i32_236
  let c512_i32_237 : BitVec 32 := 512#32
  let v583 : BitVec 32 := Scalar.muli v582 c512_i32_237
  let v653 : Index := Scalar.indexCast v583
  let c256_255 : Index := 256#32
  ![v653.toNat, 256]
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let c1_i32_236 : BitVec 32 := 1#32
  let v582 : BitVec 32 := Scalar.shrsi v3 c1_i32_236
  let c512_i32_237 : BitVec 32 := 512#32
  let v583 : BitVec 32 := Scalar.muli v582 c512_i32_237
  let v678 : Index := Scalar.indexCast v583
  let c384_261 : Index := 384#32
  ![v678.toNat, 384]
def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let c1_i32_236 : BitVec 32 := 1#32
  let v582 : BitVec 32 := Scalar.shrsi v3 c1_i32_236
  let c512_i32_237 : BitVec 32 := 512#32
  let v583 : BitVec 32 := Scalar.muli v582 c512_i32_237
  let v703 : Index := Scalar.indexCast v583
  let c512_267 : Index := 512#32
  ![v703.toNat, 512]
def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let c1_i32_236 : BitVec 32 := 1#32
  let v582 : BitVec 32 := Scalar.shrsi v3 c1_i32_236
  let c512_i32_237 : BitVec 32 := 512#32
  let v583 : BitVec 32 := Scalar.muli v582 c512_i32_237
  let v728 : Index := Scalar.indexCast v583
  let c640_273 : Index := 640#32
  ![v728.toNat, 640]
def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let c1_i32_236 : BitVec 32 := 1#32
  let v582 : BitVec 32 := Scalar.shrsi v3 c1_i32_236
  let c512_i32_237 : BitVec 32 := 512#32
  let v583 : BitVec 32 := Scalar.muli v582 c512_i32_237
  let v753 : Index := Scalar.indexCast v583
  let c768_279 : Index := 768#32
  ![v753.toNat, 768]
def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let c1_i32_236 : BitVec 32 := 1#32
  let v582 : BitVec 32 := Scalar.shrsi v3 c1_i32_236
  let c512_i32_237 : BitVec 32 := 512#32
  let v583 : BitVec 32 := Scalar.muli v582 c512_i32_237
  let v778 : Index := Scalar.indexCast v583
  let c896_285 : Index := 896#32
  ![v778.toNat, 896]
def k0_dev15 (d0 : Dev nD) : Nat :=
  let c0_i32_306 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v5 : BitVec 32 := Scalar.xori v2 c1_i32_0
  let c1_i32_305 : BitVec 32 := 1#32
  let v805 : BitVec 32 := Scalar.muli v5 c1_i32_305
  let v806 : BitVec 32 := Scalar.addi c0_i32_306 v805
  v806.toNat
def k0_dev16 (d0 : Dev nD) : Nat :=
  let c0_i32_321 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v5 : BitVec 32 := Scalar.xori v2 c1_i32_0
  let c1_i32_320 : BitVec 32 := 1#32
  let v819 : BitVec 32 := Scalar.muli v5 c1_i32_320
  let v820 : BitVec 32 := Scalar.addi c0_i32_321 v819
  v820.toNat
def k0_dev17 (d0 : Dev nD) : Nat :=
  let c0_i32_336 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v5 : BitVec 32 := Scalar.xori v2 c1_i32_0
  let c1_i32_335 : BitVec 32 := 1#32
  let v833 : BitVec 32 := Scalar.muli v5 c1_i32_335
  let v834 : BitVec 32 := Scalar.addi c0_i32_336 v833
  v834.toNat
def k0_dev18 (d0 : Dev nD) : Nat :=
  let c0_i32_351 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v5 : BitVec 32 := Scalar.xori v2 c1_i32_0
  let c1_i32_350 : BitVec 32 := 1#32
  let v847 : BitVec 32 := Scalar.muli v5 c1_i32_350
  let v848 : BitVec 32 := Scalar.addi c0_i32_351 v847
  v848.toNat
def k0_off20 (d0 : Dev nD) (c1_i32_357 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let c256_i32_358 : BitVec 32 := 256#32
  let v860 : BitVec 32 := Scalar.muli v3 c256_i32_358
  let c2_i32 : BitVec 32 := 2#32
  let v4 : BitVec 32 := Scalar.shrsi v2 c2_i32
  let v859 : BitVec 32 := Scalar.xori v4 c1_i32_357
  let c64_i32_359 : BitVec 32 := 64#32
  let v861 : BitVec 32 := Scalar.muli v859 c64_i32_359
  let v862 : BitVec 32 := Scalar.addi v860 v861
  let v899 : Index := Scalar.indexCast v862
  let c0_423 : Index := 0#32
  ![v899.toNat, 0]
def k0_off21 (d0 : Dev nD) (c1_i32_357 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let c256_i32_358 : BitVec 32 := 256#32
  let v860 : BitVec 32 := Scalar.muli v3 c256_i32_358
  let c2_i32 : BitVec 32 := 2#32
  let v4 : BitVec 32 := Scalar.shrsi v2 c2_i32
  let v859 : BitVec 32 := Scalar.xori v4 c1_i32_357
  let c64_i32_359 : BitVec 32 := 64#32
  let v861 : BitVec 32 := Scalar.muli v859 c64_i32_359
  let v862 : BitVec 32 := Scalar.addi v860 v861
  let c0_i32_442 : BitVec 32 := 0#32
  ![v862.toNat, 0]
def k0_dev19 (d0 : Dev nD) : Nat :=
  let c0_i32_439 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v8 : BitVec 32 := Scalar.xori v2 c4_i32
  let c1_i32_438 : BitVec 32 := 1#32
  let v913 : BitVec 32 := Scalar.muli v8 c1_i32_438
  let v914 : BitVec 32 := Scalar.addi c0_i32_439 v913
  v914.toNat
def k0_dev20 (d0 : Dev nD) : Nat :=
  let c0_i32_527 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v9 : BitVec 32 := Scalar.xori v2 c8_i32
  let c1_i32_526 : BitVec 32 := 1#32
  let v976 : BitVec 32 := Scalar.muli v9 c1_i32_526
  let v977 : BitVec 32 := Scalar.addi c0_i32_527 v976
  v977.toNat
def k0_dev21 (d0 : Dev nD) : Nat :=
  let c0_i32_615 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v10 : BitVec 32 := Scalar.xori v2 c12_i32
  let c1_i32_614 : BitVec 32 := 1#32
  let v1039 : BitVec 32 := Scalar.muli v10 c1_i32_614
  let v1040 : BitVec 32 := Scalar.addi c0_i32_615 v1039
  v1040.toNat
def k0_off22 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let c256_i32_355 : BitVec 32 := 256#32
  let v856 : BitVec 32 := Scalar.muli v3 c256_i32_355
  let c2_i32 : BitVec 32 := 2#32
  let v4 : BitVec 32 := Scalar.shrsi v2 c2_i32
  let c64_i32_356 : BitVec 32 := 64#32
  let v857 : BitVec 32 := Scalar.muli v4 c64_i32_356
  let v858 : BitVec 32 := Scalar.addi v856 v857
  let v1138 : Index := Scalar.indexCast v858
  let c0_743 : Index := 0#32
  ![v1138.toNat, 0]
def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let c256_i32_355 : BitVec 32 := 256#32
  let v856 : BitVec 32 := Scalar.muli v3 c256_i32_355
  let c2_i32 : BitVec 32 := 2#32
  let v4 : BitVec 32 := Scalar.shrsi v2 c2_i32
  let c64_i32_356 : BitVec 32 := 64#32
  let v857 : BitVec 32 := Scalar.muli v4 c64_i32_356
  let v858 : BitVec 32 := Scalar.addi v856 v857
  let c0_i32_758 : BitVec 32 := 0#32
  ![v858.toNat, 0]
def k0_dev22 (d0 : Dev nD) : Nat :=
  let c0_i32_757 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v8 : BitVec 32 := Scalar.xori v2 c4_i32
  let c1_i32_756 : BitVec 32 := 1#32
  let v1152 : BitVec 32 := Scalar.muli v8 c1_i32_756
  let v1153 : BitVec 32 := Scalar.addi c0_i32_757 v1152
  v1153.toNat
def k0_dev23 (d0 : Dev nD) : Nat :=
  let c0_i32_763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v9 : BitVec 32 := Scalar.xori v2 c8_i32
  let c1_i32_762 : BitVec 32 := 1#32
  let v1160 : BitVec 32 := Scalar.muli v9 c1_i32_762
  let v1161 : BitVec 32 := Scalar.addi c0_i32_763 v1160
  v1161.toNat
def k0_dev24 (d0 : Dev nD) : Nat :=
  let c0_i32_769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v10 : BitVec 32 := Scalar.xori v2 c12_i32
  let c1_i32_768 : BitVec 32 := 1#32
  let v1168 : BitVec 32 := Scalar.muli v10 c1_i32_768
  let v1169 : BitVec 32 := Scalar.addi c0_i32_769 v1168
  v1169.toNat
def k0_dev25 (d0 : Dev nD) : Nat :=
  let c0_i32_779 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v5 : BitVec 32 := Scalar.xori v2 c1_i32_0
  let c1_i32_778 : BitVec 32 := 1#32
  let v1179 : BitVec 32 := Scalar.muli v5 c1_i32_778
  let v1180 : BitVec 32 := Scalar.addi c0_i32_779 v1179
  v1180.toNat
def k0_dev26 (d0 : Dev nD) : Nat :=
  let c0_i32_787 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1 : BitVec 32 := 2#32
  let v6 : BitVec 32 := Scalar.xori v2 c2_i32_1
  let c1_i32_786 : BitVec 32 := 1#32
  let v1187 : BitVec 32 := Scalar.muli v6 c1_i32_786
  let v1188 : BitVec 32 := Scalar.addi c0_i32_787 v1187
  v1188.toNat
def k0_dev27 (d0 : Dev nD) : Nat :=
  let c0_i32_795 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2 : BitVec 32 := 3#32
  let v7 : BitVec 32 := Scalar.xori v2 c3_i32_2
  let c1_i32_794 : BitVec 32 := 1#32
  let v1195 : BitVec 32 := Scalar.muli v7 c1_i32_794
  let v1196 : BitVec 32 := Scalar.addi c0_i32_795 v1195
  v1196.toNat
def k0_dev28 (d0 : Dev nD) : Nat :=
  let c0_i32_812 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v5 : BitVec 32 := Scalar.xori v2 c1_i32_0
  let c1_i32_811 : BitVec 32 := 1#32
  let v1213 : BitVec 32 := Scalar.muli v5 c1_i32_811
  let v1214 : BitVec 32 := Scalar.addi c0_i32_812 v1213
  v1214.toNat
def k0_dev29 (d0 : Dev nD) : Nat :=
  let c0_i32_820 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1 : BitVec 32 := 2#32
  let v6 : BitVec 32 := Scalar.xori v2 c2_i32_1
  let c1_i32_819 : BitVec 32 := 1#32
  let v1221 : BitVec 32 := Scalar.muli v6 c1_i32_819
  let v1222 : BitVec 32 := Scalar.addi c0_i32_820 v1221
  v1222.toNat
def k0_dev30 (d0 : Dev nD) : Nat :=
  let c0_i32_828 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2 : BitVec 32 := 3#32
  let v7 : BitVec 32 := Scalar.xori v2 c3_i32_2
  let c1_i32_827 : BitVec 32 := 1#32
  let v1229 : BitVec 32 := Scalar.muli v7 c1_i32_827
  let v1230 : BitVec 32 := Scalar.addi c0_i32_828 v1229
  v1230.toNat
def k0_dev31 (d0 : Dev nD) : Nat :=
  let c0_i32_845 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v5 : BitVec 32 := Scalar.xori v2 c1_i32_0
  let c1_i32_844 : BitVec 32 := 1#32
  let v1247 : BitVec 32 := Scalar.muli v5 c1_i32_844
  let v1248 : BitVec 32 := Scalar.addi c0_i32_845 v1247
  v1248.toNat
def k0_dev32 (d0 : Dev nD) : Nat :=
  let c0_i32_853 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1 : BitVec 32 := 2#32
  let v6 : BitVec 32 := Scalar.xori v2 c2_i32_1
  let c1_i32_852 : BitVec 32 := 1#32
  let v1255 : BitVec 32 := Scalar.muli v6 c1_i32_852
  let v1256 : BitVec 32 := Scalar.addi c0_i32_853 v1255
  v1256.toNat
def k0_dev33 (d0 : Dev nD) : Nat :=
  let c0_i32_861 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2 : BitVec 32 := 3#32
  let v7 : BitVec 32 := Scalar.xori v2 c3_i32_2
  let c1_i32_860 : BitVec 32 := 1#32
  let v1263 : BitVec 32 := Scalar.muli v7 c1_i32_860
  let v1264 : BitVec 32 := Scalar.addi c0_i32_861 v1263
  v1264.toNat
def k0_dev34 (d0 : Dev nD) : Nat :=
  let c0_i32_878 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v5 : BitVec 32 := Scalar.xori v2 c1_i32_0
  let c1_i32_877 : BitVec 32 := 1#32
  let v1281 : BitVec 32 := Scalar.muli v5 c1_i32_877
  let v1282 : BitVec 32 := Scalar.addi c0_i32_878 v1281
  v1282.toNat
def k0_dev35 (d0 : Dev nD) : Nat :=
  let c0_i32_886 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1 : BitVec 32 := 2#32
  let v6 : BitVec 32 := Scalar.xori v2 c2_i32_1
  let c1_i32_885 : BitVec 32 := 1#32
  let v1289 : BitVec 32 := Scalar.muli v6 c1_i32_885
  let v1290 : BitVec 32 := Scalar.addi c0_i32_886 v1289
  v1290.toNat
def k0_dev36 (d0 : Dev nD) : Nat :=
  let c0_i32_894 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2 : BitVec 32 := 3#32
  let v7 : BitVec 32 := Scalar.xori v2 c3_i32_2
  let c1_i32_893 : BitVec 32 := 1#32
  let v1297 : BitVec 32 := Scalar.muli v7 c1_i32_893
  let v1298 : BitVec 32 := Scalar.addi c0_i32_894 v1297
  v1298.toNat
def k0_dev37 (d0 : Dev nD) : Nat :=
  let c0_i32_1094_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v5 : BitVec 32 := Scalar.xori v2 c1_i32_0
  let c1_i32_1093_r0 : BitVec 32 := 1#32
  let v1438_r0 : BitVec 32 := Scalar.muli v5 c1_i32_1093_r0
  let v1439_r0 : BitVec 32 := Scalar.addi c0_i32_1094_r0 v1438_r0
  v1439_r0.toNat
def k0_dev38 (d0 : Dev nD) : Nat :=
  let c0_i32_1097_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1 : BitVec 32 := 2#32
  let v6 : BitVec 32 := Scalar.xori v2 c2_i32_1
  let c1_i32_1096_r0 : BitVec 32 := 1#32
  let v1440_r0 : BitVec 32 := Scalar.muli v6 c1_i32_1096_r0
  let v1441_r0 : BitVec 32 := Scalar.addi c0_i32_1097_r0 v1440_r0
  v1441_r0.toNat
def k0_dev39 (d0 : Dev nD) : Nat :=
  let c0_i32_1100_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2 : BitVec 32 := 3#32
  let v7 : BitVec 32 := Scalar.xori v2 c3_i32_2
  let c1_i32_1099_r0 : BitVec 32 := 1#32
  let v1442_r0 : BitVec 32 := Scalar.muli v7 c1_i32_1099_r0
  let v1443_r0 : BitVec 32 := Scalar.addi c0_i32_1100_r0 v1442_r0
  v1443_r0.toNat
def k0_dev40 (d0 : Dev nD) : Nat :=
  let c0_i32_1103_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v8 : BitVec 32 := Scalar.xori v2 c4_i32
  let c1_i32_1102_r0 : BitVec 32 := 1#32
  let v1444_r0 : BitVec 32 := Scalar.muli v8 c1_i32_1102_r0
  let v1445_r0 : BitVec 32 := Scalar.addi c0_i32_1103_r0 v1444_r0
  v1445_r0.toNat
def k0_dev41 (d0 : Dev nD) : Nat :=
  let c0_i32_1106_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v9 : BitVec 32 := Scalar.xori v2 c8_i32
  let c1_i32_1105_r0 : BitVec 32 := 1#32
  let v1446_r0 : BitVec 32 := Scalar.muli v9 c1_i32_1105_r0
  let v1447_r0 : BitVec 32 := Scalar.addi c0_i32_1106_r0 v1446_r0
  v1447_r0.toNat
def k0_dev42 (d0 : Dev nD) : Nat :=
  let c0_i32_1109_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v10 : BitVec 32 := Scalar.xori v2 c12_i32
  let c1_i32_1108_r0 : BitVec 32 := 1#32
  let v1448_r0 : BitVec 32 := Scalar.muli v10 c1_i32_1108_r0
  let v1449_r0 : BitVec 32 := Scalar.addi c0_i32_1109_r0 v1448_r0
  v1449_r0.toNat
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== KernelIdeal.lean ====
variable {F : FTy → Type} [FloatOps F] [Named F]
def κ : String → Option EReal := fun
  | "scale" => some ((11863283 / 134217728 : ℝ) : EReal)
  | _ => none
-- ==== ReferenceIdeal.lean ====
abbrev S2x512x1024 : Shape := ⟨3, ![2, 512, 1024]⟩
abbrev S1024x16384 : Shape := ⟨2, ![1024, 16384]⟩
abbrev S16384x1024 : Shape := ⟨2, ![16384, 1024]⟩
abbrev S64 : Shape := ⟨1, ![64]⟩
abbrev S_ : Shape := ⟨0, ![]⟩
abbrev S512 : Shape := ⟨1, ![512]⟩
abbrev S512x1 : Shape := ⟨2, ![512, 1]⟩
abbrev S1x64 : Shape := ⟨2, ![1, 64]⟩
abbrev S512x64 : Shape := ⟨2, ![512, 64]⟩
abbrev S512x64x2 : Shape := ⟨3, ![512, 64, 2]⟩
abbrev S512x128 : Shape := ⟨2, ![512, 128]⟩
abbrev S2x512x16384 : Shape := ⟨3, ![2, 512, 16384]⟩
abbrev S2x512x128x128 : Shape := ⟨4, ![2, 512, 128, 128]⟩
abbrev S2x512x128x64x2 : Shape := ⟨5, ![2, 512, 128, 64, 2]⟩
abbrev S2x512x128x64x1 : Shape := ⟨5, ![2, 512, 128, 64, 1]⟩
abbrev S2x512x128x64 : Shape := ⟨4, ![2, 512, 128, 64]⟩
abbrev S1x512x1x128 : Shape := ⟨4, ![1, 512, 1, 128]⟩
abbrev S2x128x512x512 : Shape := ⟨4, ![2, 128, 512, 512]⟩
abbrev S2x128x512 : Shape := ⟨3, ![2, 128, 512]⟩
abbrev S2x128x512x1 : Shape := ⟨4, ![2, 128, 512, 1]⟩
abbrev S2x128x128x512 : Shape := ⟨4, ![2, 128, 128, 512]⟩

abbrev nBuf : Space → Nat
  | .hbm => 99
  | .vmem => 0
  | .smem => 0
  | _ => 0

abbrev bufTy : (tb : Table) → Fin (tcTables nBuf tb) → BufTy
  | .hbm, ⟨0, _⟩ => ⟨S2x512x1024, .bf16⟩
  | .hbm, ⟨1, _⟩ => ⟨S1024x16384, .bf16⟩
  | .hbm, ⟨2, _⟩ => ⟨S1024x16384, .bf16⟩
  | .hbm, ⟨3, _⟩ => ⟨S1024x16384, .bf16⟩
  | .hbm, ⟨4, _⟩ => ⟨S16384x1024, .bf16⟩
  | .hbm, ⟨5, _⟩ => ⟨S2x512x1024, .f32⟩
  | .hbm, ⟨6, _⟩ => ⟨S1024x16384, .f32⟩
  | .hbm, ⟨7, _⟩ => ⟨S1024x16384, .f32⟩
  | .hbm, ⟨8, _⟩ => ⟨S1024x16384, .f32⟩
  | .hbm, ⟨9, _⟩ => ⟨S16384x1024, .f32⟩
  | .hbm, ⟨10, _⟩ => ⟨S64, .i32⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S_, .i32⟩
  | .hbm, ⟨15, _⟩ => ⟨S64, .i32⟩
  | .hbm, ⟨16, _⟩ => ⟨S64, .i32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S512, .i32⟩
  | .hbm, ⟨28, _⟩ => ⟨S512x1, .i32⟩
  | .hbm, ⟨29, _⟩ => ⟨S1x64, .f32⟩
  | .hbm, ⟨30, _⟩ => ⟨S512x1, .f32⟩
  | .hbm, ⟨31, _⟩ => ⟨S512x64, .f32⟩
  | .hbm, ⟨32, _⟩ => ⟨S512x64, .f32⟩
  | .hbm, ⟨33, _⟩ => ⟨S512x64, .f32⟩
  | .hbm, ⟨34, _⟩ => ⟨S512x64, .f32⟩
  | .hbm, ⟨35, _⟩ => ⟨S512x64x2, .f32⟩
  | .hbm, ⟨36, _⟩ => ⟨S512x128, .f32⟩
  | .hbm, ⟨37, _⟩ => ⟨S512x64, .f32⟩
  | .hbm, ⟨38, _⟩ => ⟨S512x64x2, .f32⟩
  | .hbm, ⟨39, _⟩ => ⟨S512x128, .f32⟩
  | .hbm, ⟨40, _⟩ => ⟨S2x512x16384, .f32⟩
  | .hbm, ⟨41, _⟩ => ⟨S2x512x128x128, .f32⟩
  | .hbm, ⟨42, _⟩ => ⟨S2x512x128x64x2, .f32⟩
  | .hbm, ⟨43, _⟩ => ⟨S2x512x128x64x1, .f32⟩
  | .hbm, ⟨44, _⟩ => ⟨S2x512x128x64, .f32⟩
  | .hbm, ⟨45, _⟩ => ⟨S2x512x128x64, .f32⟩
  | .hbm, ⟨46, _⟩ => ⟨S2x512x128x64x1, .f32⟩
  | .hbm, ⟨47, _⟩ => ⟨S2x512x128x64, .f32⟩
  | .hbm, ⟨48, _⟩ => ⟨S2x512x128x64x1, .f32⟩
  | .hbm, ⟨49, _⟩ => ⟨S2x512x128x64x1, .f32⟩
  | .hbm, ⟨50, _⟩ => ⟨S2x512x128x64x2, .f32⟩
  | .hbm, ⟨51, _⟩ => ⟨S2x512x128x128, .f32⟩
  | .hbm, ⟨52, _⟩ => ⟨S1x512x1x128, .f32⟩
  | .hbm, ⟨53, _⟩ => ⟨S2x512x128x128, .f32⟩
  | .hbm, ⟨54, _⟩ => ⟨S2x512x128x128, .f32⟩
  | .hbm, ⟨55, _⟩ => ⟨S1x512x1x128, .f32⟩
  | .hbm, ⟨56, _⟩ => ⟨S2x512x128x128, .f32⟩
  | .hbm, ⟨57, _⟩ => ⟨S2x512x128x128, .f32⟩
  | .hbm, ⟨58, _⟩ => ⟨S2x512x128x128, .f32⟩
  | .hbm, ⟨59, _⟩ => ⟨S2x512x16384, .f32⟩
  | .hbm, ⟨60, _⟩ => ⟨S2x512x128x128, .f32⟩
  | .hbm, ⟨61, _⟩ => ⟨S2x512x128x64x2, .f32⟩
  | .hbm, ⟨62, _⟩ => ⟨S2x512x128x64x1, .f32⟩
  | .hbm, ⟨63, _⟩ => ⟨S2x512x128x64, .f32⟩
  | .hbm, ⟨64, _⟩ => ⟨S2x512x128x64, .f32⟩
  | .hbm, ⟨65, _⟩ => ⟨S2x512x128x64x1, .f32⟩
  | .hbm, ⟨66, _⟩ => ⟨S2x512x128x64, .f32⟩
  | .hbm, ⟨67, _⟩ => ⟨S2x512x128x64x1, .f32⟩
  | .hbm, ⟨68, _⟩ => ⟨S2x512x128x64x1, .f32⟩
  | .hbm, ⟨69, _⟩ => ⟨S2x512x128x64x2, .f32⟩
  | .hbm, ⟨70, _⟩ => ⟨S2x512x128x128, .f32⟩
  | .hbm, ⟨71, _⟩ => ⟨S1x512x1x128, .f32⟩
  | .hbm, ⟨72, _⟩ => ⟨S2x512x128x128, .f32⟩
  | .hbm, ⟨73, _⟩ => ⟨S2x512x128x128, .f32⟩
  | .hbm, ⟨74, _⟩ => ⟨S1x512x1x128, .f32⟩
  | .hbm, ⟨75, _⟩ => ⟨S2x512x128x128, .f32⟩
  | .hbm, ⟨76, _⟩ => ⟨S2x512x128x128, .f32⟩
  | .hbm, ⟨77, _⟩ => ⟨S2x512x128x128, .f32⟩
  | .hbm, ⟨78, _⟩ => ⟨S2x512x16384, .f32⟩
  | .hbm, ⟨79, _⟩ => ⟨S2x512x128x128, .f32⟩
  | .hbm, ⟨80, _⟩ => ⟨S2x128x512x512, .f32⟩
  | .hbm, ⟨81, _⟩ => ⟨S_, .f32⟩
  | .hbm, ⟨82, _⟩ => ⟨S2x128x512x512, .f32⟩
  | .hbm, ⟨83, _⟩ => ⟨S2x128x512x512, .f32⟩
  | .hbm, ⟨84, _⟩ => ⟨S_, .f32⟩
  | .hbm, ⟨85, _⟩ => ⟨S2x128x512, .f32⟩
  | .hbm, ⟨86, _⟩ => ⟨S2x128x512x1, .f32⟩
  | .hbm, ⟨87, _⟩ => ⟨S2x128x512x512, .f32⟩
  | .hbm, ⟨88, _⟩ => ⟨S2x128x512x512, .f32⟩
  | .hbm, ⟨89, _⟩ => ⟨S2x128x512x512, .f32⟩
  | .hbm, ⟨90, _⟩ => ⟨S_, .f32⟩
  | .hbm, ⟨91, _⟩ => ⟨S2x128x512, .f32⟩
  | .hbm, ⟨92, _⟩ => ⟨S2x128x512x1, .f32⟩
  | .hbm, ⟨93, _⟩ => ⟨S2x128x512x512, .f32⟩
  | .hbm, ⟨94, _⟩ => ⟨S2x128x512x512, .f32⟩
  | .hbm, ⟨95, _⟩ => ⟨S2x128x128x512, .f32⟩
  | .hbm, ⟨96, _⟩ => ⟨S2x512x128x128, .f32⟩
  | .hbm, ⟨97, _⟩ => ⟨S2x512x16384, .f32⟩
  | .hbm, ⟨98, _⟩ => ⟨S2x512x1024, .f32⟩
  | _, _ => ⟨S2x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_cst_3 : Ref sig .tc := ⟨.hbm, 81, rfl⟩
abbrev main_v71 : Ref sig .tc := ⟨.hbm, 82, rfl⟩
abbrev main_v72 : Ref sig .tc := ⟨.hbm, 83, rfl⟩
abbrev main_cst_4 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_cst_5 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩

abbrev nD : Nat := 1
abbrev τ : Topo := Topo.v7x

variable {F : FTy → Type} [FloatOps F]
-- ==== Proof.Cells.lean ====
/-
  The devices, the semaphores and the views of the kernel, named once.

  A device is a number below 16, read as a pair: its place in the plane (the two low bits) and its plane (the two
  high bits). Every partner of a device is it with some bits turned over, so every partner is `px c m` for a mask `m`.
  The result buffer has 16 blocks of 64 rows, one for each device: block `e` starts at row `256 * (e % 4) + 64 * (e / 4)`.
-/
module

public import proofs.«01_k».proof.Proof.Gen.KernelIdeal
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.Lib.Pipeline.RegionTalk

@[expose] public section

noncomputable section

namespace Cert.Attn

open Cert.KernelIdeal
open Idealize.ShloMosaic Idealize.ShloMosaic.TcCoe

/-- The device whose number is that of `c` with the bits of `m` turned over. -/
def px (c : Dev nD) (m : Fin 16) : Dev nD := ⟨(c.val ^^^ m.val) % 16, Nat.mod_lt _ (by decide)⟩

theorem px_px (c : Dev nD) (m : Fin 16) : px (px c m) m = c := by revert c m; decide +kernel
theorem px_comm (c : Dev nD) (m n : Fin 16) : px (px c m) n = px (px c n) m := by revert c m n; decide +kernel
theorem px_zero (c : Dev nD) : px c 0 = c := by revert c; decide +kernel

/-- A mask as a permutation of the devices. -/
def pxEquiv (m : Fin 16) : Dev nD ≃ Dev nD := ⟨fun c => px c m, fun c => px c m, fun c => px_px c m, fun c => px_px c m⟩

/-- The mask of the partner `t + 1` in the plane, and of the partner `t + 1` across the planes. -/
def pm (t : Fin 3) : Fin 16 := ⟨t.val + 1, by omega⟩
def zm (t : Fin 3) : Fin 16 := ⟨4 * (t.val + 1), by omega⟩
/-- The mask across the planes by `u`, where 0 is no move. -/
def zu (u : Fin 4) : Fin 16 := ⟨4 * u.val, by omega⟩
/-- The `j`-th plane served is the one at distance `j + 1`, the own plane last. -/
def uj (j : Fin 4) : Fin 4 := ⟨(j.val + 1) % 4, Nat.mod_lt _ (by decide)⟩

theorem zu_succ (t : Fin 3) : zu t.succ = zm t := by revert t; decide
theorem zu_castSucc_uj (t : Fin 3) : zu (uj t.castSucc) = zm t := by revert t; decide

/-! ## Semaphores -/

/-- The kernel's own semaphores: the one of the exit barrier; the four families of three (copies across the planes:
    sums sent, sums received, totals sent, totals received); the four families of twelve (copies in the plane: parts
    sent, parts received, totals sent, totals received). -/
abbrev OS : Type := Unit ⊕ ((Fin 4 × Fin 3) ⊕ (Fin 4 × Fin 3 × Fin 4))
/-- With the entry barrier. -/
abbrev Sm : Type := Unit ⊕ OS

instance : DecidableEq (Dev nD × Sm) := instDecidableEqProd

abbrev bar : Sm := .inl ()
abbrev ext : Sm := .inr (.inl ())
abbrev rszS (t : Fin 3) : Sm := .inr (.inr (.inl (0, t)))
abbrev rszR (t : Fin 3) : Sm := .inr (.inr (.inl (1, t)))
abbrev agzS (t : Fin 3) : Sm := .inr (.inr (.inl (2, t)))
abbrev agzR (t : Fin 3) : Sm := .inr (.inr (.inl (3, t)))
abbrev rspS (t : Fin 3) (j : Fin 4) : Sm := .inr (.inr (.inr (0, t, j)))
abbrev rspR (t : Fin 3) (j : Fin 4) : Sm := .inr (.inr (.inr (1, t, j)))
abbrev agpS (t : Fin 3) (u : Fin 4) : Sm := .inr (.inr (.inr (2, t, u)))
abbrev agpR (t : Fin 3) (u : Fin 4) : Sm := .inr (.inr (.inr (3, t, u)))

/-- The number of each among the transfer semaphores. -/
def dix : (Fin 4 × Fin 3) ⊕ (Fin 4 × Fin 3 × Fin 4) → Fin 68
  | .inl (k, t) => ⟨32 + 3 * k.val + t.val, by omega⟩
  | .inr (k, t, j) => ⟨(![8, 20, 44, 56] k : Fin 57).val + 4 * t.val + j.val, by omega⟩

/-- Where each semaphore is. -/
def loc : Sm → SemLoc sig
  | .inl () => .reg (0 : Fin 2)
  | .inr (.inl ()) => .reg (1 : Fin 2)
  | .inr (.inr x) => .dma (dix x)

theorem loc_inj : Function.Injective loc := by decide +kernel

/-- Which of the named semaphores a place is, if any. -/
def which (l : SemLoc sig) : Option Sm := Function.partialInv loc l
theorem which_loc (s : Sm) : which (loc s) = some s := Function.partialInv_left loc_inj s

/-- Device `c`'s cell of a semaphore. -/
abbrev cell (c : Dev nD) (s : Sm) : GSem nD τ sig := ((c : Thread nD τ), loc s)

theorem cell_inj {c c' : Dev nD} {s s' : Sm} (h : cell c s = cell c' s') : c = c' ∧ s = s' :=
  ⟨congrArg (fun g : GSem nD τ sig => g.1.1) h, loc_inj (congrArg (fun g : GSem nD τ sig => g.2) h)⟩

end Cert.Attn

end
-- ==== Proof.Views.lean ====
/-
  The views the kernel moves: the sixteen blocks of the result buffer and the slots of the two landing buffers, with the
  elements each has and what a copy or a store through it writes.
-/
module

public import proofs.«01_k».proof.Proof.Cells
public import proofs.«01_k».proof.Proof.Gen.KernelIdeal.Points
public import Idealize.ShloMosaic.Lib.ValueLayout
public import Idealize.ShloMosaic.Lib.Ring.Trips

@[expose] public section

noncomputable section

namespace Cert.Attn

open Cert.KernelIdeal
open Idealize.ShloMosaic Idealize.ShloMosaic.TcCoe

/-- The result's staging buffer and the two landing buffers. -/
abbrev outM : Memref sig .tc .vmem S1024x1024 .bf16 := Memref.whole cc0_stg7_0
abbrev lpM : Memref sig .tc .vmem S3x4x64x1024 .bf16 := Memref.whole cc0_scratch2
abbrev lzM : Memref sig .tc .vmem S3x64x1024 .bf16 := Memref.whole cc0_scratch3

/-- Where block `e` starts. -/
def blkRow (e : Dev nD) : Nat := 256 * (e.val % 4) + 64 * (e.val / 4)
theorem blkRow_le (e : Dev nD) : blkRow e + 64 ≤ 1024 := by revert e; decide
def blkOff (e : Dev nD) : Fin 2 → Nat := ![blkRow e, 0]
theorem blkOff_inb (e : Dev nD) : ∀ a, blkOff e a + S64x1024.size a ≤ S1024x1024.size a := fun a => by
  fin_cases a
  · exact blkRow_le e
  · exact (by decide : 0 + 1024 ≤ 1024)

abbrev blkRect (e : Dev nD) : Rect S1024x1024 := Rect.unit (s := S1024x1024) (blkOff e) S64x1024.size (blkOff_inb e)
abbrev blkM (e : Dev nD) : Memref sig .tc .vmem S64x1024 .bf16 := outM.slice (blkRect e) (fun _ => rfl)

theorem lp_inb (t : Fin 3) (j : Fin 4) : ∀ a, (![t.val, j.val, 0, 0] : Fin 4 → Nat) a + S1x1x64x1024.size a ≤ S3x4x64x1024.size a := by
  revert t j; decide
theorem lz_inb (t : Fin 3) : ∀ a, (![t.val, 0, 0] : Fin 3 → Nat) a + S1x64x1024.size a ≤ S3x64x1024.size a := by
  revert t; decide
abbrev lpRect (t : Fin 3) (j : Fin 4) : Rect S3x4x64x1024 := Rect.unit (s := S3x4x64x1024) ![t.val, j.val, 0, 0] S1x1x64x1024.size (lp_inb t j)
abbrev lzRect (t : Fin 3) : Rect S3x64x1024 := Rect.unit (s := S3x64x1024) ![t.val, 0, 0] S1x64x1024.size (lz_inb t)
abbrev lpV (t : Fin 3) (j : Fin 4) : Memref sig .tc .vmem S64x1024 .bf16 :=
  (lpM.slice (lpRect t j) (fun _ => rfl)).squeeze S64x1024 Facts₀.squeezes_S1x1x64x1024_S64x1024
abbrev lzV (t : Fin 3) : Memref sig .tc .vmem S64x1024 .bf16 :=
  (lzM.slice (lzRect t) (fun _ => rfl)).squeeze S64x1024 Facts₀.squeezes_S1x64x1024_S64x1024

/-- The block a row lies in. -/
def owner (n : Nat) : Dev nD := ⟨(n / 256 % 4 + 4 * (n / 64 % 4)) % 16, Nat.mod_lt _ (by decide)⟩

/-- The elements of block `e`. -/
def blkSet (e : Dev nD) : Finset S1024x1024.Idx := Finset.univ.filter fun i => owner (i 0).val = e
def lpSet (t : Fin 3) (j : Fin 4) : Finset S3x4x64x1024.Idx := Finset.univ.filter fun i => (i 0).val = t.val ∧ (i 1).val = j.val
def lzSet (t : Fin 3) : Finset S3x64x1024.Idx := Finset.univ.filter fun i => (i 0).val = t.val

theorem owner_blk_all : ∀ (e : Dev nD) (n : Fin 1024), owner n.val = e ↔ blkRow e ≤ n.val ∧ n.val < blkRow e + 64 := by decide +kernel
theorem owner_blk (e : Dev nD) (n : Nat) (hn : n < 1024) : owner n = e ↔ blkRow e ≤ n ∧ n < blkRow e + 64 := owner_blk_all e ⟨n, hn⟩

theorem blk_set (e : Dev nD) : (blkM e).view.set = blkSet e := by
  ext i
  show i ∈ ((View.whole cc0_stg7_0).slice (blkRect e)).set ↔ _
  rw [View.set_slice_whole, Rect.mem_set_unit, blkSet, Finset.mem_filter]
  have h1 : (i 1).val < 1024 := (i 1).isLt
  have h0 : (i 0).val < 1024 := (i 0).isLt
  rw [owner_blk e _ h0]
  constructor
  · intro h; exact ⟨Finset.mem_univ _, (h 0).1, (h 0).2⟩
  · rintro ⟨-, h⟩ a
    fin_cases a
    · exact h
    · exact ⟨Nat.zero_le _, by show (i 1).val < 0 + 1024; omega⟩

theorem lp_set (t : Fin 3) (j : Fin 4) : (lpV t j).view.set = lpSet t j := by
  show ((View.whole cc0_scratch2).slice (lpRect t j) |>.reshape S64x1024 _).set = _
  rw [View.set_reshape]
  ext i
  rw [View.set_slice_whole, Rect.mem_set_unit, lpSet, Finset.mem_filter]
  have h3 : (i 3).val < 1024 := (i 3).isLt
  have h2 : (i 2).val < 64 := (i 2).isLt
  constructor
  · intro h
    have ha : t.val ≤ (i 0).val ∧ (i 0).val < t.val + 1 := h 0
    have hb : j.val ≤ (i 1).val ∧ (i 1).val < j.val + 1 := h 1
    exact ⟨Finset.mem_univ _, by omega, by omega⟩
  · rintro ⟨-, ha, hb⟩ a
    have ha' : (i 0).val = t.val := ha
    have hb' : (i 1).val = j.val := hb
    fin_cases a
    · show t.val ≤ (i 0).val ∧ (i 0).val < t.val + 1; omega
    · show j.val ≤ (i 1).val ∧ (i 1).val < j.val + 1; omega
    · show 0 ≤ (i 2).val ∧ (i 2).val < 0 + 64; omega
    · show 0 ≤ (i 3).val ∧ (i 3).val < 0 + 1024; omega

theorem lz_set (t : Fin 3) : (lzV t).view.set = lzSet t := by
  show ((View.whole cc0_scratch3).slice (lzRect t) |>.reshape S64x1024 _).set = _
  rw [View.set_reshape]
  ext i
  rw [View.set_slice_whole, Rect.mem_set_unit, lzSet, Finset.mem_filter]
  have h2 : (i 2).val < 1024 := (i 2).isLt
  have h1 : (i 1).val < 64 := (i 1).isLt
  constructor
  · intro h
    have ha : t.val ≤ (i 0).val ∧ (i 0).val < t.val + 1 := h 0
    exact ⟨Finset.mem_univ _, by omega⟩
  · rintro ⟨-, ha⟩ a
    have ha' : (i 0).val = t.val := ha
    fin_cases a
    · show t.val ≤ (i 0).val ∧ (i 0).val < t.val + 1; omega
    · show 0 ≤ (i 1).val ∧ (i 1).val < 0 + 64; omega
    · show 0 ≤ (i 2).val ∧ (i 2).val < 0 + 1024; omega

/-! ## Elements through the views -/

/-- Row `x` of block `e`. -/
def blkIdx (e : Dev nD) (x : Fin 64) (y : Fin 1024) : S1024x1024.Idx :=
  ValueIdx.ix2 (⟨blkRow e + x.val, by have := blkRow_le e; omega⟩ : Fin 1024) y

theorem owner_blkIdx (e : Dev nD) (x : Fin 64) (y : Fin 1024) : owner (blkIdx e x y 0).val = e :=
  (owner_blk e _ (blkIdx e x y 0).isLt).2 ⟨Nat.le_add_right _ _, Nat.add_lt_add_left x.isLt _⟩

theorem blk_emb (e : Dev nD) (x : S64x1024.Idx) : (blkM e).view.emb x = blkIdx e (x 0) (x 1) := by
  funext a
  fin_cases a
  · exact Fin.ext (show blkRow e + 1 * (x 0).val = blkRow e + (x 0).val by omega)
  · exact Fin.ext (show 0 + 1 * (x 1).val = (x 1).val by omega)

theorem lp_emb (t : Fin 3) (j : Fin 4) (x : S64x1024.Idx) : (lpV t j).view.emb x = ValueIdx.ix4 t j (x 0) (x 1) := by
  show (lpRect t j).emb (Shape.reshapeEquiv _ x) = _
  refine (congrArg (lpRect t j).emb ((congrArg _ (ValueIdx.eq_ix2 x)).trans (ValueIdx.reshapeEquiv_ix2_11ab _ (x 0) (x 1)))).trans ?_
  funext a
  fin_cases a
  · exact Fin.ext (show t.val + 1 * 0 = t.val by omega)
  · exact Fin.ext (show j.val + 1 * 0 = j.val by omega)
  · exact Fin.ext (show 0 + 1 * (x 0).val = (x 0).val by omega)
  · exact Fin.ext (show 0 + 1 * (x 1).val = (x 1).val by omega)

theorem lz_emb (t : Fin 3) (x : S64x1024.Idx) : (lzV t).view.emb x = ValueIdx.ix3 t (x 0) (x 1) := by
  show (lzRect t).emb (Shape.reshapeEquiv _ x) = _
  refine (congrArg (lzRect t).emb ((congrArg _ (ValueIdx.eq_ix2 x)).trans (ValueIdx.reshapeEquiv_ix2_1ab _ (x 0) (x 1)))).trans ?_
  funext a
  fin_cases a
  · exact Fin.ext (show t.val + 1 * 0 = t.val by omega)
  · exact Fin.ext (show 0 + 1 * (x 0).val = (x 0).val by omega)
  · exact Fin.ext (show 0 + 1 * (x 1).val = (x 1).val by omega)

section Contents

variable {F : FTy → Type}

abbrev OutC (F : FTy → Type) : Type := (⟨S1024x1024, .bf16⟩ : BufTy).Contents (Elt F)
abbrev LpC (F : FTy → Type) : Type := (⟨S3x4x64x1024, .bf16⟩ : BufTy).Contents (Elt F)
abbrev LzC (F : FTy → Type) : Type := (⟨S3x64x1024, .bf16⟩ : BufTy).Contents (Elt F)

/-- What lies in device `c`'s first landing buffer once all parts are there: in slot `(t, j)` the part that the partner `t + 1`
    of the plane has for the block of plane `j`. -/
def landp (part : Dev nD → OutC F) (c : Dev nD) : LpC F := fun i => part (px c (pm (i 0))) (blkIdx (px c (zu (uj (i 1)))) (i 2) (i 3))
/-- The same of the second landing buffer: the sums of the own block. -/
def landz (acc : Dev nD → OutC F) (c : Dev nD) : LzC F := fun i => acc (px c (zm (i 0))) (blkIdx c (i 1) (i 2))
/-- The whole result: every block from the device that owns it. -/
def final (tot : Dev nD → OutC F) : OutC F := fun i => tot (owner (i 0).val) i

theorem landp_written (part : Dev nD → OutC F) (c c' : Dev nD) (t : Fin 3) (j : Fin 4) (e : Dev nD)
    (hc : px c' (pm t) = c) (he : px c' (zu (uj j)) = e) (fd : LpC F) :
    ∀ i ∈ lpSet t j, (lpV t j).view.write (Elt F) fd ((blkM e).view.read (Elt F) (part c)) Finset.univ i = landp part c' i := by
  intro i hi
  rw [← lp_set] at hi
  obtain ⟨x, -, rfl⟩ := Finset.mem_map.1 hi
  rw [View.write_emb_of_mem _ _ (Finset.mem_univ _), View.read_apply]
  show part c ((blkM e).view.emb x) = landp part c' ((lpV t j).view.emb x)
  rw [blk_emb, lp_emb]
  show _ = part (px c' (pm t)) (blkIdx (px c' (zu (uj j))) (x 0) (x 1))
  rw [hc, he]

theorem landz_written (acc : Dev nD → OutC F) (c c' : Dev nD) (t : Fin 3)
    (hc : px c' (zm t) = c) (fd : LzC F) :
    ∀ i ∈ lzSet t, (lzV t).view.write (Elt F) fd ((blkM c').view.read (Elt F) (acc c)) Finset.univ i = landz acc c' i := by
  intro i hi
  rw [← lz_set] at hi
  obtain ⟨x, -, rfl⟩ := Finset.mem_map.1 hi
  rw [View.write_emb_of_mem _ _ (Finset.mem_univ _), View.read_apply]
  show acc c ((blkM c').view.emb x) = landz acc c' ((lzV t).view.emb x)
  rw [blk_emb, lz_emb]
  show _ = acc (px c' (zm t)) (blkIdx c' (x 0) (x 1))
  rw [hc]

/-- A block copied onto the same block of another device. -/
theorem blk_written (X : OutC F) (e : Dev nD) (fd : OutC F) :
    ∀ i ∈ blkSet e, (blkM e).view.write (Elt F) fd ((blkM e).view.read (Elt F) X) Finset.univ i = X i := by
  intro i hi
  rw [← blk_set] at hi
  obtain ⟨x, -, rfl⟩ := Finset.mem_map.1 hi
  rw [View.write_emb_of_mem _ _ (Finset.mem_univ _), View.read_apply]
  rfl

/-- A store over a whole block. -/
theorem blk_stored (X fd : OutC F) (e : Dev nD) (v : S64x1024.Idx → Elt F .bf16)
    (hv : ∀ x : S64x1024.Idx, v x = X (blkIdx e (x 0) (x 1))) :
    ∀ i ∈ blkSet e, (blkM e).view.write (Elt F) fd v Finset.univ i = X i := by
  intro i hi
  rw [← blk_set] at hi
  obtain ⟨x, -, rfl⟩ := Finset.mem_map.1 hi
  rw [View.write_emb_of_mem _ _ (Finset.mem_univ _), blk_emb, hv]
  rfl

end Contents

/-! ## The kernel's offsets and device numbers, in closed form -/

theorem off10_eq (c : Dev nD) (t : Fin 3) (u : Fin 4) :
    k0_off10 c (BitVec.ofNat 32 (t.val + 1)) (BitVec.ofNat 32 u.val) = blkOff (px (px c (pm t)) (zu u)) := by
  revert c t u; decide +kernel
theorem off20_eq (c : Dev nD) (u : Fin 4) : k0_off20 c (BitVec.ofNat 32 u.val) = blkOff (px c (zu u)) := by revert c u; decide +kernel
theorem off21_eq (c : Dev nD) (t : Fin 3) : k0_off21 c (BitVec.ofNat 32 (t.val + 1)) = blkOff (px c (zm t)) := by revert c t; decide +kernel
theorem off22_eq (c : Dev nD) : k0_off22 c = blkOff c := by revert c; decide +kernel
theorem off23_eq (c : Dev nD) : k0_off23 c = blkOff c := by revert c; decide +kernel

end Cert.Attn

end
-- ==== Proof.Sched.lean ====
/-
  The schedule: what is paid to each semaphore's cell, the level of each, and what a device still has to pay.
-/
module

public import proofs.«01_k».proof.Proof.Views

@[expose] public section

noncomputable section

namespace Cert.Attn

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Ring (shares3)

variable {F : FTy → Type}

/-- A duty: at a barrier the partner who pays it (in the plane or across the planes); elsewhere there is one duty only. -/
abbrev Duty : Type := Bool × Fin 3
abbrev d0 : Duty := (false, 0)

abbrev RU : Type := Rounds.URounds (GSem nD τ sig) Duty
abbrev UU : Type := UR sig nD τ × RU

local notation "𝕄" => MT nD τ sig Unit (Elt F) ℕ UU ℕ

abbrev EP : Emb (UR sig nD τ) (MT nD τ sig Unit (Elt F) ℕ UU ℕ) := embL
abbrev ER : Emb RU (MT nD τ sig Unit (Elt F) ℕ UU ℕ) := embR

/-- What the result's buffer holds on each device: after the attention, after the sums in the plane, after the sums across
    the planes (the last two on the blocks where they are made). -/
structure Vals (F : FTy → Type) where
  part : Dev nD → OutC F
  acc : Dev nD → OutC F
  tot : Dev nD → OutC F

/-! ## Pieces of the buffers -/

abbrev blk (c e : Dev nD) (q : PosShare TreeShare) (X : OutC F) : sProp 𝕄 := outM.view.loc (c : Thread nD τ) ↦[blkSet e]{q} X
abbrev lp (c : Dev nD) (t : Fin 3) (j : Fin 4) (X : LpC F) : sProp 𝕄 := lpM.view.loc (c : Thread nD τ) ↦[lpSet t j]{fullShare} X
abbrev lz (c : Dev nD) (t : Fin 3) (X : LzC F) : sProp 𝕄 := lzM.view.loc (c : Thread nD τ) ↦[lzSet t]{fullShare} X

/-- The credit of one block. -/
abbrev N : ℕ := (blkM 0).view.dmaCredit
theorem N_pos : 0 < N := View.dmaCredit_pos _ (by decide)

/-- The share of an own block that the copy to the partner `t` in the plane reads. Of the block of device `c` itself another
    share is with the copies across the planes. -/
def qp (u : Fin 4) (t : Fin 3) : PosShare TreeShare := if u = 0 then shares3 fullShare.right t else shares3 fullShare t

/-- The mask of the partner who pays a barrier's duty. -/
def mask : Duty → Fin 16
  | (false, t) => pm t
  | (true, t) => zm t

/-- What device `p` hands to its partner `t` in the plane before any copy: its slots for that partner's parts, and that its
    cells are open. -/
def giveP (p : Dev nD) (t : Fin 3) : sProp 𝕄 :=
  iprop((bigSep Finset.univ fun j : Fin 4 => iprop(∃ f, lp p t j f)) ∗ (bigSep Finset.univ fun j : Fin 4 => reached ER (cell p (rspR t j)) 0)
    ∗ (bigSep Finset.univ fun u : Fin 4 => reached ER (cell p (agpR t u)) 0) ∗ reached ER (cell p ext) 0)
/-- The same across the planes. -/
def giveZ (p : Dev nD) (t : Fin 3) : sProp 𝕄 :=
  iprop((∃ f, lz p t f) ∗ reached ER (cell p (rszR t)) 0 ∗ reached ER (cell p (agzR t)) 0 ∗ reached ER (cell p ext) 0)

def barPay (c : Dev nD) : Duty → sProp 𝕄
  | (false, t) => giveP (px c (pm t)) t
  | (true, t) => giveZ (px c (zm t)) t

variable (v : Vals F)

def zPay (c : Dev nD) (k : Fin 4) (t : Fin 3) : sProp 𝕄 :=
  match k with
  | 0 => iprop(emp)
  | 1 => iprop(lz c t (landz v.acc c) ∗ blk (px c (zm t)) c fullShare (v.acc (px c (zm t))))
  | 2 => blk c c (shares3 fullShare.left t) (final v.tot)
  | 3 => blk c (px c (zm t)) fullShare (final v.tot)

def pPay (c : Dev nD) (k : Fin 4) (t : Fin 3) (j : Fin 4) : sProp 𝕄 :=
  match k with
  | 0 => iprop(emp)
  | 1 => iprop(lp c t j (landp v.part c) ∗ blk (px c (pm t)) (px c (zu (uj j))) fullShare (v.part (px c (pm t))))
  | 2 => blk c (px c (zu j)) (qp j t) (final v.tot)
  | 3 => blk c (px (px c (pm t)) (zu j)) fullShare (final v.tot)

/-- What comes with each duty. -/
def sPay (c : Dev nD) : Sm → Duty → sProp 𝕄
  | .inl (), d => barPay c d
  | .inr (.inl ()), _ => iprop(emp)
  | .inr (.inr (.inl (k, t))), _ => zPay v c k t
  | .inr (.inr (.inr (k, t, j))), _ => pPay v c k t j

instance giveP_storable (p : Dev nD) (t : Fin 3) : BI.Storable (upEmb : UEmb _ 𝕄) (giveP (F := F) p t) := by
  unfold giveP; infer_instance
instance giveZ_storable (p : Dev nD) (t : Fin 3) : BI.Storable (upEmb : UEmb _ 𝕄) (giveZ (F := F) p t) := by
  unfold giveZ; infer_instance
instance sPay_storable (c : Dev nD) (s : Sm) (d : Duty) : BI.Storable (upEmb : UEmb _ 𝕄) (sPay v c s d) := by
  match s, d with
  | .inl (), (false, t) => show BI.Storable upEmb (giveP (px c (pm t)) t); infer_instance
  | .inl (), (true, t) => show BI.Storable upEmb (giveZ (px c (zm t)) t); infer_instance
  | .inr (.inl ()), _ => show BI.Storable upEmb (iprop(emp) : sProp 𝕄); infer_instance
  | .inr (.inr (.inl (k, t))), _ =>
    show BI.Storable upEmb (zPay v c k t)
    unfold zPay; split <;> infer_instance
  | .inr (.inr (.inr (k, t, j))), _ =>
    show BI.Storable upEmb (pPay v c k t j)
    unfold pPay; split <;> infer_instance

/-- Whether a semaphore is one of the two barriers. -/
def isBar : Sm → Bool
  | .inl () => true
  | .inr (.inl ()) => true
  | _ => false
def dut (s : Sm) : Finset Duty := if isBar s then Finset.univ else {d0}
def amt (s : Sm) : ℕ := if isBar s then 1 else N
theorem amt_pos (s : Sm) : 0 < amt s := by
  unfold amt; split
  · exact Nat.one_pos
  · exact N_pos

/-- One round on every named cell. -/
def Rd : Rounds.Schedule (GSem nD τ sig) Duty 𝕄 where
  duties g r := if r = 0 ∧ g.1.2 = .tc then (which g.2).elim ∅ dut else ∅
  unitless _ := False
  amount g _ _ := (which g.2).elim 1 amt
  payload g _ d := (which g.2).elim iprop(emp) fun s => sPay v g.1.1 s d
  amount_pos g _ _ _ := by
    cases which g.2 with
    | none => exact Nat.one_pos
    | some s => exact amt_pos s

instance Rd_storable (g : GSem nD τ sig) (r : ℕ) (d : Duty) : BI.Storable (upEmb : UEmb _ 𝕄) ((Rd v).payload g r d) := by
  show BI.Storable upEmb ((which g.2).elim iprop(emp) fun s => sPay v g.1.1 s d)
  cases which g.2 with
  | none => show BI.Storable upEmb (iprop(emp) : sProp 𝕄); infer_instance
  | some s => exact sPay_storable v g.1.1 s d

theorem duties_cell (c : Dev nD) (s : Sm) : (Rd v).duties (cell c s) 0 = dut s := by
  show (if (0 : ℕ) = 0 ∧ (Proc.tc : Proc τ) = .tc then (which (loc s)).elim ∅ dut else ∅) = _
  rw [which_loc, if_pos ⟨rfl, rfl⟩]; rfl
theorem duties_later (g : GSem nD τ sig) : ∀ r, 1 ≤ r → (Rd v).duties g r = ∅ := fun r hr => if_neg fun h => by omega
theorem amount_cell (c : Dev nD) (s : Sm) (r : ℕ) (d : Duty) : (Rd v).amount (cell c s) r d = amt s := by
  show (which (loc s)).elim 1 amt = _
  rw [which_loc]; rfl
theorem payload_cell (c : Dev nD) (s : Sm) (r : ℕ) (d : Duty) : (Rd v).payload (cell c s) r d = sPay v c s d := by
  show (which (loc s)).elim iprop(emp) (fun s => sPay v c s d) = _
  rw [which_loc]; rfl
theorem expect_dma (c : Dev nD) (s : Sm) (h : isBar s = false) : (Rd v).expect (cell c s) 0 = N := by
  unfold Schedule.expect Schedule.amountOf
  rw [duties_cell, dut, h, if_neg Bool.false_ne_true, Finset.sum_singleton, amount_cell, amt, h, if_neg Bool.false_ne_true]
theorem expect_bar (c : Dev nD) (s : Sm) (h : isBar s = true) : (Rd v).expect (cell c s) 0 = 6 := by
  unfold Schedule.expect Schedule.amountOf
  rw [duties_cell, dut, h, if_pos rfl, Finset.sum_congr rfl fun d _ => (amount_cell v c s 0 d).trans (by rw [amt, h, if_pos rfl])]
  decide
theorem rest_dma (c : Dev nD) (s : Sm) (h : isBar s = false) :
    bigSep ((Rd v).duties (cell c s) 0 \ ∅) (fun d => (Rd v).payload (cell c s) 0 d) = sPay v c s d0 := by
  rw [Finset.sdiff_empty, duties_cell, dut, h, if_neg Bool.false_ne_true, bigSep_singleton, payload_cell]
theorem rest_bar (c : Dev nD) (s : Sm) (h : isBar s = true) :
    bigSep ((Rd v).duties (cell c s) 0 \ ∅) (fun d => (Rd v).payload (cell c s) 0 d) = bigSep Finset.univ fun d => sPay v c s d := by
  rw [Finset.sdiff_empty, duties_cell, dut, h, if_pos rfl]
  exact bigSep_congr fun d _ => payload_cell v c s 0 d

/-! ## Levels and debts -/

/-- A wait is allowed while all that is still to be paid has a higher level. -/
def lvl : Sm → ℕ
  | .inl () => 1
  | .inr (.inl ()) => 6
  | .inr (.inr (.inl (k, _))) => ![0, 3, 0, 4] k
  | .inr (.inr (.inr (k, _, _))) => ![0, 2, 0, 5] k

def L (g : GSem nD τ sig) : Finset Unit := if g.1.2 = .tc then {()} else ∅
def lv (g : GSem nD τ sig) (_ : Unit) : ℕ := (which g.2).elim 0 lvl

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (s : Sm) (u : Unit) : lv (cell c s) u = lvl s := by
  show (which (loc s)).elim 0 lvl = _
  rw [which_loc]; rfl

/-- What a device has still to pay to its partners, in the order of the program: the semaphore and the partner's mask. -/
abbrev Debt : Type := Sm × Fin 16
def owedK (c : Dev nD) : List Debt → CellTallies nD τ sig Unit
  | [] => 0
  | p :: l => owedK c l + tallyAt (cell (px c p.2) p.1) () (amt p.1)

theorem owedK_pos {c : Dev nD} {l : List Debt} {g : GSem nD τ sig} {u : Unit} (h : 0 < owedK c l g u) :
    ∃ p ∈ l, g = cell (px c p.2) p.1 := by
  induction l with
  | nil => exact absurd h (Nat.lt_irrefl 0)
  | cons p l ih =>
    unfold owedK at h
    rw [Pi.add_apply, Finsupp.add_apply] at h
    rcases Nat.add_pos_iff_pos_or_pos.mp h with h | h
    · obtain ⟨p', hp', e⟩ := ih h
      exact ⟨p', List.mem_cons_of_mem _ hp', e⟩
    · rw [tallyAt_apply] at h
      split at h
      · next hg => exact ⟨p, List.mem_cons_self, hg.1⟩
      · exact absurd h (Nat.lt_irrefl 0)

theorem mayWait (c : Dev nD) (s : Sm) (l : List Debt) (hl : ∀ p ∈ l, lvl s < lvl p.1) :
    (levAts L lv : sProp 𝕄) ⊢ MayWait (c : Thread nD τ) (loc s) () (owedK c l) :=
  MayOwe.of_cut (L := L) (lev := lv) (lvl s) (fun p hp => by rw [Finset.mem_singleton.mp hp, L_tc]; exact Finset.mem_singleton_self _)
    (fun g u hg => by
      obtain ⟨p, -, rfl⟩ := owedK_pos hg
      rw [L_tc]; exact Finset.mem_singleton_self _)
    (fun p hp => by rw [Finset.mem_singleton.mp hp, lv_cell])
    (fun g u hg => by
      obtain ⟨p, hp, rfl⟩ := owedK_pos hg
      rw [lv_cell]; exact hl p hp)

/-- The debts at the start. -/
def debtsBar (s : Sm) : List Debt := [(s, pm 0), (s, pm 1), (s, pm 2), (s, zm 0), (s, zm 1), (s, zm 2)]
def debtsRsp (t : Fin 3) : List Debt := [(rspR t 0, pm t), (rspR t 1, pm t), (rspR t 2, pm t), (rspR t 3, pm t)]
def debtsRsz : List Debt := [(rszR 0, zm 0), (rszR 1, zm 1), (rszR 2, zm 2)]
def debtsAgz : List Debt := [(agzR 0, zm 0), (agzR 1, zm 1), (agzR 2, zm 2)]
def debtsAgp (u : Fin 4) : List Debt := [(agpR 0 u, pm 0), (agpR 1 u, pm 1), (agpR 2 u, pm 2)]
/-- From the last sums on. -/
def debts3 : List Debt := debtsAgz ++ (debtsAgp 0 ++ (debtsAgp 1 ++ (debtsAgp 2 ++ (debtsAgp 3 ++ debtsBar ext))))
/-- From the sums in the plane on. -/
def debts2 : List Debt := debtsRsz ++ debts3
/-- After the entry barrier. -/
def debts1 : List Debt := debtsRsp 1 ++ (debtsRsp 2 ++ (debtsRsp 0 ++ debts2))
def debts : List Debt := debtsBar bar ++ debts1

/-- The debts of device `c`, with what it has waited for left open. -/
def Ow (c : Dev nD) (l : List Debt) : sProp 𝕄 := iprop(∃ W, owes (c : Thread nD τ) (owedK c l) W)

end Cert.Attn

end
-- ==== Proof.Steps.lean ====
/-
  One operation of the protocol at a time: a signal, a wait and each kind of copy, with what it takes and what it gives.
-/
module

public import proofs.«01_k».proof.Proof.Sched

@[expose] public section

noncomputable section

namespace Cert.Attn

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3)

variable {F : FTy → Type} [FloatOps F] [Named F]

local notation "𝕄" => MT nD τ sig Unit (Elt F) ℕ UU ℕ

theorem owedK_dma (c : Dev nD) (s : Sm) (m : Fin 16) (l : List Debt) (h : isBar s = false) :
    owedK c ((s, m) :: l) = owedK c l + tallyAt (cell (px c m) s) () N := by
  show owedK c l + tallyAt (cell (px c m) s) () (amt s) = _
  rw [amt, h]; rfl
theorem owedK_bar (c : Dev nD) (s : Sm) (m : Fin 16) (l : List Debt) (h : isBar s = true) :
    owedK c ((s, m) :: l) = owedK c l + tallyAt (cell (px c m) s) () 1 := by
  show owedK c l + tallyAt (cell (px c m) s) () (amt s) = _
  rw [amt, h]; rfl

attribute [local irreducible] loc px owedK isBar sPay

abbrev 𝒱₀ : Variants := Variants.none

variable (v : Vals F) (K : GSem nD τ sig → ℕ)

/-- Every cell's invariant, and the levels. -/
def env : sProp 𝕄 :=
  iprop((bigSep Finset.univ fun p : Dev nD × Sm => cellInv ER (Rd v) (K (cell p.1 p.2)) (cell p.1 p.2)) ∗ levAts L lv)
instance env_persistent : BI.Persistent (env v K) := by unfold env; infer_instance

theorem env_inv (c : Dev nD) (s : Sm) : env v K ⊢ cellInv ER (Rd v) (K (cell c s)) (cell c s) := by
  have h : (bigSep Finset.univ fun p : Dev nD × Sm => (cellInv ER (Rd v) (K (cell p.1 p.2)) (cell p.1 p.2) : sProp 𝕄))
      ⊢ cellInv ER (Rd v) (K (cell c s)) (cell c s) := bigSep_elim (Finset.mem_univ (c, s))
  unfold env
  iintro ⟨H, -⟩
  iapply h $$ H
theorem env_lev : env v K ⊢ levAts L lv := by
  unfold env
  iintro ⟨-, H⟩; iexact H

set_option maxRecDepth 20000 in
theorem env_mayWait (c : Dev nD) (s : Sm) (l : List Debt) (hl : ∀ p ∈ l, lvl s < lvl p.1) :
    env v K ⊢ MayWait (c : Thread nD τ) (loc s) () (owedK c l) :=
  BI.Entails.trans (env_lev v K) (mayWait (F := F) c s l hl)

theorem close (κ : ℕ) (g : GSem nD τ sig) :
    iprop(cellInv ER (Rd v) κ g ∗ atPos ER g (0 + 1) ∅ 0) ⊢ (|={Set.univ}=> semVal g 0 : sProp 𝕄) :=
  Rounds.cell_close ER (Rd v) (Set.mem_univ κ) id (duties_later v g)

/-- A signal to the partner whose duty `d` it pays. -/
theorem step_signal (c : Dev nD) (s : Sm) (hb : isBar s = true) {sem : Sem sig} (hs : SemLoc.reg sem = loc s) (d : Duty)
    {dst : Dev nD} (hd : dst = px c (mask d)) (l : List Debt) (Q : PUnit → sProp 𝕄) :
    iprop(env v K ∗ Ow c ((s, mask d) :: l) ∗ dutyTok ER (cell (px c (mask d)) s) 0 d ∗ sPay v (px c (mask d)) s d
        ∗ reached ER (cell (px c (mask d)) s) 0)
      ⊢ iprop((Ow c l -∗ Q ⟨⟩) -∗ wp frame (wpE (defs₀ (F := F)) 𝒱₀ c none) Set.univ (semSignalWord dst sem 1#32) Q) := by
  subst hd
  unfold semSignalWord
  rw [show (1#32 : BitVec 32).toInt = ((1 : ℕ) : ℤ) from rfl]
  iintro ⟨#He, HO, Ht, Hp, #Hr⟩ Hk
  unfold Ow
  rw [owedK_bar c s (mask d) l hb]
  icases HO with ⟨%W, HO⟩
  iapply (Rounds.wp_signal 𝒱₀ ER (Rd v) (c : Thread nD τ) none (dst := (px c (mask d) : Thread nD τ)) (sem := sem) (r := 0) (d := d)
      (κ := K (cell (px c (mask d)) s)) (k' := 1)
      (by rw [hs, duties_cell, dut, if_pos hb]; exact Finset.mem_univ _) (by rw [hs, amount_cell, amt, if_pos hb]) () (owedK c l)
      (by rw [hs])) $$ [HO Ht Hp]
  · rw [hs]
    isplitr; · iapply (env_inv v K (px c (mask d)) s); iexact He
    isplitl [HO]; · iexact HO
    isplitl [Ht]; · iexact Ht
    isplitl [Hp]; · rw [payload_cell]; iexact Hp
    iexact Hr
  iintro HO
  rw [wp_ret]
  imodintro
  iapply Hk
  iexists W; iexact HO

/-- A wait for all six partners. -/
theorem step_bar (c : Dev nD) (s : Sm) (hb : isBar s = true) {sem : Sem sig} (hs : SemLoc.reg sem = loc s)
    (l : List Debt) (hl : ∀ p ∈ l, lvl s < lvl p.1) (Q : PUnit → sProp 𝕄) :
    iprop(env v K ∗ cred (tallyAt (cell c s) () 6) ∗ Ow c l ∗ atPos ER (cell c s) 0 ∅ 0)
      ⊢ iprop((iprop(Ow c l ∗ semVal (cell c s) 0 ∗ bigSep Finset.univ fun d => sPay v c s d) -∗ Q ⟨⟩)
        -∗ wp frame (wpE (defs₀ (F := F)) 𝒱₀ c none) Set.univ (semWaitWord sem 6#32) Q) := by
  unfold semWaitWord
  rw [show (6#32 : BitVec 32).toInt = ((6 : ℕ) : ℤ) from rfl]
  iintro ⟨#He, Hc, HO, Ha⟩ Hk
  unfold Ow
  icases HO with ⟨%W, HO⟩
  ihave #HI := (env_inv v K c s) $$ He
  iapply (Rounds.wp_wait_rest_token 𝒱₀ ER (Rd v) (c : Thread nD τ) none (κ := K (cell c s))
      (wpE_semWait_eq 𝒱₀ (c : Thread nD τ) none Set.univ) (Set.mem_univ _) () (O := owedK c l) (W := W) (R := 0) (m := 0) (T := ∅)
      (by rw [hs, expect_bar v c s hb])) $$ [Hc HO Ha]
  · rw [hs]
    isplitr; · iexact HI
    isplitl [Hc]; · iexact Hc
    isplitl [HO]; · iexact HO
    isplitr; · iapply (env_mayWait v K c s l hl); iexact He
    iexact Ha
  rw [hs]
  iintro ⟨HO, Ha, -, Hpay⟩
  ihave Hp := (Entails.of_eq (rest_bar v c s hb)) $$ Hpay
  rw [wp_ret]
  imod (close v (K (cell c s)) (cell c s)) $$ [Ha] with Hv
  · isplitr; · iexact HI
    iexact Ha
  imodintro
  iapply Hk
  isplitl [HO]; · iexists _; iexact HO
  isplitl [Hv]; · iexact Hv
  iexact Hp

/-- A wait for a copy. -/
theorem step_wait (c : Dev nD) (s : Sm) (hb : isBar s = false) {sem : DmaSem sig} (hs : SemLoc.dma sem = loc s)
    {src dst : Memref sig .tc .vmem S64x1024 .bf16} (hN : dst.view.dmaCredit = N) {h : src.view.WordExact} {h' : dst.view.WordExact}
    (l : List Debt) (hl : ∀ p ∈ l, lvl s < lvl p.1) (Q : PUnit → sProp 𝕄) :
    iprop(env v K ∗ cred (tallyAt (cell c s) () N) ∗ Ow c l ∗ atPos ER (cell c s) 0 ∅ 0)
      ⊢ iprop((iprop(Ow c l ∗ semVal (cell c s) 0 ∗ sPay v c s d0) -∗ Q ⟨⟩)
        -∗ wp frame (wpE (defs₀ (F := F)) 𝒱₀ c none) Set.univ (Prog.lift (.waitDma2 sem src dst h h')) Q) := by
  unfold Prog.lift
  iintro ⟨#He, Hc, HO, Ha⟩ Hk
  unfold Ow
  icases HO with ⟨%W, HO⟩
  ihave #HI := (env_inv v K c s) $$ He
  iapply (Rounds.wp_wait_rest_token 𝒱₀ ER (Rd v) (c : Thread nD τ) none (κ := K (cell c s))
      (wpE_waitDma2_eq 𝒱₀ (c : Thread nD τ) none Set.univ) (Set.mem_univ _) () (O := owedK c l) (W := W) (R := 0) (m := 0) (T := ∅)
      (by rw [hs, expect_dma v c s hb, hN, Nat.zero_add])) $$ [Hc HO Ha]
  · rw [hs, hN]
    isplitr; · iexact HI
    isplitl [Hc]; · iexact Hc
    isplitl [HO]; · iexact HO
    isplitr; · iapply (env_mayWait v K c s l hl); iexact He
    iexact Ha
  rw [hs]
  iintro ⟨HO, Ha, -, Hpay⟩
  ihave Hp := (Entails.of_eq (rest_dma v c s hb)) $$ Hpay
  rw [wp_ret]
  imod (close v (K (cell c s)) (cell c s)) $$ [Ha] with Hv
  · isplitr; · iexact HI
    iexact Ha
  imodintro
  iapply Hk
  isplitl [HO]; · iexists _; iexact HO
  isplitl [Hv]; · iexact Hv
  iexact Hp

/-- What a device holds to make a copy on the semaphore `s`, paying `r` of the partner `m`. -/
def sendR (c : Dev nD) (s r : Sm) (m : Fin 16) : sProp 𝕄 :=
  iprop(dutyTok ER (cell c s) 0 d0 ∗ reached ER (cell c s) 0 ∗ dutyTok ER (cell (px c m) r) 0 d0)

/-- A copy whose source goes along to the partner. -/
theorem step_land (c : Dev nD) (s r : Sm) (m : Fin 16) (hs : isBar s = false) (hr : isBar r = false) {sS sR : DmaSem sig}
    (hS : SemLoc.dma sS = loc s) (hR : SemLoc.dma sR = loc r) {c' : Dev nD} (hc : c' = px c m)
    {src dst : Memref sig .tc .vmem S64x1024 .bf16} (hN : dst.view.dmaCredit = N) {hsc : dst.view.ref.isScScratch = false}
    {h : src.view.WordExact} {h' : dst.view.WordExact} {ht : DmaTarget.Typed (nD := nD) (τ := τ) (p := .tc) .vmem (.dma sR) (.remote (Dev.tc c') dst (.dma sS) hsc)}
    (fs : Buf (Elt F) (src.view.loc (c : Thread nD τ))) (fd : Buf (Elt F) (dst.view.loc (px c m : Thread nD τ)))
    (hp₁ : (emp : sProp 𝕄) ⊢ sPay v c s d0)
    (hp₂ : iprop((dst.view.loc (px c m : Thread nD τ) ↦[dst.view.set]{fullShare} (dst.view.write (Elt F) fd (src.view.read (Elt F) fs) Finset.univ))
              ∗ (src.view.loc (c : Thread nD τ) ↦[src.view.set]{fullShare} fs))
      ⊢ sPay v (px c m) r d0) (l : List Debt) (Q : PUnit → sProp 𝕄) :
    iprop(env v K ∗ Ow c ((r, m) :: l) ∗ sendR c s r m ∗ reached ER (cell (px c m) r) 0
        ∗ (src.view.loc (c : Thread nD τ) ↦[src.view.set]{fullShare} fs) ∗ (dst.view.loc (px c m : Thread nD τ) ↦[dst.view.set]{fullShare} fd))
      ⊢ iprop((iprop(Ow c l ∗ cred (tallyAt (cell c s) () N)) -∗ Q ⟨⟩)
        -∗ wp frame (wpE (defs₀ (F := F)) 𝒱₀ c none) Set.univ
            (Prog.lift (.enqueueDma src (.remote (Dev.tc c') dst (.dma sS) hsc) (.dma sR) h h' ht)) Q) := by
  subst hc
  unfold Prog.lift
  iintro ⟨#He, HO, Hsr, #Hrr, Hs, Hd⟩ Hk
  unfold Ow sendR
  rw [owedK_dma c r m l hr]
  icases HO with ⟨%W, HO⟩
  icases Hsr with ⟨Ht, #Hrs, Ht'⟩
  iapply (Rounds.wp_send_landing_pointsTo 𝒱₀ ER (Rd v) (c : Thread nD τ) none (c' := (px c m : Thread nD τ)) (src := src) (dst := dst)
      (sS := .dma sS) (sem := .dma sR) (q := fullShare) (fs := fs) (fd := fd) (κ₁ := K (cell c s)) (κ₂ := K (cell (px c m) r))
      (r₁ := 0) (r₂ := 0) (d₁ := d0) (d₂ := d0)
      (by rw [hS, duties_cell, dut, hs]; exact Finset.mem_singleton_self _) (by rw [hR, duties_cell, dut, hr]; exact Finset.mem_singleton_self _)
      () () N hN (by rw [hS, amount_cell, amt, hs]; rfl) (by rw [hR, amount_cell, amt, hr]; rfl) (owedK c l)
      (by rw [hR]) (W := W)
      (by rw [hS, payload_cell]; exact hp₁) (by rw [hR, payload_cell]; exact hp₂)) $$ [HO Ht Ht' Hs Hd]
  · rw [hS, hR]
    isplitr; · iapply (env_inv v K c s); iexact He
    isplitr; · iapply (env_inv v K (px c m) r); iexact He
    isplitl [Hs]; · iexact Hs
    isplitl [Hd]; · iexact Hd
    isplitl [HO]; · iexact HO
    isplitl [Ht]; · iexact Ht
    isplitr; · iexact Hrs
    isplitl [Ht']; · iexact Ht'
    iexact Hrr
  rw [hS]
  iintro ⟨Hc, HO⟩
  rw [wp_ret]
  imodintro
  iapply Hk
  isplitl [HO]; · iexists W; iexact HO
  iexact Hc

/-- A copy whose source comes back with the wait for it. -/
theorem step_send (c : Dev nD) (s r : Sm) (m : Fin 16) (hs : isBar s = false) (hr : isBar r = false) {sS sR : DmaSem sig}
    (hS : SemLoc.dma sS = loc s) (hR : SemLoc.dma sR = loc r) {c' : Dev nD} (hc : c' = px c m)
    {src dst : Memref sig .tc .vmem S64x1024 .bf16} (hN : dst.view.dmaCredit = N) {hsc : dst.view.ref.isScScratch = false}
    {h : src.view.WordExact} {h' : dst.view.WordExact} {ht : DmaTarget.Typed (nD := nD) (τ := τ) (p := .tc) .vmem (.dma sR) (.remote (Dev.tc c') dst (.dma sS) hsc)}
    (q : PosShare TreeShare)
    (fs : Buf (Elt F) (src.view.loc (c : Thread nD τ))) (fd : Buf (Elt F) (dst.view.loc (px c m : Thread nD τ)))
    (hp₁ : (src.view.loc (c : Thread nD τ) ↦[src.view.set]{q} fs) ⊢ sPay v c s d0)
    (hp₂ : (dst.view.loc (px c m : Thread nD τ) ↦[dst.view.set]{fullShare} (dst.view.write (Elt F) fd (src.view.read (Elt F) fs) Finset.univ))
      ⊢ sPay v (px c m) r d0) (l : List Debt) (Q : PUnit → sProp 𝕄) :
    iprop(env v K ∗ Ow c ((r, m) :: l) ∗ sendR c s r m ∗ reached ER (cell (px c m) r) 0
        ∗ (src.view.loc (c : Thread nD τ) ↦[src.view.set]{q} fs) ∗ (dst.view.loc (px c m : Thread nD τ) ↦[dst.view.set]{fullShare} fd))
      ⊢ iprop((iprop(Ow c l ∗ cred (tallyAt (cell c s) () N)) -∗ Q ⟨⟩)
        -∗ wp frame (wpE (defs₀ (F := F)) 𝒱₀ c none) Set.univ
            (Prog.lift (.enqueueDma src (.remote (Dev.tc c') dst (.dma sS) hsc) (.dma sR) h h' ht)) Q) := by
  subst hc
  unfold Prog.lift
  iintro ⟨#He, HO, Hsr, #Hrr, Hs, Hd⟩ Hk
  unfold Ow sendR
  rw [owedK_dma c r m l hr]
  icases HO with ⟨%W, HO⟩
  icases Hsr with ⟨Ht, #Hrs, Ht'⟩
  iapply (Rounds.wp_send_pointsTo 𝒱₀ ER (Rd v) (c : Thread nD τ) none (c' := (px c m : Thread nD τ)) (src := src) (dst := dst)
      (sS := .dma sS) (sem := .dma sR) (q := q) (fs := fs) (fd := fd) (κ₁ := K (cell c s)) (κ₂ := K (cell (px c m) r))
      (r₁ := 0) (r₂ := 0) (d₁ := d0) (d₂ := d0)
      (by rw [hS, duties_cell, dut, hs]; exact Finset.mem_singleton_self _) (by rw [hR, duties_cell, dut, hr]; exact Finset.mem_singleton_self _)
      () () N hN (by rw [hS, amount_cell, amt, hs]; rfl) (by rw [hR, amount_cell, amt, hr]; rfl) (owedK c l)
      (by rw [hR]) (W := W)
      (by rw [hS, payload_cell]; exact hp₁) (by rw [hR, payload_cell]; exact hp₂)) $$ [HO Ht Ht' Hs Hd]
  · rw [hS, hR]
    isplitr; · iapply (env_inv v K c s); iexact He
    isplitr; · iapply (env_inv v K (px c m) r); iexact He
    isplitl [Hs]; · iexact Hs
    isplitl [Hd]; · iexact Hd
    isplitl [HO]; · iexact HO
    isplitl [Ht]; · iexact Ht
    isplitr; · iexact Hrs
    isplitl [Ht']; · iexact Ht'
    iexact Hrr
  rw [hS]
  iintro ⟨Hc, HO⟩
  rw [wp_ret]
  imodintro
  iapply Hk
  isplitl [HO]; · iexists W; iexact HO
  iexact Hc

end Cert.Attn

end
-- ==== Proof.Ops.lean ====
/-
  The copies, loads and stores of the kernel's exchanges, each at the block or slot it moves.
-/
module

public import proofs.«01_k».proof.Proof.Steps

@[expose] public section

noncomputable section

namespace Cert.Attn

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3)

variable {F : FTy → Type} [FloatOps F] [Named F]

local notation "𝕄" => MT nD τ sig Unit (Elt F) ℕ UU ℕ

variable (v : Vals F) (K : GSem nD τ sig → ℕ)

/-- A block of the result's buffer at offsets read from the program, and a slot of a landing buffer. -/
abbrev outS (off : Fin 2 → Nat) (h : ∀ a, off a + S64x1024.size a ≤ S1024x1024.size a) : Memref sig .tc .vmem S64x1024 .bf16 :=
  outM.slice (Rect.unit (s := S1024x1024) off S64x1024.size h) (fun _ => rfl)
abbrev lpS (off : Fin 4 → Nat) (h : ∀ a, off a + S1x1x64x1024.size a ≤ S3x4x64x1024.size a) : Memref sig .tc .vmem S64x1024 .bf16 :=
  (lpM.slice (Rect.unit (s := S3x4x64x1024) off S1x1x64x1024.size h) (fun _ => rfl)).squeeze S64x1024 Facts₀.squeezes_S1x1x64x1024_S64x1024
abbrev lzS (off : Fin 3 → Nat) (h : ∀ a, off a + S1x64x1024.size a ≤ S3x64x1024.size a) : Memref sig .tc .vmem S64x1024 .bf16 :=
  (lzM.slice (Rect.unit (s := S3x64x1024) off S1x64x1024.size h) (fun _ => rfl)).squeeze S64x1024 Facts₀.squeezes_S1x64x1024_S64x1024

/-- A part of the own attention's output to the partner `t` in the plane, into its slot for the plane `uj j`. -/
theorem send_rsp (c : Dev nD) (t : Fin 3) (j : Fin 4) {off : Fin 2 → Nat} {hoff} (ho : off = blkOff (px (px c (pm t)) (zu (uj j))))
    {off' : Fin 4 → Nat} {hoff'} (ho' : off' = ![t.val, j.val, 0, 0]) {sS sR : DmaSem sig} (hS : SemLoc.dma sS = loc (rspS t j))
    (hR : SemLoc.dma sR = loc (rspR t j)) {c' : Dev nD} (hc : c' = px c (pm t)) {hsc} {h} {h'} {ht}
    (l : List Debt) (f : LpC F) (Q : PUnit → sProp 𝕄) :
    iprop(env v K ∗ Ow c ((rspR t j, pm t) :: l) ∗ sendR c (rspS t j) (rspR t j) (pm t) ∗ reached ER (cell (px c (pm t)) (rspR t j)) 0
        ∗ blk c (px (px c (pm t)) (zu (uj j))) fullShare (v.part c) ∗ lp (px c (pm t)) t j f)
      ⊢ iprop((iprop(Ow c l ∗ cred (tallyAt (cell c (rspS t j)) () N)) -∗ Q ⟨⟩)
        -∗ wp frame (wpE (defs₀ (F := F)) 𝒱₀ c none) Set.univ
            (Prog.lift (.enqueueDma (outS off hoff) (.remote (Dev.tc c') (lpS off' hoff') (.dma sS) hsc) (.dma sR) h h' ht)) Q) := by
  subst ho ho'
  have key := step_land v K c (rspS t j) (rspR t j) (pm t) rfl rfl hS hR hc (src := blkM (px (px c (pm t)) (zu (uj j)))) (dst := lpV t j)
    rfl (hsc := hsc) (h := h) (h' := h') (ht := ht) (v.part c) f (by show (emp : sProp 𝕄) ⊢ emp; exact .rfl)
    (by
      rw [lp_set, blk_set, pointsTo_congr (landp_written v.part c (px c (pm t)) t j _ (px_px c _) rfl f)]
      show _ ⊢ iprop(lp (px c (pm t)) t j (landp v.part (px c (pm t)))
        ∗ blk (px (px c (pm t)) (pm t)) (px (px c (pm t)) (zu (uj j))) fullShare (v.part (px (px c (pm t)) (pm t))))
      rw [px_px c (pm t)]) l Q
  rw [lp_set, blk_set] at key
  exact key

/-- A sum of the plane to the partner `t` across the planes. -/
theorem send_rsz (c : Dev nD) (t : Fin 3) {off : Fin 2 → Nat} {hoff} (ho : off = blkOff (px c (zm t)))
    {off' : Fin 3 → Nat} {hoff'} (ho' : off' = ![t.val, 0, 0]) {sS sR : DmaSem sig} (hS : SemLoc.dma sS = loc (rszS t))
    (hR : SemLoc.dma sR = loc (rszR t)) {c' : Dev nD} (hc : c' = px c (zm t)) {hsc} {h} {h'} {ht}
    (l : List Debt) (f : LzC F) (Q : PUnit → sProp 𝕄) :
    iprop(env v K ∗ Ow c ((rszR t, zm t) :: l) ∗ sendR c (rszS t) (rszR t) (zm t) ∗ reached ER (cell (px c (zm t)) (rszR t)) 0
        ∗ blk c (px c (zm t)) fullShare (v.acc c) ∗ lz (px c (zm t)) t f)
      ⊢ iprop((iprop(Ow c l ∗ cred (tallyAt (cell c (rszS t)) () N)) -∗ Q ⟨⟩)
        -∗ wp frame (wpE (defs₀ (F := F)) 𝒱₀ c none) Set.univ
            (Prog.lift (.enqueueDma (outS off hoff) (.remote (Dev.tc c') (lzS off' hoff') (.dma sS) hsc) (.dma sR) h h' ht)) Q) := by
  subst ho ho'
  have key := step_land v K c (rszS t) (rszR t) (zm t) rfl rfl hS hR hc (src := blkM (px c (zm t))) (dst := lzV t)
    rfl (hsc := hsc) (h := h) (h' := h') (ht := ht) (v.acc c) f (by show (emp : sProp 𝕄) ⊢ emp; exact .rfl)
    (by
      rw [lz_set, blk_set, pointsTo_congr (landz_written v.acc c (px c (zm t)) t (px_px c _) f)]
      show _ ⊢ iprop(lz (px c (zm t)) t (landz v.acc (px c (zm t)))
        ∗ blk (px (px c (zm t)) (zm t)) (px c (zm t)) fullShare (v.acc (px (px c (zm t)) (zm t))))
      rw [px_px c (zm t)]) l Q
  rw [lz_set, blk_set] at key
  exact key

/-- The own total to the partner `t` across the planes. -/
theorem send_agz (c : Dev nD) (t : Fin 3) {off : Fin 2 → Nat} {hoff} (ho : off = blkOff c)
    {sS sR : DmaSem sig} (hS : SemLoc.dma sS = loc (agzS t))
    (hR : SemLoc.dma sR = loc (agzR t)) {c' : Dev nD} (hc : c' = px c (zm t)) {hsc} {h} {h'} {ht}
    (l : List Debt) (f : OutC F) (Q : PUnit → sProp 𝕄) :
    iprop(env v K ∗ Ow c ((agzR t, zm t) :: l) ∗ sendR c (agzS t) (agzR t) (zm t) ∗ reached ER (cell (px c (zm t)) (agzR t)) 0
        ∗ blk c c (shares3 fullShare.left t) (final v.tot) ∗ blk (px c (zm t)) c fullShare f)
      ⊢ iprop((iprop(Ow c l ∗ cred (tallyAt (cell c (agzS t)) () N)) -∗ Q ⟨⟩)
        -∗ wp frame (wpE (defs₀ (F := F)) 𝒱₀ c none) Set.univ
            (Prog.lift (.enqueueDma (outS off hoff) (.remote (Dev.tc c') (outS off hoff) (.dma sS) hsc) (.dma sR) h h' ht)) Q) := by
  subst ho
  have key := step_send v K c (agzS t) (agzR t) (zm t) rfl rfl hS hR hc (src := blkM c) (dst := blkM c)
    rfl (hsc := hsc) (h := h) (h' := h') (ht := ht) (shares3 fullShare.left t) (final v.tot) f
    (by rw [blk_set]; exact .rfl)
    (by
      rw [blk_set, pointsTo_congr (blk_written (final v.tot) c f)]
      show _ ⊢ blk (px c (zm t)) (px (px c (zm t)) (zm t)) fullShare (final v.tot)
      rw [px_px c (zm t)]) l Q
  rw [blk_set] at key
  exact key

/-- A total of the plane `u` to the partner `t` in the plane. -/
theorem send_agp (c : Dev nD) (t : Fin 3) (u : Fin 4) {off : Fin 2 → Nat} {hoff} (ho : off = blkOff (px c (zu u)))
    {sS sR : DmaSem sig} (hS : SemLoc.dma sS = loc (agpS t u))
    (hR : SemLoc.dma sR = loc (agpR t u)) {c' : Dev nD} (hc : c' = px c (pm t)) {hsc} {h} {h'} {ht}
    (l : List Debt) (f : OutC F) (Q : PUnit → sProp 𝕄) :
    iprop(env v K ∗ Ow c ((agpR t u, pm t) :: l) ∗ sendR c (agpS t u) (agpR t u) (pm t) ∗ reached ER (cell (px c (pm t)) (agpR t u)) 0
        ∗ blk c (px c (zu u)) (qp u t) (final v.tot) ∗ blk (px c (pm t)) (px c (zu u)) fullShare f)
      ⊢ iprop((iprop(Ow c l ∗ cred (tallyAt (cell c (agpS t u)) () N)) -∗ Q ⟨⟩)
        -∗ wp frame (wpE (defs₀ (F := F)) 𝒱₀ c none) Set.univ
            (Prog.lift (.enqueueDma (outS off hoff) (.remote (Dev.tc c') (outS off hoff) (.dma sS) hsc) (.dma sR) h h' ht)) Q) := by
  subst ho
  have key := step_send v K c (agpS t u) (agpR t u) (pm t) rfl rfl hS hR hc (src := blkM (px c (zu u))) (dst := blkM (px c (zu u)))
    rfl (hsc := hsc) (h := h) (h' := h') (ht := ht) (qp u t) (final v.tot) f
    (by rw [blk_set]; exact .rfl)
    (by
      rw [blk_set, pointsTo_congr (blk_written (final v.tot) (px c (zu u)) f)]
      show _ ⊢ blk (px c (pm t)) (px (px (px c (pm t)) (pm t)) (zu u)) fullShare (final v.tot)
      rw [px_px c (pm t)]) l Q
  rw [blk_set] at key
  exact key

/-- A load of a block. -/
theorem load_out (c e : Dev nD) (q : PosShare TreeShare) (X : OutC F) {off : Fin 2 → Nat} {hoff} (ho : off = blkOff e) {hl}
    (Q : Vec F S64x1024 .bf16 → sProp 𝕄) :
    blk c e q X ⊢ iprop((blk c e q X -∗ Q fun x => X (blkIdx e (x 0) (x 1)))
      -∗ wp frame (wpE (defs₀ (F := F)) 𝒱₀ c none) Set.univ
          (Prog.lift (.load outM (Rect.unit (s := S1024x1024) off S64x1024.size hoff).toLoadRect hl)) Q) := by
  subst ho
  unfold Prog.lift
  iintro H Hk
  iapply (wp_load_rect 𝒱₀ (c : Thread nD τ) none Set.univ (m := outM) (r := blkRect e) (S := blkSet e) (f := X)
    (Finset.subset_of_eq (blk_set e))) $$ H
  iintro H
  rw [wp_ret]
  imodintro
  rw [show ((outM.access (blkRect e)).read (Elt F) X : Vec F S64x1024 .bf16) = (fun x : S64x1024.Idx => X (blkIdx e (x 0) (x 1)) : Vec F S64x1024 .bf16) from
    funext fun x => congrArg X (blk_emb e x)]
  iapply Hk; iexact H

/-- A load of a slot of the first landing buffer. -/
theorem load_lp (c : Dev nD) (t : Fin 3) (j : Fin 4) (X : LpC F) {off : Fin 4 → Nat} {hoff} (ho : off = ![t.val, j.val, 0, 0]) {hl}
    (Q : Vec F S1x1x64x1024 .bf16 → sProp 𝕄) :
    lp c t j X ⊢ iprop((lp c t j X -∗ Q fun x => X (ValueIdx.ix4 t j (x 2) (x 3)))
      -∗ wp frame (wpE (defs₀ (F := F)) 𝒱₀ c none) Set.univ
          (Prog.lift (.load lpM (Rect.unit (s := S3x4x64x1024) off S1x1x64x1024.size hoff).toLoadRect hl)) Q) := by
  subst ho
  unfold Prog.lift
  iintro H Hk
  iapply (wp_load_rect 𝒱₀ (c : Thread nD τ) none Set.univ (m := lpM) (r := lpRect t j) (S := lpSet t j) (f := X)
    (Finset.subset_of_eq ((View.set_reshape _ _).symm.trans (lp_set t j)))) $$ H
  iintro H
  rw [wp_ret]
  imodintro
  rw [show ((lpM.access (lpRect t j)).read (Elt F) X : Vec F S1x1x64x1024 .bf16) = (fun x : S1x1x64x1024.Idx => X (ValueIdx.ix4 t j (x 2) (x 3)) : Vec F S1x1x64x1024 .bf16) from
    funext fun x => congrArg X (by
      have h0 : (x 0).val < 1 := (x 0).isLt
      have h1 : (x 1).val < 1 := (x 1).isLt
      funext a
      fin_cases a
      · exact Fin.ext (show t.val + 1 * (x 0).val = t.val by omega)
      · exact Fin.ext (show j.val + 1 * (x 1).val = j.val by omega)
      · exact Fin.ext (show 0 + 1 * (x 2).val = (x 2).val by omega)
      · exact Fin.ext (show 0 + 1 * (x 3).val = (x 3).val by omega))]
  iapply Hk; iexact H

/-- A load of a slot of the second landing buffer. -/
theorem load_lz (c : Dev nD) (t : Fin 3) (X : LzC F) {off : Fin 3 → Nat} {hoff} (ho : off = ![t.val, 0, 0]) {hl}
    (Q : Vec F S1x64x1024 .bf16 → sProp 𝕄) :
    lz c t X ⊢ iprop((lz c t X -∗ Q fun x => X (ValueIdx.ix3 t (x 1) (x 2)))
      -∗ wp frame (wpE (defs₀ (F := F)) 𝒱₀ c none) Set.univ
          (Prog.lift (.load lzM (Rect.unit (s := S3x64x1024) off S1x64x1024.size hoff).toLoadRect hl)) Q) := by
  subst ho
  unfold Prog.lift
  iintro H Hk
  iapply (wp_load_rect 𝒱₀ (c : Thread nD τ) none Set.univ (m := lzM) (r := lzRect t) (S := lzSet t) (f := X)
    (Finset.subset_of_eq ((View.set_reshape _ _).symm.trans (lz_set t)))) $$ H
  iintro H
  rw [wp_ret]
  imodintro
  rw [show ((lzM.access (lzRect t)).read (Elt F) X : Vec F S1x64x1024 .bf16) = (fun x : S1x64x1024.Idx => X (ValueIdx.ix3 t (x 1) (x 2)) : Vec F S1x64x1024 .bf16) from
    funext fun x => congrArg X (by
      have h0 : (x 0).val < 1 := (x 0).isLt
      funext a
      fin_cases a
      · exact Fin.ext (show t.val + 1 * (x 0).val = t.val by omega)
      · exact Fin.ext (show 0 + 1 * (x 1).val = (x 1).val by omega)
      · exact Fin.ext (show 0 + 1 * (x 2).val = (x 2).val by omega))]
  iapply Hk; iexact H

/-- A store over a block. -/
theorem store_out (c e : Dev nD) (X Y : OutC F) {off : Fin 2 → Nat} {hoff} (ho : off = blkOff e) {w : Vec F S64x1024 .bf16} {hx hm}
    (hw : ∀ x : S64x1024.Idx, w x = Y (blkIdx e (x 0) (x 1))) (Q : PUnit → sProp 𝕄) :
    blk c e fullShare X ⊢ iprop((blk c e fullShare Y -∗ Q ⟨⟩)
      -∗ wp frame (wpE (defs₀ (F := F)) 𝒱₀ c none) Set.univ
          (Prog.lift (.store outM (Rect.unit (s := S1024x1024) off S64x1024.size hoff) w Finset.univ hx hm)) Q) := by
  subst ho
  unfold Prog.lift
  iintro H Hk
  iapply (wp_store 𝒱₀ (c : Thread nD τ) none Set.univ (m := outM) (r := blkRect e) (S := blkSet e) (f := X) (w := w) (Mk := Finset.univ)
    (Finset.subset_of_eq (blk_set e))) $$ H
  iintro H
  rw [wp_ret]
  imodintro
  iapply Hk
  have h := pointsTo_congr (nD := nD) (τ := τ) (sig := sig) (Val := Elt F) (Name := ℕ) (Ix := Unit) (U := UU) (Lvl := ℕ)
    (ℓ := outM.view.loc (c : Thread nD τ)) (q := fullShare) (blk_stored Y X e w hw)
  iapply (Entails.of_eq h) $$ H

end Cert.Attn

end
-- ==== Proof.Parts.lean ====
/-
  What the parts of the kernel take and give: bundles of what a copy and a wait need, and the operations of the protocol
  over these bundles.
-/
module

public import proofs.«01_k».proof.Proof.Ops

@[expose] public section

noncomputable section

namespace Cert.Attn

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3)

variable {F : FTy → Type} [FloatOps F] [Named F]

local notation "𝕄" => MT nD τ sig Unit (Elt F) ℕ UU ℕ

attribute [local irreducible] loc px owedK isBar sPay

/-- A part of the kernel at the buffers and semaphores it runs with. -/
abbrev atArgs {α : Sort*}
    (f : ∀ (arg0 : Memref sig .tc .vmem S1024x1024 .bf16) (_ : arg0.IsWhole) (arg1 : Memref sig .tc .vmem S1024x1024 .bf16) (_ : arg1.IsWhole)
      (arg2 : Memref sig .tc .vmem S1024x1024 .bf16) (_ : arg2.IsWhole) (arg3 : Memref sig .tc .vmem S1024x1024 .bf16) (_ : arg3.IsWhole)
      (arg4 : Memref sig .tc .vmem S1024x1024 .bf16) (_ : arg4.IsWhole) (arg5 : Memref sig .tc .vmem S512x64 .bf16) (_ : arg5.IsWhole)
      (arg6 : Memref sig .tc .vmem S512x64 .bf16) (_ : arg6.IsWhole) (arg7 : Memref sig .tc .vmem S1024x1024 .bf16) (_ : arg7.IsWhole)
      (arg8 : Memref sig .tc .vmem S1024x1024 .bf16) (_ : arg8.IsWhole) (arg9 : Memref sig .tc .vmem S1024x1024 .bf16) (_ : arg9.IsWhole)
      (arg10 : Memref sig .tc .vmem S3x4x64x1024 .bf16) (_ : arg10.IsWhole) (arg11 : Memref sig .tc .vmem S3x64x1024 .bf16) (_ : arg11.IsWhole)
      (_ : DmaSems sig S3x4) (_ : DmaSems sig S3x4) (_ : DmaSems sig S3) (_ : DmaSems sig S3) (_ : DmaSems sig S3) (_ : DmaSems sig S3)
      (_ : DmaSems sig S3x4) (_ : DmaSems sig S3x4) (_ : Sems sig S_), α) : α :=
  f (Memref.whole cc0_stg0_0) (Memref.isWhole_whole _) (Memref.whole cc0_stg1_0) (Memref.isWhole_whole _) (Memref.whole cc0_stg2_0)
    (Memref.isWhole_whole _) (Memref.whole cc0_stg3_0) (Memref.isWhole_whole _) (Memref.whole cc0_stg4_0) (Memref.isWhole_whole _)
    (Memref.whole cc0_stg5_0) (Memref.isWhole_whole _) (Memref.whole cc0_stg6_0) (Memref.isWhole_whole _) outM (Memref.isWhole_whole _)
    (Memref.whole cc0_scratch0) (Memref.isWhole_whole _) (Memref.whole cc0_scratch1) (Memref.isWhole_whole _) lpM (Memref.isWhole_whole _)
    lzM (Memref.isWhole_whole _) cc0_scratch4 cc0_scratch5 cc0_scratch6 cc0_scratch7 cc0_scratch8 cc0_scratch9 cc0_scratch10 cc0_scratch11 cc0_scoped0

/-- A part run on device `c`, to the postcondition `Q`. -/
abbrev run {α : Type} (c : Dev nD) (p : Prog (TpuEff nD τ sig (Elt F) Λ₀ .tc) α) (Q : α → sProp 𝕄) : sProp 𝕄 :=
  wp frame (wpE (defs₀ (F := F)) 𝒱₀ c none) Set.univ p Q

variable (v : Vals F) (K : GSem nD τ sig → ℕ)

/-- What a wait needs, and what it leaves. -/
def todo (c : Dev nD) (s : Sm) : sProp 𝕄 := iprop(cred (tallyAt (cell c s) () N) ∗ atPos ER (cell c s) 0 ∅ 0)
def got (c : Dev nD) (s : Sm) : sProp 𝕄 := iprop(semVal (cell c s) 0 ∗ sPay v c s d0)
/-- Before a copy starts: the position of its semaphore here. -/
def idle (c : Dev nD) (s : Sm) : sProp 𝕄 := atPos ER (cell c s) 0 ∅ 0

/-- That the partners' receiving cells are open. -/
def peers (c : Dev nD) : sProp 𝕄 :=
  iprop((bigSep Finset.univ fun t : Fin 3 => iprop((bigSep Finset.univ fun j : Fin 4 => reached ER (cell (px c (pm t)) (rspR t j)) 0)
      ∗ (bigSep Finset.univ fun u : Fin 4 => reached ER (cell (px c (pm t)) (agpR t u)) 0)))
    ∗ (bigSep Finset.univ fun t : Fin 3 => iprop(reached ER (cell (px c (zm t)) (rszR t)) 0 ∗ reached ER (cell (px c (zm t)) (agzR t)) 0))
    ∗ (bigSep Finset.univ fun d : Duty => reached ER (cell (px c (mask d)) ext) 0))
instance peers_persistent (c : Dev nD) : BI.Persistent (peers (F := F) c) := by unfold peers; infer_instance

theorem peers_p (c : Dev nD) (t : Fin 3) : peers (F := F) c ⊢ iprop((bigSep Finset.univ fun j : Fin 4 => reached ER (cell (px c (pm t)) (rspR t j)) 0)
      ∗ (bigSep Finset.univ fun u : Fin 4 => reached ER (cell (px c (pm t)) (agpR t u)) 0)) := by
  have h : (bigSep Finset.univ fun t : Fin 3 => iprop((bigSep Finset.univ fun j : Fin 4 => reached ER (cell (px c (pm t)) (rspR t j)) 0)
      ∗ (bigSep Finset.univ fun u : Fin 4 => reached ER (cell (px c (pm t)) (agpR t u)) 0)) : sProp 𝕄) ⊢ _ := bigSep_elim (Finset.mem_univ t)
  unfold peers
  iintro ⟨H, -, -⟩
  iapply h $$ H
theorem peers_rspR (c : Dev nD) (t : Fin 3) (j : Fin 4) : peers (F := F) c ⊢ reached ER (cell (px c (pm t)) (rspR t j)) 0 := by
  have h : (bigSep Finset.univ fun j : Fin 4 => reached ER (cell (px c (pm t)) (rspR t j)) 0 : sProp 𝕄) ⊢ _ := bigSep_elim (Finset.mem_univ j)
  iintro H
  ihave H := (peers_p (F := F) c t) $$ H
  icases H with ⟨H, -⟩
  iapply h $$ H
theorem peers_agpR (c : Dev nD) (t : Fin 3) (j : Fin 4) : peers (F := F) c ⊢ reached ER (cell (px c (pm t)) (agpR t j)) 0 := by
  have h : (bigSep Finset.univ fun j : Fin 4 => reached ER (cell (px c (pm t)) (agpR t j)) 0 : sProp 𝕄) ⊢ _ := bigSep_elim (Finset.mem_univ j)
  iintro H
  ihave H := (peers_p (F := F) c t) $$ H
  icases H with ⟨-, H⟩
  iapply h $$ H
theorem peers_z (c : Dev nD) (t : Fin 3) : peers (F := F) c ⊢ iprop(reached ER (cell (px c (zm t)) (rszR t)) 0 ∗ reached ER (cell (px c (zm t)) (agzR t)) 0) := by
  have h : (bigSep Finset.univ fun t : Fin 3 => iprop(reached ER (cell (px c (zm t)) (rszR t)) 0 ∗ reached ER (cell (px c (zm t)) (agzR t)) 0) : sProp 𝕄) ⊢ _ :=
    bigSep_elim (Finset.mem_univ t)
  unfold peers
  iintro ⟨-, H, -⟩
  iapply h $$ H
theorem peers_ext (c : Dev nD) (d : Duty) : peers (F := F) c ⊢ reached ER (cell (px c (mask d)) ext) 0 := by
  have h : (bigSep Finset.univ fun d : Duty => reached ER (cell (px c (mask d)) ext) 0 : sProp 𝕄) ⊢ _ := bigSep_elim (Finset.mem_univ d)
  unfold peers
  iintro ⟨-, -, H⟩
  iapply h $$ H

/-- The invariants, the levels and the open cells of the partners of device `c`. -/
def envp (c : Dev nD) : sProp 𝕄 := iprop(env v K ∗ peers c)
instance envp_persistent (c : Dev nD) : BI.Persistent (envp v K c) := by unfold envp; infer_instance

/-- What a copy of each kind needs. -/
def inRsp (c : Dev nD) (t : Fin 3) (j : Fin 4) : sProp 𝕄 :=
  iprop(sendR c (rspS t j) (rspR t j) (pm t) ∗ idle c (rspS t j) ∗ blk c (px (px c (pm t)) (zu (uj j))) fullShare (v.part c) ∗ ∃ f, lp (px c (pm t)) t j f)
def inRsz (c : Dev nD) (t : Fin 3) : sProp 𝕄 :=
  iprop(sendR c (rszS t) (rszR t) (zm t) ∗ idle c (rszS t) ∗ ∃ f, lz (px c (zm t)) t f)
def inAgz (c : Dev nD) (t : Fin 3) : sProp 𝕄 :=
  iprop(sendR c (agzS t) (agzR t) (zm t) ∗ idle c (agzS t) ∗ ∃ f, blk (px c (zm t)) c fullShare f)
def inAgp (c : Dev nD) (t : Fin 3) (u : Fin 4) : sProp 𝕄 :=
  iprop(sendR c (agpS t u) (agpR t u) (pm t) ∗ idle c (agpS t u) ∗ ∃ f, blk (px c (pm t)) (px c (zu u)) fullShare f)

theorem go_rsp (c : Dev nD) (t : Fin 3) (j : Fin 4) {off : Fin 2 → Nat} {hoff} (ho : off = blkOff (px (px c (pm t)) (zu (uj j))))
    {off' : Fin 4 → Nat} {hoff'} (ho' : off' = ![t.val, j.val, 0, 0]) {sS sR : DmaSem sig} (hS : SemLoc.dma sS = loc (rspS t j))
    (hR : SemLoc.dma sR = loc (rspR t j)) {c' : Dev nD} (hc : c' = px c (pm t)) {hsc} {h} {h'} {ht}
    (l : List Debt) (Q : PUnit → sProp 𝕄) :
    envp v K c ⊢ iprop(Ow c ((rspR t j, pm t) :: l) -∗ inRsp v c t j -∗ (Ow c l -∗ todo c (rspS t j) -∗ Q ⟨⟩) -∗
      run c (Prog.lift (.enqueueDma (outS off hoff) (.remote (Dev.tc c') (lpS off' hoff') (.dma sS) hsc) (.dma sR) h h' ht)) Q) := by
  unfold envp inRsp todo idle
  iintro ⟨#He, #Hp⟩ HO ⟨Hs, Ha, Hb, %f, Hl⟩ Hk
  iapply (send_rsp v K c t j ho ho' hS hR hc l f Q) $$ [HO Hs Hb Hl]
  · isplitr; · iexact He
    isplitl [HO]; · iexact HO
    isplitl [Hs]; · iexact Hs
    isplitr; · iapply (peers_rspR c t j); iexact Hp
    isplitl [Hb]; · iexact Hb
    iexact Hl
  iintro ⟨HO, Hc⟩
  iapply Hk $$ HO
  isplitl [Hc]; · iexact Hc
  iexact Ha

theorem go_rsz (c : Dev nD) (t : Fin 3) {off : Fin 2 → Nat} {hoff} (ho : off = blkOff (px c (zm t)))
    {off' : Fin 3 → Nat} {hoff'} (ho' : off' = ![t.val, 0, 0]) {sS sR : DmaSem sig} (hS : SemLoc.dma sS = loc (rszS t))
    (hR : SemLoc.dma sR = loc (rszR t)) {c' : Dev nD} (hc : c' = px c (zm t)) {hsc} {h} {h'} {ht}
    (l : List Debt) (Q : PUnit → sProp 𝕄) :
    envp v K c ⊢ iprop(Ow c ((rszR t, zm t) :: l) -∗ inRsz c t -∗ blk c (px c (zm t)) fullShare (v.acc c)
      -∗ (Ow c l -∗ todo c (rszS t) -∗ Q ⟨⟩) -∗
      run c (Prog.lift (.enqueueDma (outS off hoff) (.remote (Dev.tc c') (lzS off' hoff') (.dma sS) hsc) (.dma sR) h h' ht)) Q) := by
  unfold envp inRsz todo idle
  iintro ⟨#He, #Hp⟩ HO ⟨Hs, Ha, %f, Hl⟩ Hb Hk
  iapply (send_rsz v K c t ho ho' hS hR hc l f Q) $$ [HO Hs Hb Hl]
  · isplitr; · iexact He
    isplitl [HO]; · iexact HO
    isplitl [Hs]; · iexact Hs
    isplitr
    · ihave H := (peers_z (F := F) c t) $$ Hp
      icases H with ⟨H, -⟩
      iexact H
    isplitl [Hb]; · iexact Hb
    iexact Hl
  iintro ⟨HO, Hc⟩
  iapply Hk $$ HO
  isplitl [Hc]; · iexact Hc
  iexact Ha

theorem go_agz (c : Dev nD) (t : Fin 3) {off : Fin 2 → Nat} {hoff} (ho : off = blkOff c)
    {sS sR : DmaSem sig} (hS : SemLoc.dma sS = loc (agzS t))
    (hR : SemLoc.dma sR = loc (agzR t)) {c' : Dev nD} (hc : c' = px c (zm t)) {hsc} {h} {h'} {ht}
    (l : List Debt) (Q : PUnit → sProp 𝕄) :
    envp v K c ⊢ iprop(Ow c ((agzR t, zm t) :: l) -∗ inAgz c t -∗ blk c c (shares3 fullShare.left t) (final v.tot)
      -∗ (Ow c l -∗ todo c (agzS t) -∗ Q ⟨⟩) -∗
      run c (Prog.lift (.enqueueDma (outS off hoff) (.remote (Dev.tc c') (outS off hoff) (.dma sS) hsc) (.dma sR) h h' ht)) Q) := by
  unfold envp inAgz todo idle
  iintro ⟨#He, #Hp⟩ HO ⟨Hs, Ha, %f, Hl⟩ Hb Hk
  iapply (send_agz v K c t ho hS hR hc l f Q) $$ [HO Hs Hb Hl]
  · isplitr; · iexact He
    isplitl [HO]; · iexact HO
    isplitl [Hs]; · iexact Hs
    isplitr
    · ihave H := (peers_z (F := F) c t) $$ Hp
      icases H with ⟨-, H⟩
      iexact H
    isplitl [Hb]; · iexact Hb
    iexact Hl
  iintro ⟨HO, Hc⟩
  iapply Hk $$ HO
  isplitl [Hc]; · iexact Hc
  iexact Ha

theorem go_agp (c : Dev nD) (t : Fin 3) (u : Fin 4) {off : Fin 2 → Nat} {hoff} (ho : off = blkOff (px c (zu u)))
    {sS sR : DmaSem sig} (hS : SemLoc.dma sS = loc (agpS t u))
    (hR : SemLoc.dma sR = loc (agpR t u)) {c' : Dev nD} (hc : c' = px c (pm t)) {hsc} {h} {h'} {ht}
    (l : List Debt) (Q : PUnit → sProp 𝕄) :
    envp v K c ⊢ iprop(Ow c ((agpR t u, pm t) :: l) -∗ inAgp c t u -∗ blk c (px c (zu u)) (qp u t) (final v.tot)
      -∗ (Ow c l -∗ todo c (agpS t u) -∗ Q ⟨⟩) -∗
      run c (Prog.lift (.enqueueDma (outS off hoff) (.remote (Dev.tc c') (outS off hoff) (.dma sS) hsc) (.dma sR) h h' ht)) Q) := by
  unfold envp inAgp todo idle
  iintro ⟨#He, #Hp⟩ HO ⟨Hs, Ha, %f, Hl⟩ Hb Hk
  iapply (send_agp v K c t u ho hS hR hc l f Q) $$ [HO Hs Hb Hl]
  · isplitr; · iexact He
    isplitl [HO]; · iexact HO
    isplitl [Hs]; · iexact Hs
    isplitr; · iapply (peers_agpR c t u); iexact Hp
    isplitl [Hb]; · iexact Hb
    iexact Hl
  iintro ⟨HO, Hc⟩
  iapply Hk $$ HO
  isplitl [Hc]; · iexact Hc
  iexact Ha

/-- A wait for a copy. -/
theorem await (c : Dev nD) (s : Sm) (hb : isBar s = false) {sem : DmaSem sig} (hs : SemLoc.dma sem = loc s)
    {src dst : Memref sig .tc .vmem S64x1024 .bf16} (hN : dst.view.dmaCredit = N) {h : src.view.WordExact} {h' : dst.view.WordExact}
    (l : List Debt) (hl : ∀ p ∈ l, lvl s < lvl p.1) (Q : PUnit → sProp 𝕄) :
    envp v K c ⊢ iprop(Ow c l -∗ todo c s -∗ (Ow c l -∗ got v c s -∗ Q ⟨⟩) -∗ run c (Prog.lift (.waitDma2 sem src dst h h')) Q) := by
  unfold envp todo got
  iintro ⟨#He, -⟩ HO ⟨Hc, Ha⟩ Hk
  iapply (step_wait v K c s hb hs hN l hl Q) $$ [HO Hc Ha]
  · isplitr; · iexact He
    isplitl [Hc]; · iexact Hc
    isplitl [HO]; · iexact HO
    iexact Ha
  iintro ⟨HO, Hv, Hp⟩
  iapply Hk $$ HO
  isplitl [Hv]; · iexact Hv
  iexact Hp

end Cert.Attn

end
-- ==== Proof.Reduce.lean ====
/-
  The sends and waits of the first phase and its sums.
-/
module

public import proofs.«01_k».proof.Proof.Parts
public import proofs.«01_k».proof.Proof.Gen.KernelIdeal.Skeleton

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3)

variable {F : FTy → Type} [FloatOps F] [Named F]

local notation "𝕄" => MT nD τ sig Unit (Elt F) ℕ UU ℕ

attribute [local irreducible] loc px owedK isBar sPay

variable (v : Vals F) (K : GSem nD τ sig → ℕ)

theorem run_pure {α : Type} (c : Dev nD) (a : α) (Q : α → sProp 𝕄) : Q a ⊢ run c (pure a : Prog (TpuEff nD τ sig (Elt F) Λ₀ .tc) α) Q := by
  show _ ⊢ run c (Prog.ret a : Prog (TpuEff nD τ sig (Elt F) Λ₀ .tc) α) Q
  rw [run, wp_ret]
  iintro H
  imodintro
  iexact H

theorem low {k : ℕ} {l : List Debt} (hl : ∀ p ∈ l, k < lvl p.1) : ∀ p ∈ l, 0 < lvl p.1 :=
  fun p hp => Nat.lt_of_le_of_lt (Nat.zero_le k) (hl p hp)
theorem low_cons {p : Debt} {l : List Debt} (hp : 0 < lvl p.1) (hl : ∀ p ∈ l, 0 < lvl p.1) : ∀ p' ∈ p :: l, 0 < lvl p'.1 :=
  List.forall_mem_cons.2 ⟨hp, hl⟩

theorem wait_o (c : Dev nD) (s : Sm) (hb : isBar s = false) {sem : DmaSem sig} (hs : SemLoc.dma sem = loc s)
    {src : Memref sig .tc .vmem S64x1024 .bf16} {off h₀} {h : src.view.WordExact} {h' : (outS off h₀).view.WordExact}
    (l : List Debt) (hl : ∀ p ∈ l, lvl s < lvl p.1) (Q : PUnit → sProp 𝕄) :
    envp v K c ⊢ iprop(Ow c l -∗ todo c s -∗ (Ow c l -∗ got v c s -∗ Q ⟨⟩) -∗ run c (Prog.lift (.waitDma2 sem src (outS off h₀) h h')) Q) :=
  await v K c s hb hs (src := src) (dst := outS off h₀) (by rfl) l hl Q
theorem wait_p (c : Dev nD) (s : Sm) (hb : isBar s = false) {sem : DmaSem sig} (hs : SemLoc.dma sem = loc s)
    {src : Memref sig .tc .vmem S64x1024 .bf16} {off h₀} {h : src.view.WordExact} {h' : (lpS off h₀).view.WordExact}
    (l : List Debt) (hl : ∀ p ∈ l, lvl s < lvl p.1) (Q : PUnit → sProp 𝕄) :
    envp v K c ⊢ iprop(Ow c l -∗ todo c s -∗ (Ow c l -∗ got v c s -∗ Q ⟨⟩) -∗ run c (Prog.lift (.waitDma2 sem src (lpS off h₀) h h')) Q) :=
  await v K c s hb hs (src := src) (dst := lpS off h₀) (by rfl) l hl Q
theorem wait_z (c : Dev nD) (s : Sm) (hb : isBar s = false) {sem : DmaSem sig} (hs : SemLoc.dma sem = loc s)
    {src : Memref sig .tc .vmem S64x1024 .bf16} {off h₀} {h : src.view.WordExact} {h' : (lzS off h₀).view.WordExact}
    (l : List Debt) (hl : ∀ p ∈ l, lvl s < lvl p.1) (Q : PUnit → sProp 𝕄) :
    envp v K c ⊢ iprop(Ow c l -∗ todo c s -∗ (Ow c l -∗ got v c s -∗ Q ⟨⟩) -∗ run c (Prog.lift (.waitDma2 sem src (lzS off h₀) h h')) Q) :=
  await v K c s hb hs (src := src) (dst := lzS off h₀) (by rfl) l hl Q

theorem lv_rspR (t : Fin 3) (j : Fin 4) {l : List Debt} (hl : ∀ p ∈ l, 2 < lvl p.1) : ∀ p ∈ l, lvl (rspR t j) < lvl p.1 := hl
theorem lv_rszR (t : Fin 3) {l : List Debt} (hl : ∀ p ∈ l, 3 < lvl p.1) : ∀ p ∈ l, lvl (rszR t) < lvl p.1 := hl
theorem lv_agzR (t : Fin 3) {l : List Debt} (hl : ∀ p ∈ l, 4 < lvl p.1) : ∀ p ∈ l, lvl (agzR t) < lvl p.1 := hl
theorem lv_agpR (t : Fin 3) (j : Fin 4) {l : List Debt} (hl : ∀ p ∈ l, 5 < lvl p.1) : ∀ p ∈ l, lvl (agpR t j) < lvl p.1 := hl

theorem off23_own (c : Dev nD) : k0_off23 c = blkOff (px c (zu 0)) := (off23_eq c).trans (congrArg blkOff (px_zero c).symm)

/-! ## The sums -/

/-- The contents after the sums are sums. -/
structure Sums (v : Vals F) : Prop where
  acc : ∀ c i, v.acc c i = FloatOps.addf (FloatOps.addf (FloatOps.addf (v.part c i) (v.part (px c (pm 0)) i)) (v.part (px c (pm 1)) i)) (v.part (px c (pm 2)) i)
  tot : ∀ c i, v.tot c i = FloatOps.addf (FloatOps.addf (FloatOps.addf (v.acc c i) (v.acc (px c (zm 0)) i)) (v.acc (px c (zm 1)) i)) (v.acc (px c (zm 2)) i)

/-- What a load of a block reads, and of a slot of either landing buffer. -/
abbrev rdO (X : OutC F) (e : Dev nD) : Vec F S64x1024 .bf16 := fun x => X (blkIdx e (x 0) (x 1))
abbrev rdP (X : LpC F) (t : Fin 3) (j : Fin 4) : Vec F S1x1x64x1024 .bf16 := fun x => X (ValueIdx.ix4 t j (x 2) (x 3))
abbrev rdZ (X : LzC F) (t : Fin 3) : Vec F S1x64x1024 .bf16 := fun x => X (ValueIdx.ix3 t (x 1) (x 2))

theorem cast_rdP (X : LpC F) (t : Fin 3) (j : Fin 4) (h) (x : S64x1024.Idx) :
    shapeCast S64x1024 (rdP X t j) h x = X (ValueIdx.ix4 t j (x 0) (x 1)) := by
  show rdP X t j (Shape.reshapeEquiv h x) = _
  rw [show Shape.reshapeEquiv h x = ValueIdx.ix4 0 0 (x 0) (x 1) from
    (congrArg _ (ValueIdx.eq_ix2 x)).trans (ValueIdx.reshapeEquiv_ix2_11ab _ (x 0) (x 1))]
theorem cast_rdZ (X : LzC F) (t : Fin 3) (h) (x : S64x1024.Idx) :
    shapeCast S64x1024 (rdZ X t) h x = X (ValueIdx.ix3 t (x 0) (x 1)) := by
  show rdZ X t (Shape.reshapeEquiv h x) = _
  rw [show Shape.reshapeEquiv h x = ValueIdx.ix3 0 (x 0) (x 1) from
    (congrArg _ (ValueIdx.eq_ix2 x)).trans (ValueIdx.reshapeEquiv_ix2_1ab _ (x 0) (x 1))]

variable {v} in
theorem sum_plane (hv : Sums v) (c : Dev nD) (j : Fin 4) (x : S64x1024.Idx) :
    k0_pay75 (rdO (v.part c) (px c (zu (uj j)))) (rdP (landp v.part c) 0 j) (rdP (landp v.part c) 1 j) (rdP (landp v.part c) 2 j) x
      = v.acc c (blkIdx (px c (zu (uj j))) (x 0) (x 1)) := by
  rw [hv.acc]
  show FloatOps.addf (FloatOps.addf (FloatOps.addf (shapeCast S64x1024 _ _ x) (shapeCast S64x1024 _ _ x)) (shapeCast S64x1024 _ _ x)) (shapeCast S64x1024 _ _ x) = _
  rw [cast_rdP, cast_rdP, cast_rdP, shapeCast_self]
  rfl
variable {v} in
theorem sum_across (hv : Sums v) (c : Dev nD) (x : S64x1024.Idx) :
    k0_pay77 (rdO (v.acc c) c) (rdZ (landz v.acc c) 0) (rdZ (landz v.acc c) 1) (rdZ (landz v.acc c) 2) x = final v.tot (blkIdx c (x 0) (x 1)) := by
  show _ = v.tot (owner (blkIdx c (x 0) (x 1) 0).val) (blkIdx c (x 0) (x 1))
  rw [show owner (blkIdx c (x 0 : Fin 64) (x 1 : Fin 1024) 0).val = c from owner_blkIdx c (x 0) (x 1), hv.tot]
  show FloatOps.addf (FloatOps.addf (FloatOps.addf (shapeCast S64x1024 _ _ x) (shapeCast S64x1024 _ _ x)) (shapeCast S64x1024 _ _ x)) (shapeCast S64x1024 _ _ x) = _
  rw [cast_rdZ, cast_rdZ, cast_rdZ, shapeCast_self]
  rfl

theorem blk_zu (c : Dev nD) {a b : Dev nD} (h : a = b) : blk c (px c a) fullShare (v.acc c) ⊢ blk c (px c b) fullShare (v.acc c) := by
  subst h; exact .rfl

/-! ## The parts -/

theorem part12 (c : Dev nD) (w0 w1 w2 : BitVec 32) (l : List Debt) (Q : PUnit → sProp 𝕄) :
    envp v K c ⊢ iprop(Ow c ((rspR 1 0, pm 1) :: (rspR 1 1, pm 1) :: l) -∗ inRsp v c 1 0 -∗ inRsp v c 1 1
      -∗ (Ow c l -∗ todo c (rspS 1 0) -∗ todo c (rspS 1 1) -∗ Q ⟨⟩) -∗ run c (atArgs (k0_part12 (F := F)) c w0 w1 w2) Q) := by
  simp only [k0_part12_eq_skeleton, k0_part12_skel, wp_bind]
  iintro #He HO h0 h1 Hk
  iapply (go_rsp v K c 1 0 (off10_eq c 1 1) rfl (by unfold loc; rfl) (by unfold loc; rfl)
    (show (⟨k0_dev7 c, k0_dev7_lt c⟩ : Dev nD) = px c (pm 1) by revert c; decide +kernel) _ _) $$ He HO h0
  iintro HO s0
  iapply (go_rsp v K c 1 1 (off10_eq c 1 2) rfl (by unfold loc; rfl) (by unfold loc; rfl)
    (show (⟨k0_dev8 c, k0_dev8_lt c⟩ : Dev nD) = px c (pm 1) by revert c; decide +kernel) _ _) $$ He HO h1
  iintro HO s1
  iapply run_pure
  iapply Hk $$ HO s0 s1

theorem part13 (c : Dev nD) (w0 w1 w2 w3 : BitVec 32) (l : List Debt) (Q : PUnit → sProp 𝕄) :
    envp v K c ⊢ iprop(Ow c ((rspR 1 2, pm 1) :: (rspR 1 3, pm 1) :: l) -∗ inRsp v c 1 2 -∗ inRsp v c 1 3
      -∗ (Ow c l -∗ todo c (rspS 1 2) -∗ todo c (rspS 1 3) -∗ Q ⟨⟩) -∗ run c (atArgs (k0_part13 (F := F)) c w0 w1 w2 w3) Q) := by
  simp only [k0_part13_eq_skeleton, k0_part13_skel, wp_bind]
  iintro #He HO h0 h1 Hk
  iapply (go_rsp v K c 1 2 (off10_eq c 1 3) rfl (by unfold loc; rfl) (by unfold loc; rfl)
    (show (⟨k0_dev9 c, k0_dev9_lt c⟩ : Dev nD) = px c (pm 1) by revert c; decide +kernel) _ _) $$ He HO h0
  iintro HO s0
  iapply (go_rsp v K c 1 3 (off10_eq c 1 0) rfl (by unfold loc; rfl) (by unfold loc; rfl)
    (show (⟨k0_dev10 c, k0_dev10_lt c⟩ : Dev nD) = px c (pm 1) by revert c; decide +kernel) _ _) $$ He HO h1
  iintro HO s1
  iapply run_pure
  iapply Hk $$ HO s0 s1

theorem part14 (c : Dev nD) (w0 w1 w2 : BitVec 32) (l : List Debt) (Q : PUnit → sProp 𝕄) :
    envp v K c ⊢ iprop(Ow c ((rspR 2 0, pm 2) :: (rspR 2 1, pm 2) :: l) -∗ inRsp v c 2 0 -∗ inRsp v c 2 1
      -∗ (Ow c l -∗ todo c (rspS 2 0) -∗ todo c (rspS 2 1) -∗ Q ⟨⟩) -∗ run c (atArgs (k0_part14 (F := F)) c w0 w1 w2) Q) := by
  simp only [k0_part14_eq_skeleton, k0_part14_skel, wp_bind]
  iintro #He HO h0 h1 Hk
  iapply (go_rsp v K c 2 0 (off10_eq c 2 1) rfl (by unfold loc; rfl) (by unfold loc; rfl)
    (show (⟨k0_dev11 c, k0_dev11_lt c⟩ : Dev nD) = px c (pm 2) by revert c; decide +kernel) _ _) $$ He HO h0
  iintro HO s0
  iapply (go_rsp v K c 2 1 (off10_eq c 2 2) rfl (by unfold loc; rfl) (by unfold loc; rfl)
    (show (⟨k0_dev12 c, k0_dev12_lt c⟩ : Dev nD) = px c (pm 2) by revert c; decide +kernel) _ _) $$ He HO h1
  iintro HO s1
  iapply run_pure
  iapply Hk $$ HO s0 s1

theorem part21 (c : Dev nD) (w0 w1 w2 w3 w4 : BitVec 32) (l : List Debt) (Q : (Σ' (_ : BitVec 32), BitVec 32) → sProp 𝕄) :
    envp v K c ⊢ iprop(Ow c ((rspR 0 1, pm 0) :: (rspR 0 2, pm 0) :: l) -∗ inRsp v c 0 1 -∗ inRsp v c 0 2
      -∗ (Ow c l -∗ todo c (rspS 0 1) -∗ todo c (rspS 0 2) -∗ ∀ a b, Q ⟨a, b⟩) -∗ run c (atArgs (k0_part21 (F := F)) c w0 w1 w2 w3 w4) Q) := by
  simp only [k0_part21_eq_skeleton, k0_part21_skel, wp_bind]
  iintro #He HO h0 h1 Hk
  iapply (go_rsp v K c 0 1 (off10_eq c 0 2) rfl (by unfold loc; rfl) (by unfold loc; rfl)
    (show (⟨k0_dev16 c, k0_dev16_lt c⟩ : Dev nD) = px c (pm 0) by revert c; decide +kernel) _ _) $$ He HO h0
  iintro HO s0
  iapply (go_rsp v K c 0 2 (off10_eq c 0 3) rfl (by unfold loc; rfl) (by unfold loc; rfl)
    (show (⟨k0_dev17 c, k0_dev17_lt c⟩ : Dev nD) = px c (pm 0) by revert c; decide +kernel) _ _) $$ He HO h1
  iintro HO s1
  iapply run_pure
  iapply Hk $$ HO s0 s1

theorem part22 (c : Dev nD) (w0 w1 w2 w3 w4 : BitVec 32) (l : List Debt) (hl : ∀ p ∈ l, 2 < lvl p.1) (Q : (Σ' (_ : BitVec 32), BitVec 32) → sProp 𝕄) :
    envp v K c ⊢ iprop(Ow c ((rspR 0 3, pm 0) :: l) -∗ inRsp v c 0 3 -∗ todo c (rspS 0 0) -∗ todo c (rspR 0 0)
      -∗ (Ow c l -∗ todo c (rspS 0 3) -∗ got v c (rspS 0 0) -∗ got v c (rspR 0 0) -∗ ∀ a b, Q ⟨a, b⟩) -∗ run c (atArgs (k0_part22 (F := F)) c w0 w1 w2 w3 w4) Q) := by
  simp only [k0_part22_eq_skeleton, k0_part22_skel, wp_bind]
  iintro #He HO h0 h1 h2 Hk
  iapply (go_rsp v K c 0 3 (off10_eq c 0 0) rfl (by unfold loc; rfl) (by unfold loc; rfl)
    (show (⟨k0_dev18 c, k0_dev18_lt c⟩ : Dev nD) = px c (pm 0) by revert c; decide +kernel) _ _) $$ He HO h0
  iintro HO s0
  iapply (wait_o v K c (rspS 0 0) (by unfold isBar; rfl) (by unfold loc; rfl) _ (low hl) _) $$ He HO h1
  iintro HO g1
  iapply (wait_p v K c (rspR 0 0) (by unfold isBar; rfl) (by unfold loc; rfl) _ (lv_rspR 0 0 hl) _) $$ He HO h2
  iintro HO g2
  iapply run_pure
  iapply Hk $$ HO s0 g1 g2

theorem part23 (c : Dev nD) (w0 w1 : BitVec 32) (l : List Debt) (hl : ∀ p ∈ l, 2 < lvl p.1) (Q : PUnit → sProp 𝕄) :
    envp v K c ⊢ iprop(Ow c l -∗ todo c (rspS 1 0) -∗ todo c (rspR 1 0) -∗ todo c (rspS 2 0)
      -∗ (Ow c l -∗ got v c (rspS 1 0) -∗ got v c (rspR 1 0) -∗ got v c (rspS 2 0) -∗ Q ⟨⟩) -∗ run c (atArgs (k0_part23 (F := F)) c w0 w1) Q) := by
  simp only [k0_part23_eq_skeleton, k0_part23_skel, wp_bind]
  iintro #He HO h0 h1 h2 Hk
  iapply (wait_o v K c (rspS 1 0) (by unfold isBar; rfl) (by unfold loc; rfl) _ (low hl) _) $$ He HO h0
  iintro HO g0
  iapply (wait_p v K c (rspR 1 0) (by unfold isBar; rfl) (by unfold loc; rfl) _ (lv_rspR 1 0 hl) _) $$ He HO h1
  iintro HO g1
  iapply (wait_o v K c (rspS 2 0) (by unfold isBar; rfl) (by unfold loc; rfl) _ (low hl) _) $$ He HO h2
  iintro HO g2
  iapply run_pure
  iapply Hk $$ HO g0 g1 g2

/-- What a wait for a part of the plane leaves. -/
def gotP (c : Dev nD) (t : Fin 3) (j : Fin 4) : sProp 𝕄 :=
  iprop(semVal (cell c (rspR t j)) 0 ∗ blk (px c (pm t)) (px c (zu (uj j))) fullShare (v.part (px c (pm t))))
def gotZ (c : Dev nD) (t : Fin 3) : sProp 𝕄 :=
  iprop(semVal (cell c (rszR t)) 0 ∗ blk (px c (zm t)) c fullShare (v.acc (px c (zm t))))
theorem got_rspR (c : Dev nD) (t : Fin 3) (j : Fin 4) : got v c (rspR t j) ⊢ iprop(lp c t j (landp v.part c) ∗ gotP v c t j) := by
  have h : sPay v c (rspR t j) d0 = iprop(lp c t j (landp v.part c) ∗ blk (px c (pm t)) (px c (zu (uj j))) fullShare (v.part (px c (pm t)))) := by
    unfold sPay; rfl
  unfold got gotP
  rw [h]
  iintro ⟨Hs, Hl, Hb⟩
  isplitl [Hl]; · iexact Hl
  isplitl [Hs]; · iexact Hs
  iexact Hb
theorem got_rszR (c : Dev nD) (t : Fin 3) : got v c (rszR t) ⊢ iprop(lz c t (landz v.acc c) ∗ gotZ v c t) := by
  have h : sPay v c (rszR t) d0 = iprop(lz c t (landz v.acc c) ∗ blk (px c (zm t)) c fullShare (v.acc (px c (zm t)))) := by
    unfold sPay; rfl
  unfold got gotZ
  rw [h]
  iintro ⟨Hs, Hl, Hb⟩
  isplitl [Hl]; · iexact Hl
  isplitl [Hs]; · iexact Hs
  iexact Hb

theorem part24 (hv : Sums v) (c : Dev nD) (w0 w1 w2 w3 : BitVec 32) (l : List Debt) (hl : ∀ p ∈ l, 2 < lvl p.1) (Q : (Σ' (_ : BitVec 32), BitVec 32) → sProp 𝕄) :
    envp v K c ⊢ iprop(Ow c ((rszR 0, zm 0) :: l) -∗ todo c (rspR 2 0) -∗ blk c (px c (zu (uj 0))) fullShare (v.part c) -∗ lp c 0 0 (landp v.part c) -∗ lp c 1 0 (landp v.part c) -∗ inRsz c 0
      -∗ (Ow c l -∗ gotP v c 2 0 -∗ lp c 0 0 (landp v.part c) -∗ lp c 1 0 (landp v.part c) -∗ lp c 2 0 (landp v.part c) -∗ todo c (rszS 0) -∗ ∀ a b, Q ⟨a, b⟩) -∗ run c (atArgs (k0_part24 (F := F)) c w0 w1 w2 w3) Q) := by
  simp only [k0_part24_eq_skeleton, k0_part24_skel, wp_bind]
  iintro #He HO h o l0 l1 z Hk
  iapply (wait_p v K c (rspR 2 0) (by unfold isBar; rfl) (by unfold loc; rfl) _ (lv_rspR 2 0 (List.forall_mem_cons.2 ⟨by decide, hl⟩)) _) $$ He HO h
  iintro HO h
  ihave h := (got_rspR v c 2 0) $$ h
  icases h with ⟨l2, h⟩
  iapply (load_out c (px c (zu (uj 0))) fullShare (v.part c) (off20_eq c 1) _) $$ o
  iintro o
  iapply (load_lp c 0 0 (landp v.part c) rfl _) $$ l0
  iintro l0
  iapply (load_lp c 1 0 (landp v.part c) rfl _) $$ l1
  iintro l1
  iapply (load_lp c 2 0 (landp v.part c) rfl _) $$ l2
  iintro l2
  iapply (load_out c (px c (zu (uj 0))) fullShare (v.part c) (off20_eq c 1) _) $$ o
  iintro o
  iapply (store_out c (px c (zu (uj 0))) (v.part c) (v.acc c) (off20_eq c 1) (fun x => sum_plane hv c 0 x) _) $$ o
  iintro o
  ihave o := (blk_zu v c (show zu (uj 0) = zm 0 by decide)) $$ o
  iapply (go_rsz v K c 0 (off21_eq c 0) rfl (by unfold loc; rfl) (by unfold loc; rfl)
    (show (⟨k0_dev19 c, k0_dev19_lt c⟩ : Dev nD) = px c (zm 0) by revert c; decide +kernel) _ _) $$ He HO z o
  iintro HO z
  iapply run_pure
  iapply Hk $$ HO h l0 l1 l2 z

theorem part25 (c : Dev nD) (w0 w1 w2 : BitVec 32) (l : List Debt) (hl : ∀ p ∈ l, 2 < lvl p.1) (Q : BitVec 32 → sProp 𝕄) :
    envp v K c ⊢ iprop(Ow c l -∗ todo c (rspS 0 1) -∗ todo c (rspR 0 1) -∗ todo c (rspS 1 1)
      -∗ (Ow c l -∗ got v c (rspS 0 1) -∗ got v c (rspR 0 1) -∗ got v c (rspS 1 1) -∗ ∀ a, Q a) -∗ run c (atArgs (k0_part25 (F := F)) c w0 w1 w2) Q) := by
  simp only [k0_part25_eq_skeleton, k0_part25_skel, wp_bind]
  iintro #He HO h0 h1 h2 Hk
  iapply (wait_o v K c (rspS 0 1) (by unfold isBar; rfl) (by unfold loc; rfl) _ (low hl) _) $$ He HO h0
  iintro HO g0
  iapply (wait_p v K c (rspR 0 1) (by unfold isBar; rfl) (by unfold loc; rfl) _ (lv_rspR 0 1 hl) _) $$ He HO h1
  iintro HO g1
  iapply (wait_o v K c (rspS 1 1) (by unfold isBar; rfl) (by unfold loc; rfl) _ (low hl) _) $$ He HO h2
  iintro HO g2
  iapply run_pure
  iapply Hk $$ HO g0 g1 g2

theorem part26 (c : Dev nD) (w0 w1 w2 : BitVec 32) (l : List Debt) (hl : ∀ p ∈ l, 2 < lvl p.1) (Q : FVec F S64x1024 .bf16 → sProp 𝕄) :
    envp v K c ⊢ iprop(Ow c l -∗ todo c (rspR 1 1) -∗ todo c (rspS 2 1) -∗ todo c (rspR 2 1) -∗ blk c (px c (zu (uj 1))) fullShare (v.part c) -∗ lp c 0 1 (landp v.part c)
      -∗ (Ow c l -∗ got v c (rspR 1 1) -∗ got v c (rspS 2 1) -∗ got v c (rspR 2 1) -∗ blk c (px c (zu (uj 1))) fullShare (v.part c) -∗ lp c 0 1 (landp v.part c) -∗ Q (k0_pay73 (rdO (v.part c) (px c (zu (uj 1)))) (rdP (landp v.part c) 0 1))) -∗ run c (atArgs (k0_part26 (F := F)) c w0 w1 w2) Q) := by
  simp only [k0_part26_eq_skeleton, k0_part26_skel, wp_bind]
  iintro #He HO h0 h1 h2 o l0 Hk
  iapply (wait_p v K c (rspR 1 1) (by unfold isBar; rfl) (by unfold loc; rfl) _ (lv_rspR 1 1 hl) _) $$ He HO h0
  iintro HO h0
  iapply (wait_o v K c (rspS 2 1) (by unfold isBar; rfl) (by unfold loc; rfl) _ (low hl) _) $$ He HO h1
  iintro HO h1
  iapply (wait_p v K c (rspR 2 1) (by unfold isBar; rfl) (by unfold loc; rfl) _ (lv_rspR 2 1 hl) _) $$ He HO h2
  iintro HO h2
  iapply (load_out c (px c (zu (uj 1))) fullShare (v.part c) (off20_eq c 2) _) $$ o
  iintro o
  iapply (load_lp c 0 1 (landp v.part c) rfl _) $$ l0
  iintro l0
  iapply run_pure
  iapply Hk $$ HO h0 h1 h2 o l0

theorem part27 (hv : Sums v) (c : Dev nD) (w0 w1 w2 w3 : BitVec 32) (l : List Debt) (hl : ∀ p ∈ l, 0 < lvl p.1) (Q : BitVec 32 → sProp 𝕄) :
    envp v K c ⊢ iprop(Ow c ((rszR 1, zm 1) :: l) -∗ lp c 1 1 (landp v.part c) -∗ lp c 2 1 (landp v.part c) -∗ blk c (px c (zu (uj 1))) fullShare (v.part c) -∗ inRsz c 1 -∗ todo c (rspS 0 2)
      -∗ (Ow c l -∗ lp c 1 1 (landp v.part c) -∗ lp c 2 1 (landp v.part c) -∗ todo c (rszS 1) -∗ got v c (rspS 0 2) -∗ ∀ a, Q a) -∗ run c (atArgs (k0_part27 (F := F)) c w0 w1 w2 w3 (k0_pay73 (rdO (v.part c) (px c (zu (uj 1)))) (rdP (landp v.part c) 0 1))) Q) := by
  simp only [k0_part27_eq_skeleton, k0_part27_skel, wp_bind]
  iintro #He HO l1 l2 o z h Hk
  iapply (load_lp c 1 1 (landp v.part c) rfl _) $$ l1
  iintro l1
  iapply (load_lp c 2 1 (landp v.part c) rfl _) $$ l2
  iintro l2
  iapply (load_out c (px c (zu (uj 1))) fullShare (v.part c) (off20_eq c 2) _) $$ o
  iintro o
  iapply (store_out c (px c (zu (uj 1))) (v.part c) (v.acc c) (off20_eq c 2) (fun x => sum_plane hv c 1 x) _) $$ o
  iintro o
  ihave o := (blk_zu v c (show zu (uj 1) = zm 1 by decide)) $$ o
  iapply (go_rsz v K c 1 (off21_eq c 1) rfl (by unfold loc; rfl) (by unfold loc; rfl)
    (show (⟨k0_dev20 c, k0_dev20_lt c⟩ : Dev nD) = px c (zm 1) by revert c; decide +kernel) _ _) $$ He HO z o
  iintro HO z
  iapply (wait_o v K c (rspS 0 2) (by unfold isBar; rfl) (by unfold loc; rfl) _ (low hl) _) $$ He HO h
  iintro HO h
  iapply run_pure
  iapply Hk $$ HO l1 l2 z h

theorem part28 (c : Dev nD) (w0 w1 : BitVec 32) (l : List Debt) (hl : ∀ p ∈ l, 2 < lvl p.1) (Q : PUnit → sProp 𝕄) :
    envp v K c ⊢ iprop(Ow c l -∗ todo c (rspR 0 2) -∗ todo c (rspS 1 2) -∗ todo c (rspR 1 2)
      -∗ (Ow c l -∗ got v c (rspR 0 2) -∗ got v c (rspS 1 2) -∗ got v c (rspR 1 2) -∗ Q ⟨⟩) -∗ run c (atArgs (k0_part28 (F := F)) c w0 w1) Q) := by
  simp only [k0_part28_eq_skeleton, k0_part28_skel, wp_bind]
  iintro #He HO h0 h1 h2 Hk
  iapply (wait_p v K c (rspR 0 2) (by unfold isBar; rfl) (by unfold loc; rfl) _ (lv_rspR 0 2 hl) _) $$ He HO h0
  iintro HO g0
  iapply (wait_o v K c (rspS 1 2) (by unfold isBar; rfl) (by unfold loc; rfl) _ (low hl) _) $$ He HO h1
  iintro HO g1
  iapply (wait_p v K c (rspR 1 2) (by unfold isBar; rfl) (by unfold loc; rfl) _ (lv_rspR 1 2 hl) _) $$ He HO h2
  iintro HO g2
  iapply run_pure
  iapply Hk $$ HO g0 g1 g2

theorem part29 (hv : Sums v) (c : Dev nD) (w0 w1 : BitVec 32) (l : List Debt) (hl : ∀ p ∈ l, 2 < lvl p.1) (Q : BitVec 32 → sProp 𝕄) :
    envp v K c ⊢ iprop(Ow c l -∗ todo c (rspS 2 2) -∗ todo c (rspR 2 2) -∗ blk c (px c (zu (uj 2))) fullShare (v.part c) -∗ lp c 0 2 (landp v.part c) -∗ lp c 1 2 (landp v.part c)
      -∗ (Ow c l -∗ got v c (rspS 2 2) -∗ gotP v c 2 2 -∗ blk c (px c (zu (uj 2))) fullShare (v.acc c) -∗ lp c 0 2 (landp v.part c) -∗ lp c 1 2 (landp v.part c) -∗ lp c 2 2 (landp v.part c) -∗ ∀ a, Q a) -∗ run c (atArgs (k0_part29 (F := F)) c w0 w1) Q) := by
  simp only [k0_part29_eq_skeleton, k0_part29_skel, wp_bind]
  iintro #He HO h0 h1 o l0 l1 Hk
  iapply (wait_o v K c (rspS 2 2) (by unfold isBar; rfl) (by unfold loc; rfl) _ (low hl) _) $$ He HO h0
  iintro HO h0
  iapply (wait_p v K c (rspR 2 2) (by unfold isBar; rfl) (by unfold loc; rfl) _ (lv_rspR 2 2 hl) _) $$ He HO h1
  iintro HO h1
  ihave h1 := (got_rspR v c 2 2) $$ h1
  icases h1 with ⟨l2, h1⟩
  iapply (load_out c (px c (zu (uj 2))) fullShare (v.part c) (off20_eq c 3) _) $$ o
  iintro o
  iapply (load_lp c 0 2 (landp v.part c) rfl _) $$ l0
  iintro l0
  iapply (load_lp c 1 2 (landp v.part c) rfl _) $$ l1
  iintro l1
  iapply (load_lp c 2 2 (landp v.part c) rfl _) $$ l2
  iintro l2
  iapply (load_out c (px c (zu (uj 2))) fullShare (v.part c) (off20_eq c 3) _) $$ o
  iintro o
  iapply (store_out c (px c (zu (uj 2))) (v.part c) (v.acc c) (off20_eq c 3) (fun x => sum_plane hv c 2 x) _) $$ o
  iintro o
  iapply run_pure
  iapply Hk $$ HO h0 h1 o l0 l1 l2

theorem part30 (c : Dev nD) (w0 w1 w2 w3 w4 : BitVec 32) (l : List Debt) (hl : ∀ p ∈ l, 2 < lvl p.1) (Q : BitVec 32 → sProp 𝕄) :
    envp v K c ⊢ iprop(Ow c ((rszR 2, zm 2) :: l) -∗ inRsz c 2 -∗ blk c (px c (zm 2)) fullShare (v.acc c) -∗ todo c (rspS 0 3) -∗ todo c (rspR 0 3)
      -∗ (Ow c l -∗ todo c (rszS 2) -∗ got v c (rspS 0 3) -∗ got v c (rspR 0 3) -∗ ∀ a, Q a) -∗ run c (atArgs (k0_part30 (F := F)) c w0 w1 w2 w3 w4) Q) := by
  simp only [k0_part30_eq_skeleton, k0_part30_skel, wp_bind]
  iintro #He HO z o h0 h1 Hk
  iapply (go_rsz v K c 2 (off21_eq c 2) rfl (by unfold loc; rfl) (by unfold loc; rfl)
    (show (⟨k0_dev21 c, k0_dev21_lt c⟩ : Dev nD) = px c (zm 2) by revert c; decide +kernel) _ _) $$ He HO z o
  iintro HO z
  iapply (wait_o v K c (rspS 0 3) (by unfold isBar; rfl) (by unfold loc; rfl) _ (low hl) _) $$ He HO h0
  iintro HO h0
  iapply (wait_p v K c (rspR 0 3) (by unfold isBar; rfl) (by unfold loc; rfl) _ (lv_rspR 0 3 hl) _) $$ He HO h1
  iintro HO h1
  iapply run_pure
  iapply Hk $$ HO z h0 h1

theorem part31 (c : Dev nD) (w0 w1 : BitVec 32) (l : List Debt) (hl : ∀ p ∈ l, 2 < lvl p.1) (Q : PUnit → sProp 𝕄) :
    envp v K c ⊢ iprop(Ow c l -∗ todo c (rspS 1 3) -∗ todo c (rspR 1 3) -∗ todo c (rspS 2 3)
      -∗ (Ow c l -∗ got v c (rspS 1 3) -∗ got v c (rspR 1 3) -∗ got v c (rspS 2 3) -∗ Q ⟨⟩) -∗ run c (atArgs (k0_part31 (F := F)) c w0 w1) Q) := by
  simp only [k0_part31_eq_skeleton, k0_part31_skel, wp_bind]
  iintro #He HO h0 h1 h2 Hk
  iapply (wait_o v K c (rspS 1 3) (by unfold isBar; rfl) (by unfold loc; rfl) _ (low hl) _) $$ He HO h0
  iintro HO g0
  iapply (wait_p v K c (rspR 1 3) (by unfold isBar; rfl) (by unfold loc; rfl) _ (lv_rspR 1 3 hl) _) $$ He HO h1
  iintro HO g1
  iapply (wait_o v K c (rspS 2 3) (by unfold isBar; rfl) (by unfold loc; rfl) _ (low hl) _) $$ He HO h2
  iintro HO g2
  iapply run_pure
  iapply Hk $$ HO g0 g1 g2

theorem part32 (hv : Sums v) (c : Dev nD) (w0 w1 : BitVec 32) (l : List Debt) (hl : ∀ p ∈ l, 2 < lvl p.1) (Q : PUnit → sProp 𝕄) :
    envp v K c ⊢ iprop(Ow c l -∗ todo c (rspR 2 3) -∗ blk c (px c (zu (uj 3))) fullShare (v.part c) -∗ lp c 0 3 (landp v.part c) -∗ lp c 1 3 (landp v.part c) -∗ todo c (rszS 0)
      -∗ (Ow c l -∗ gotP v c 2 3 -∗ blk c (px c (zu (uj 3))) fullShare (v.acc c) -∗ lp c 0 3 (landp v.part c) -∗ lp c 1 3 (landp v.part c) -∗ lp c 2 3 (landp v.part c) -∗ got v c (rszS 0) -∗ Q ⟨⟩) -∗ run c (atArgs (k0_part32 (F := F)) c w0 w1) Q) := by
  simp only [k0_part32_eq_skeleton, k0_part32_skel, wp_bind]
  iintro #He HO h0 o l0 l1 h1 Hk
  iapply (wait_p v K c (rspR 2 3) (by unfold isBar; rfl) (by unfold loc; rfl) _ (lv_rspR 2 3 hl) _) $$ He HO h0
  iintro HO h0
  ihave h0 := (got_rspR v c 2 3) $$ h0
  icases h0 with ⟨l2, h0⟩
  iapply (load_out c (px c (zu (uj 3))) fullShare (v.part c) (off20_eq c 0) _) $$ o
  iintro o
  iapply (load_lp c 0 3 (landp v.part c) rfl _) $$ l0
  iintro l0
  iapply (load_lp c 1 3 (landp v.part c) rfl _) $$ l1
  iintro l1
  iapply (load_lp c 2 3 (landp v.part c) rfl _) $$ l2
  iintro l2
  iapply (load_out c (px c (zu (uj 3))) fullShare (v.part c) (off20_eq c 0) _) $$ o
  iintro o
  iapply (store_out c (px c (zu (uj 3))) (v.part c) (v.acc c) (off20_eq c 0) (fun x => sum_plane hv c 3 x) _) $$ o
  iintro o
  iapply (wait_o v K c (rszS 0) (by unfold isBar; rfl) (by unfold loc; rfl) _ (low hl) _) $$ He HO h1
  iintro HO h1
  iapply run_pure
  iapply Hk $$ HO h0 o l0 l1 l2 h1

theorem part33 (c : Dev nD) (w0 w1 : BitVec 32) (l : List Debt) (hl : ∀ p ∈ l, 3 < lvl p.1) (Q : PUnit → sProp 𝕄) :
    envp v K c ⊢ iprop(Ow c l -∗ todo c (rszR 0) -∗ todo c (rszS 1) -∗ todo c (rszR 1) -∗ todo c (rszS 2)
      -∗ (Ow c l -∗ got v c (rszR 0) -∗ got v c (rszS 1) -∗ got v c (rszR 1) -∗ got v c (rszS 2) -∗ Q ⟨⟩) -∗ run c (atArgs (k0_part33 (F := F)) c w0 w1) Q) := by
  simp only [k0_part33_eq_skeleton, k0_part33_skel, wp_bind]
  iintro #He HO h0 h1 h2 h3 Hk
  iapply (wait_z v K c (rszR 0) (by unfold isBar; rfl) (by unfold loc; rfl) _ (lv_rszR 0 hl) _) $$ He HO h0
  iintro HO g0
  iapply (wait_o v K c (rszS 1) (by unfold isBar; rfl) (by unfold loc; rfl) _ (low hl) _) $$ He HO h1
  iintro HO g1
  iapply (wait_z v K c (rszR 1) (by unfold isBar; rfl) (by unfold loc; rfl) _ (lv_rszR 1 hl) _) $$ He HO h2
  iintro HO g2
  iapply (wait_o v K c (rszS 2) (by unfold isBar; rfl) (by unfold loc; rfl) _ (low hl) _) $$ He HO h3
  iintro HO g3
  iapply run_pure
  iapply Hk $$ HO g0 g1 g2 g3

/-- The own block's shares that go across the planes. -/
def own3 (c : Dev nD) : sProp 𝕄 :=
  iprop(blk c c (shares3 fullShare.left 0) (final v.tot) ∗ blk c c (shares3 fullShare.left 1) (final v.tot) ∗ blk c c (shares3 fullShare.left 2) (final v.tot))
/-- The own block's shares that go within the plane. -/
def own3' (c : Dev nD) : sProp 𝕄 :=
  iprop(blk c c (shares3 fullShare.right 0) (final v.tot) ∗ blk c c (shares3 fullShare.right 1) (final v.tot) ∗ blk c c (shares3 fullShare.right 2) (final v.tot))
theorem own_split (c : Dev nD) : blk c c fullShare (final v.tot) ⊣⊢ iprop(own3 v c ∗ own3' v c) := by
  have h : blk c c fullShare (final v.tot) ⊣⊢ iprop(blk c c fullShare.left (final v.tot) ∗ blk c c fullShare.right (final v.tot)) :=
    pointsTo_share (PosShare.mem_left_op_right fullShare)
  exact ⟨h.1.trans (BIClass.sep_mono (Idealize.ShloMosaic.Ring.pointsTo_thirds _ _).1 (Idealize.ShloMosaic.Ring.pointsTo_thirds _ _).1),
    (BIClass.sep_mono (Idealize.ShloMosaic.Ring.pointsTo_thirds _ _).2 (Idealize.ShloMosaic.Ring.pointsTo_thirds _ _).2).trans h.2⟩

theorem part34 (hv : Sums v) (c : Dev nD) (w0 w1 w2 : BitVec 32) (l : List Debt) (hl : ∀ p ∈ l, 3 < lvl p.1) (Q : PUnit → sProp 𝕄) :
    envp v K c ⊢ iprop(Ow c ((agzR 0, zm 0) :: (agzR 1, zm 1) :: l) -∗ todo c (rszR 2) -∗ blk c c fullShare (v.acc c) -∗ lz c 0 (landz v.acc c) -∗ lz c 1 (landz v.acc c) -∗ inAgz c 0 -∗ inAgz c 1
      -∗ (Ow c l -∗ gotZ v c 2 -∗ lz c 0 (landz v.acc c) -∗ lz c 1 (landz v.acc c) -∗ lz c 2 (landz v.acc c) -∗ todo c (agzS 0) -∗ todo c (agzS 1) -∗ blk c c (shares3 fullShare.left 2) (final v.tot) -∗ own3' v c -∗ Q ⟨⟩) -∗ run c (atArgs (k0_part34 (F := F)) c w0 w1 w2) Q) := by
  simp only [k0_part34_eq_skeleton, k0_part34_skel, wp_bind]
  iintro #He HO h o l0 l1 z0 z1 Hk
  iapply (wait_z v K c (rszR 2) (by unfold isBar; rfl) (by unfold loc; rfl) _ (lv_rszR 2 (List.forall_mem_cons.2 ⟨by decide, (List.forall_mem_cons.2 ⟨by decide, hl⟩)⟩)) _) $$ He HO h
  iintro HO h
  ihave h := (got_rszR v c 2) $$ h
  icases h with ⟨l2, h⟩
  iapply (load_out c c fullShare (v.acc c) (off22_eq c) _) $$ o
  iintro o
  iapply (load_lz c 0 (landz v.acc c) rfl _) $$ l0
  iintro l0
  iapply (load_lz c 1 (landz v.acc c) rfl _) $$ l1
  iintro l1
  iapply (load_lz c 2 (landz v.acc c) rfl _) $$ l2
  iintro l2
  iapply (load_out c c fullShare (v.acc c) (off22_eq c) _) $$ o
  iintro o
  iapply (store_out c c (v.acc c) (final v.tot) (off22_eq c) (fun x => sum_across hv c x) _) $$ o
  iintro o
  ihave o := (own_split v c).1 $$ o
  icases o with ⟨o3, o⟩
  unfold own3
  icases o3 with ⟨o0, o1, o2⟩
  iapply (go_agz v K c 0 (off23_eq c) (by unfold loc; rfl) (by unfold loc; rfl)
    (show (⟨k0_dev22 c, k0_dev22_lt c⟩ : Dev nD) = px c (zm 0) by revert c; decide +kernel) _ _) $$ He HO z0 o0
  iintro HO z0
  iapply (go_agz v K c 1 (off23_eq c) (by unfold loc; rfl) (by unfold loc; rfl)
    (show (⟨k0_dev23 c, k0_dev23_lt c⟩ : Dev nD) = px c (zm 1) by revert c; decide +kernel) _ _) $$ He HO z1 o1
  iintro HO z1
  iapply run_pure
  iapply Hk $$ HO h l0 l1 l2 z0 z1 o2 o

end Cert.Attn

end
-- ==== Proof.Attn.lean ====
/-
  What one device computes: keys, values, queries, the heads and their output.
-/
module

public import proofs.«01_k».proof.Proof.Reduce

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3)

variable {F : FTy → Type} [FloatOps F] [Named F]

local notation "𝕄" => MT nD τ sig Unit (Elt F) ℕ UU ℕ

attribute [local irreducible] loc px owedK isBar sPay

/-! ## What a device computes -/

/-- What a device is given: its rows, its weights and the two tables of the rotation. -/
structure Ins (F : FTy → Type) where
  x : FVec F S1024x1024 .bf16
  wq : FVec F S1024x1024 .bf16
  wk : FVec F S1024x1024 .bf16
  wv : FVec F S1024x1024 .bf16
  wo : FVec F S1024x1024 .bf16
  cs : FVec F S512x64 .bf16
  sn : FVec F S512x64 .bf16

theorem tile_slices : ∀ (b : Fin 2) (h : Fin 8), S1024x1024.Slices ![512 * b.val, 128 * h.val] S512x128 := by decide
theorem rows_slices : ∀ b : Fin 2, S1024x1024.Slices ![512 * b.val, 0] S512x1024 := by decide
theorem cols_slices : ∀ h : Fin 8, S512x1024.Slices ![0, 128 * h.val] S512x128 := by decide
/-- One head's columns of one half of the rows; one half of the rows; one head's columns of such a half. -/
def tile (X : FVec F S1024x1024 .bf16) (b : Fin 2) (h : Fin 8) : FVec F S512x128 .bf16 :=
  extractStridedSlice S512x128 ![512 * b.val, 128 * h.val] X (tile_slices b h)
def rows (X : FVec F S1024x1024 .bf16) (b : Fin 2) : FVec F S512x1024 .bf16 :=
  extractStridedSlice S512x1024 ![512 * b.val, 0] X (rows_slices b)
def cols (X : FVec F S512x1024 .bf16) (h : Fin 8) : FVec F S512x128 .bf16 :=
  extractStridedSlice S512x128 ![0, 128 * h.val] X (cols_slices h)

/-- The rotation of one head. -/
def rope (cs sn : FVec F S512x64 .bf16) (y : FVec F S512x128 .bf16) : FVec F S512x128 .bf16 :=
  let y₁ : FVec F S512x64 .bf16 := extractStridedSlice S512x64 ![0, 0] y slices_S512x128_o0_0_S512x64
  let y₂ : FVec F S512x64 .bf16 := extractStridedSlice S512x64 ![0, 64] y slices_S512x128_o0_64_S512x64
  concatenate S512x128 1 [⟨S512x64, subf (mulf y₁ cs) (mulf y₂ sn)⟩, ⟨S512x64, addf (mulf y₂ cs) (mulf y₁ sn)⟩]
    concatenates_S512x64_S512x64_S512x128_d1

/-- The attention of one head over one half of the rows. -/
def att (q k v : FVec F S512x128 .bf16) : FVec F S512x128 .bf16 :=
  let s : FVec F S512x512 .f32 := matmul dot_S512x128_S512x128_S512x512_1_1_0_0_n_n none q k (constant S512x512 .f32 0x00000000#32)
  let e : FVec F S512x512 .f32 := exp s
  let n : FVec F S512 .f32 := multiReduction .add [1] S512 e 0x00000000#32 reduces_S512x512_S512 (.inl rfl) rfl
  let r : FVec F S512x1 .f32 := divf (broadcast S512x1 (Scalar.ofBits .f32 0x3F800000#32)) (shapeCast S512x1 n shapeCasts_S512_S512x1)
  truncf .bf16 (mulf (matmul dot_S512x512_S512x128_S512x128_1_0_0_1_n_n none (truncf .bf16 e bitsLt_bf16_f32) v (constant S512x128 .f32 0x00000000#32))
    (broadcastTo S512x128 r broadcasts_S512x1_S512x128)) bitsLt_bf16_f32

variable (I : Ins F)

/-- The keys before and after the rotation, the values and the queries of one half. -/
def Ins.km : FVec F S1024x1024 .bf16 := k0_pay3 I.x I.wk
def Ins.keys : FVec F S1024x1024 .bf16 := fun i =>
  rope I.cs I.sn (tile I.km (⟨(i 0).val / 512, by have := (i 0).isLt; change _ < 1024 at this; omega⟩) (⟨(i 1).val / 128, by have := (i 1).isLt; change _ < 1024 at this; omega⟩))
    (ValueIdx.ix2 (⟨(i 0).val % 512, Nat.mod_lt _ (by decide)⟩ : Fin 512) (⟨(i 1).val % 128, Nat.mod_lt _ (by decide)⟩ : Fin 128))
def Ins.vals : FVec F S1024x1024 .bf16 := k0_pay28 I.x I.wv
def Ins.qs (b : Fin 2) : FVec F S512x1024 .bf16 := k0_pay29 (rows I.x b) I.wq
/-- One head's contribution over one half, and the half of the rows of the output. -/
def Ins.head (b : Fin 2) (h : Fin 8) : FVec F S512x128 .bf16 := att (rope I.cs I.sn (cols (I.qs b) h)) (tile I.keys b h) (tile I.vals b h)
def Ins.half (b : Fin 2) : FVec F S512x1024 .bf16 :=
  k0_pay71 (I.head b 0) (I.head b 1) (I.head b 2) (I.head b 3) (I.head b 4) (I.head b 5) (I.head b 6) (I.head b 7) I.wo
/-- The output of the device's own heads. -/
def Ins.part : FVec F S1024x1024 .bf16 := fun i =>
  I.half (⟨(i 0).val / 512, by have := (i 0).isLt; change _ < 1024 at this; omega⟩)
    (ValueIdx.ix2 (⟨(i 0).val % 512, Nat.mod_lt _ (by decide)⟩ : Fin 512) (⟨(i 1).val, (i 1).isLt⟩ : Fin 1024))

theorem keys_tile (b : Fin 2) (h : Fin 8) : tile I.keys b h = rope I.cs I.sn (tile I.km b h) := by
  funext x
  have h0 : (x 0).val < 512 := (x 0).isLt
  have h1 : (x 1).val < 128 := (x 1).isLt
  have e0 : (512 * b.val + (x 0).val) / 512 = b.val := by omega
  have e1 : (128 * h.val + (x 1).val) / 128 = h.val := by omega
  have e2 : (512 * b.val + (x 0).val) % 512 = (x 0).val := by omega
  have e3 : (128 * h.val + (x 1).val) % 128 = (x 1).val := by omega
  show rope I.cs I.sn (tile I.km ⟨(512 * b.val + (x 0).val) / 512, _⟩ ⟨(128 * h.val + (x 1).val) / 128, _⟩)
    (ValueIdx.ix2 (⟨(512 * b.val + (x 0).val) % 512, _⟩ : Fin 512) (⟨(128 * h.val + (x 1).val) % 128, _⟩ : Fin 128)) = _
  simp only [e0, e1, e2, e3]
  exact congrArg _ (ValueIdx.eq_ix2 x).symm
theorem part_rows (b : Fin 2) : rows I.part b = I.half b := by
  funext x
  have h0 : (x 0).val < 512 := (x 0).isLt
  have e0 : (512 * b.val + (x 0).val) / 512 = b.val := by omega
  have e2 : (512 * b.val + (x 0).val) % 512 = (x 0).val := by omega
  show I.half ⟨(512 * b.val + (x 0).val) / 512, _⟩ (ValueIdx.ix2 (⟨(512 * b.val + (x 0).val) % 512, _⟩ : Fin 512) (⟨0 + (x 1).val, _⟩ : Fin 1024)) = _
  simp only [e0, e2, Nat.zero_add]
  exact congrArg _ (ValueIdx.eq_ix2 x).symm

/-! ## The printed expressions -/

theorem pay1_eq (w : FVec F S512x64 .bf16) : k0_pay1 w = w := shapeCast_self _ _
theorem pay2_eq (w : FVec F S512x64 .bf16) : k0_pay2 w = w := shapeCast_self _ _

/-! The keys of a head, as they are stored. -/

theorem key00 : k0_pay4 I.cs I.sn I.x I.wk = tile I.keys 0 0 := by
  rw [keys_tile]
  refine (shapeCast_self (rope (k0_pay1 I.cs) (k0_pay2 I.sn) (tile I.km 0 0)) _).trans ?_
  rw [pay1_eq, pay2_eq]
theorem key01 : k0_pay5 I.cs I.sn I.x I.wk = tile I.keys 0 1 := by
  rw [keys_tile]
  refine (shapeCast_self (rope (k0_pay1 I.cs) (k0_pay2 I.sn) (tile I.km 0 1)) _).trans ?_
  rw [pay1_eq, pay2_eq]
theorem key02 : k0_pay7 (k0_pay6 I.cs I.sn I.x I.wk) = tile I.keys 0 2 := by
  rw [keys_tile]
  refine (shapeCast_self (rope (k0_pay1 I.cs) (k0_pay2 I.sn) (tile I.km 0 2)) _).trans ?_
  rw [pay1_eq, pay2_eq]
theorem key03 : k0_pay8 I.cs I.sn I.km = tile I.keys 0 3 := by
  rw [keys_tile]; exact shapeCast_self _ _
theorem key04 : k0_pay9 I.cs I.sn I.km = tile I.keys 0 4 := by
  rw [keys_tile]; exact shapeCast_self _ _
theorem key05 : k0_pay10 I.cs I.sn I.km = tile I.keys 0 5 := by
  rw [keys_tile]; exact shapeCast_self _ _
theorem key06 : k0_pay15 I.cs I.sn (k0_pay12 I.km) (k0_pay13 I.km) (k0_pay14 I.cs I.sn I.km) = tile I.keys 0 6 := by
  rw [keys_tile]; exact shapeCast_self _ _
theorem key07 : k0_pay16 I.cs I.sn I.km = tile I.keys 0 7 := by
  rw [keys_tile]; exact shapeCast_self _ _
theorem key10 : k0_pay17 I.cs I.sn I.km = tile I.keys 1 0 := by
  rw [keys_tile]; exact shapeCast_self _ _
theorem key11 : k0_pay18 I.cs I.sn I.km = tile I.keys 1 1 := by
  rw [keys_tile]; exact shapeCast_self _ _
theorem key12 : k0_pay21 I.cs I.sn (k0_pay19 I.km) (k0_pay20 I.km) = tile I.keys 1 2 := by
  rw [keys_tile]; exact shapeCast_self _ _
theorem key13 : k0_pay22 I.cs I.sn I.km = tile I.keys 1 3 := by
  rw [keys_tile]; exact shapeCast_self _ _
theorem key14 : k0_pay23 I.cs I.sn I.km = tile I.keys 1 4 := by
  rw [keys_tile]; exact shapeCast_self _ _
theorem key15 : k0_pay25 (k0_pay24 I.cs I.sn I.km) = tile I.keys 1 5 := by
  rw [keys_tile]; exact shapeCast_self _ _
theorem key16 : k0_pay26 I.cs I.sn I.km = tile I.keys 1 6 := by
  rw [keys_tile]; exact shapeCast_self _ _
theorem key17 : k0_pay27 I.cs I.sn I.km = tile I.keys 1 7 := by
  rw [keys_tile]; exact shapeCast_self _ _

/-! The heads, in the first half computed and in the second. -/

theorem head_a0 (b : Fin 2) : k0_pay30 I.cs I.sn (rows I.x b) I.wq (tile I.keys b 0) (tile I.vals b 0) = I.head b 0 := rfl
theorem head_a1 (b : Fin 2) : k0_pay32 (k0_pay31 I.cs I.sn (rows I.x b) I.wq) (tile I.keys b 1) (tile I.vals b 1) = I.head b 1 := rfl
theorem head_a2 (b : Fin 2) : k0_pay33 I.cs I.sn (I.qs b) (tile I.keys b 2) (tile I.vals b 2) = I.head b 2 := rfl
theorem head_a3 (b : Fin 2) : k0_pay35 (k0_pay34 I.cs I.sn (I.qs b)) (tile I.keys b 3) (tile I.vals b 3) = I.head b 3 := rfl
theorem head_a4 (b : Fin 2) : k0_pay36 I.cs I.sn (I.qs b) (tile I.keys b 4) (tile I.vals b 4) = I.head b 4 := rfl
theorem head_a5 (b : Fin 2) : k0_pay38 (k0_pay37 I.cs I.sn (I.qs b)) (tile I.keys b 5) (tile I.vals b 5) = I.head b 5 := rfl
theorem head_a6 (b : Fin 2) : k0_pay39 I.cs I.sn (I.qs b) (tile I.keys b 6) (tile I.vals b 6) = I.head b 6 := rfl
theorem head_b0 (b : Fin 2) : k0_pay53 (k0_pay50 I.cs I.sn (rows I.x b) I.wq) (k0_pay51 I.cs (rows I.x b) I.wq) (k0_pay52 I.sn (rows I.x b) I.wq) (tile I.keys b 0) (tile I.vals b 0) = I.head b 0 := rfl
theorem head_b1 (b : Fin 2) : k0_pay54 I.cs I.sn (I.qs b) (tile I.keys b 1) (tile I.vals b 1) = I.head b 1 := rfl
theorem head_b2 (b : Fin 2) : k0_pay59 I.cs I.sn (k0_pay56 (I.qs b)) (k0_pay57 (I.qs b)) (k0_pay58 I.cs I.sn (I.qs b)) (tile I.keys b 2) (tile I.vals b 2) = I.head b 2 := rfl
theorem head_b3 (b : Fin 2) : k0_pay60 I.cs I.sn (I.qs b) (tile I.keys b 3) (tile I.vals b 3) = I.head b 3 := rfl
theorem head_b4 (b : Fin 2) : k0_pay65 I.cs I.sn (k0_pay62 (I.qs b)) (k0_pay63 (I.qs b)) (k0_pay64 I.cs (I.qs b)) (tile I.keys b 4) (tile I.vals b 4) = I.head b 4 := rfl
theorem head_b5 (b : Fin 2) : k0_pay66 I.cs I.sn (I.qs b) (tile I.keys b 5) (tile I.vals b 5) = I.head b 5 := rfl
theorem head_b6 (b : Fin 2) : k0_pay69 I.cs I.sn (k0_pay67 (I.qs b)) (k0_pay68 (I.qs b)) (tile I.keys b 6) (tile I.vals b 6) = I.head b 6 := rfl
theorem head_b7 (b : Fin 2) : k0_pay70 I.cs I.sn (I.qs b) (tile I.keys b 7) (tile I.vals b 7) = I.head b 7 := rfl
theorem half_a (b : Fin 2) : k0_pay45 (I.head b 0) (I.head b 1) (I.head b 2) (I.head b 3) (I.head b 4) (I.head b 5) (I.head b 6) (k0_pay43 I.cs I.sn (I.qs b))
    (k0_pay44 I.cs I.sn (I.qs b)) (tile I.keys b 7) (tile I.vals b 7) I.wo = I.half b := rfl
theorem q_b (b : Fin 2) : k0_pay46 (rows I.x b) I.wq = I.qs b := rfl

end Cert.Attn

end
-- ==== Proof.Gather.lean ====
/-
  The exchange of the results and the exit.
-/
module

public import proofs.«01_k».proof.Proof.Reduce

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3)

variable {F : FTy → Type} [FloatOps F] [Named F]

local notation "𝕄" => MT nD τ sig Unit (Elt F) ℕ UU ℕ

attribute [local irreducible] loc px owedK isBar sPay

variable (v : Vals F) (K : GSem nD τ sig → ℕ)

/-! ## Signals -/

/-- What a signal of a barrier cell needs. -/
def inBar (c : Dev nD) (s : Sm) (d : Duty) : sProp 𝕄 :=
  iprop(dutyTok ER (cell (px c (mask d)) s) 0 d ∗ sPay v (px c (mask d)) s d ∗ reached ER (cell (px c (mask d)) s) 0)
theorem go_sig (c : Dev nD) (s : Sm) (hb : isBar s = true) {sem : Sem sig} (hs : SemLoc.reg sem = loc s) (d : Duty)
    {dst : Dev nD} (hd : dst = px c (mask d)) (l : List Debt) (Q : PUnit → sProp 𝕄) :
    env v K ⊢ iprop(Ow c ((s, mask d) :: l) -∗ inBar v c s d -∗ (Ow c l -∗ Q ⟨⟩) -∗ run c (semSignalWord dst sem 1#32) Q) := by
  unfold inBar
  iintro #He HO ⟨Ht, Hp, Hr⟩ Hk
  iapply (step_signal v K c s hb hs d hd l Q) $$ [HO Ht Hp Hr]
  · isplitr; · iexact He
    isplitl [HO]; · iexact HO
    isplitl [Ht]; · iexact Ht
    isplitl [Hp]; · iexact Hp
    iexact Hr
  iexact Hk
theorem go_exit (c : Dev nD) {sem : Sem sig} (hs : SemLoc.reg sem = loc ext) (d : Duty)
    {dst : Dev nD} (hd : dst = px c (mask d)) (l : List Debt) (Q : PUnit → sProp 𝕄) :
    envp v K c ⊢ iprop(Ow c ((ext, mask d) :: l) -∗ dutyTok ER (cell (px c (mask d)) ext) 0 d -∗ (Ow c l -∗ Q ⟨⟩) -∗ run c (semSignalWord dst sem 1#32) Q) := by
  have he : (emp : sProp 𝕄) ⊢ sPay v (px c (mask d)) ext d := by unfold sPay; exact .rfl
  unfold envp
  iintro ⟨#He, #Hp⟩ HO Ht Hk
  iapply (go_sig v K c ext (by unfold isBar; rfl) hs d hd l Q) $$ He HO [Ht]
  · unfold inBar
    isplitl [Ht]; · iexact Ht
    isplitr; · iapply he; itrivial
    iapply (peers_ext c d); iexact Hp
  iexact Hk

/-- The six partners' duties. -/
theorem bigSep_duty (Φ : Duty → sProp 𝕄) : (bigSep Finset.univ Φ : sProp 𝕄)
    = iprop(Φ (false, 0) ∗ Φ (false, 1) ∗ Φ (false, 2) ∗ Φ (true, 0) ∗ Φ (true, 1) ∗ Φ (true, 2)) := by
  rw [show (Finset.univ : Finset Duty) = {(false, 0), (false, 1), (false, 2), (true, 0), (true, 1), (true, 2)} from by decide,
    bigSep_insert (by decide), bigSep_insert (by decide), bigSep_insert (by decide), bigSep_insert (by decide), bigSep_insert (by decide), bigSep_singleton]
  rfl

theorem part1 (c : Dev nD) (l : List Debt) (Q : _ → sProp 𝕄) :
    env v K ⊢ iprop(Ow c (debtsBar bar ++ l) -∗ (bigSep Finset.univ fun d => inBar v c bar d)
      -∗ (Ow c l -∗ ∀ w3 w4 w5 w6 w7 w8 w9 w10, Q ⟨c, w3, w4, w5, w6, w7, w8, w9, w10, SemArray.scalar (sig.barrier 0 rfl)⟩)
      -∗ run c (atArgs (k0_part1 (F := F))) Q) := by
  rw [bigSep_duty]
  simp only [k0_part1_eq_skeleton, k0_part1_skel, wp_bind]
  rw [show debtsBar bar ++ l = (bar, mask (false, 0)) :: (bar, mask (false, 1)) :: (bar, mask (false, 2)) :: (bar, mask (true, 0))
    :: (bar, mask (true, 1)) :: (bar, mask (true, 2)) :: l from rfl]
  iintro #He HO ⟨h0, h1, h2, h3, h4, h5⟩ Hk
  rw [show (Prog.lift .deviceId : Prog (TpuEff nD τ sig (Elt F) Λ₀ .tc) (Dev nD)) = .op .deviceId .ret from rfl, wp_deviceId, wp_ret]
  imodintro
  iapply (go_sig v K c bar (by unfold isBar; rfl) (by unfold loc; rfl) (false, 0)
    (show (⟨k0_dev1 c, k0_dev1_lt c⟩ : Dev nD) = px c (pm 0) by revert c; decide +kernel) _ _) $$ He HO h0
  iintro HO
  iapply (go_sig v K c bar (by unfold isBar; rfl) (by unfold loc; rfl) (false, 1)
    (show (⟨k0_dev2 c, k0_dev2_lt c⟩ : Dev nD) = px c (pm 1) by revert c; decide +kernel) _ _) $$ He HO h1
  iintro HO
  iapply (go_sig v K c bar (by unfold isBar; rfl) (by unfold loc; rfl) (false, 2)
    (show (⟨k0_dev3 c, k0_dev3_lt c⟩ : Dev nD) = px c (pm 2) by revert c; decide +kernel) _ _) $$ He HO h2
  iintro HO
  iapply (go_sig v K c bar (by unfold isBar; rfl) (by unfold loc; rfl) (true, 0)
    (show (⟨k0_dev4 c, k0_dev4_lt c⟩ : Dev nD) = px c (zm 0) by revert c; decide +kernel) _ _) $$ He HO h3
  iintro HO
  iapply (go_sig v K c bar (by unfold isBar; rfl) (by unfold loc; rfl) (true, 1)
    (show (⟨k0_dev5 c, k0_dev5_lt c⟩ : Dev nD) = px c (zm 1) by revert c; decide +kernel) _ _) $$ He HO h4
  iintro HO
  iapply (go_sig v K c bar (by unfold isBar; rfl) (by unfold loc; rfl) (true, 2)
    (show (⟨k0_dev6 c, k0_dev6_lt c⟩ : Dev nD) = px c (zm 2) by revert c; decide +kernel) _ _) $$ He HO h5
  iintro HO
  iapply run_pure
  iapply Hk $$ HO

/-! ## The parts -/

/-- A third of a block, for the copy to one partner in the plane. -/
abbrev third (c : Dev nD) (u : Fin 4) (t : Fin 3) : sProp 𝕄 := blk c (px c (zu u)) (qp u t) (final v.tot)

theorem own_thirds (c : Dev nD) : own3' v c ⊢ iprop(third v c 0 0 ∗ third v c 0 1 ∗ third v c 0 2) := by
  unfold own3'
  rw [show third v c 0 0 = blk c c (shares3 fullShare.right 0) (final v.tot) from by unfold third; rw [show zu 0 = 0 from rfl, px_zero]; rfl,
    show third v c 0 1 = blk c c (shares3 fullShare.right 1) (final v.tot) from by unfold third; rw [show zu 0 = 0 from rfl, px_zero]; rfl,
    show third v c 0 2 = blk c c (shares3 fullShare.right 2) (final v.tot) from by unfold third; rw [show zu 0 = 0 from rfl, px_zero]; rfl]
theorem got_agzR (c : Dev nD) (t : Fin 3) (u : Fin 4) (hu : u = t.succ) :
    got v c (agzR t) ⊢ iprop(semVal (cell c (agzR t)) 0 ∗ third v c u 0 ∗ third v c u 1 ∗ third v c u 2) := by
  subst hu
  have h : sPay v c (agzR t) d0 = blk c (px c (zm t)) fullShare (final v.tot) := by unfold sPay; rfl
  unfold got
  rw [h, ← zu_succ]
  unfold third qp
  simp only [if_neg (Fin.succ_ne_zero t)]
  exact BIClass.sep_mono .rfl (Idealize.ShloMosaic.Ring.pointsTo_thirds _ _).1

theorem part35 (c : Dev nD) (w0 w1 w2 w3 w4 w5 : BitVec 32) (l : List Debt) (Q : PUnit → sProp 𝕄) :
    envp v K c ⊢ iprop(Ow c ((agzR 2, zm 2) :: (agpR 0 0, pm 0) :: (agpR 1 0, pm 1) :: l) -∗ inAgz c 2 -∗ blk c c (shares3 fullShare.left 2) (final v.tot) -∗ inAgp c 0 0 -∗ third v c 0 0 -∗ inAgp c 1 0 -∗ third v c 0 1
      -∗ (Ow c l -∗ todo c (agzS 2) -∗ todo c (agpS 0 0) -∗ todo c (agpS 1 0) -∗ Q ⟨⟩) -∗ run c (atArgs (k0_part35 (F := F)) c w0 w1 w2 w3 w4 w5) Q) := by
  simp only [k0_part35_eq_skeleton, k0_part35_skel, wp_bind]
  iintro #He HO z2 o2 p00 q00 p10 q10 Hk
  iapply (go_agz v K c 2 (off23_eq c) (by unfold loc; rfl) (by unfold loc; rfl)
    (show (⟨k0_dev24 c, k0_dev24_lt c⟩ : Dev nD) = px c (zm 2) by revert c; decide +kernel) _ _) $$ He HO z2 o2
  iintro HO z2
  iapply (go_agp v K c 0 0 (off23_own c) (by unfold loc; rfl) (by unfold loc; rfl)
    (show (⟨k0_dev25 c, k0_dev25_lt c⟩ : Dev nD) = px c (pm 0) by revert c; decide +kernel) _ _) $$ He HO p00 q00
  iintro HO p00
  iapply (go_agp v K c 1 0 (off23_own c) (by unfold loc; rfl) (by unfold loc; rfl)
    (show (⟨k0_dev26 c, k0_dev26_lt c⟩ : Dev nD) = px c (pm 1) by revert c; decide +kernel) _ _) $$ He HO p10 q10
  iintro HO p10
  iapply run_pure
  iapply Hk $$ HO z2 p00 p10

theorem part36 (c : Dev nD) (w0 w1 w2 w3 w4 : BitVec 32) (l : List Debt) (hl : ∀ p ∈ l, 4 < lvl p.1) (Q : PUnit → sProp 𝕄) :
    envp v K c ⊢ iprop(Ow c ((agpR 2 0, pm 2) :: (agpR 0 1, pm 0) :: l) -∗ inAgp c 2 0 -∗ third v c 0 2 -∗ todo c (agzR 0) -∗ inAgp c 0 1
      -∗ (Ow c l -∗ todo c (agpS 2 0) -∗ semVal (cell c (agzR 0)) 0 -∗ todo c (agpS 0 1) -∗ third v c 1 1 -∗ third v c 1 2 -∗ Q ⟨⟩) -∗ run c (atArgs (k0_part36 (F := F)) c w0 w1 w2 w3 w4) Q) := by
  simp only [k0_part36_eq_skeleton, k0_part36_skel, wp_bind]
  iintro #He HO p20 q20 g p01 Hk
  iapply (go_agp v K c 2 0 (off23_own c) (by unfold loc; rfl) (by unfold loc; rfl)
    (show (⟨k0_dev27 c, k0_dev27_lt c⟩ : Dev nD) = px c (pm 2) by revert c; decide +kernel) _ _) $$ He HO p20 q20
  iintro HO p20
  iapply (wait_o v K c (agzR 0) (by unfold isBar; rfl) (by unfold loc; rfl) _ (lv_agzR 0 (List.forall_mem_cons.2 ⟨by decide, hl⟩)) _) $$ He HO g
  iintro HO g
  ihave g := (got_agzR v c 0 1 rfl) $$ g
  icases g with ⟨g, q01, q11, q21⟩
  iapply (go_agp v K c 0 1 (off21_eq c 0) (by unfold loc; rfl) (by unfold loc; rfl)
    (show (⟨k0_dev28 c, k0_dev28_lt c⟩ : Dev nD) = px c (pm 0) by revert c; decide +kernel) _ _) $$ He HO p01 q01
  iintro HO p01
  iapply run_pure
  iapply Hk $$ HO p20 g p01 q11 q21

theorem part37 (c : Dev nD) (w0 w1 w2 w3 w4 : BitVec 32) (l : List Debt) (hl : ∀ p ∈ l, 4 < lvl p.1) (Q : PUnit → sProp 𝕄) :
    envp v K c ⊢ iprop(Ow c ((agpR 1 1, pm 1) :: (agpR 2 1, pm 2) :: (agpR 0 2, pm 0) :: l) -∗ inAgp c 1 1 -∗ third v c 1 1 -∗ inAgp c 2 1 -∗ third v c 1 2 -∗ todo c (agzR 1) -∗ inAgp c 0 2
      -∗ (Ow c l -∗ todo c (agpS 1 1) -∗ todo c (agpS 2 1) -∗ semVal (cell c (agzR 1)) 0 -∗ todo c (agpS 0 2) -∗ third v c 2 1 -∗ third v c 2 2 -∗ Q ⟨⟩) -∗ run c (atArgs (k0_part37 (F := F)) c w0 w1 w2 w3 w4) Q) := by
  simp only [k0_part37_eq_skeleton, k0_part37_skel, wp_bind]
  iintro #He HO p11 q11 p21 q21 g p02 Hk
  iapply (go_agp v K c 1 1 (off21_eq c 0) (by unfold loc; rfl) (by unfold loc; rfl)
    (show (⟨k0_dev29 c, k0_dev29_lt c⟩ : Dev nD) = px c (pm 1) by revert c; decide +kernel) _ _) $$ He HO p11 q11
  iintro HO p11
  iapply (go_agp v K c 2 1 (off21_eq c 0) (by unfold loc; rfl) (by unfold loc; rfl)
    (show (⟨k0_dev30 c, k0_dev30_lt c⟩ : Dev nD) = px c (pm 2) by revert c; decide +kernel) _ _) $$ He HO p21 q21
  iintro HO p21
  iapply (wait_o v K c (agzR 1) (by unfold isBar; rfl) (by unfold loc; rfl) _ (lv_agzR 1 (List.forall_mem_cons.2 ⟨by decide, hl⟩)) _) $$ He HO g
  iintro HO g
  ihave g := (got_agzR v c 1 2 rfl) $$ g
  icases g with ⟨g, q02, q12, q22⟩
  iapply (go_agp v K c 0 2 (off21_eq c 1) (by unfold loc; rfl) (by unfold loc; rfl)
    (show (⟨k0_dev31 c, k0_dev31_lt c⟩ : Dev nD) = px c (pm 0) by revert c; decide +kernel) _ _) $$ He HO p02 q02
  iintro HO p02
  iapply run_pure
  iapply Hk $$ HO p11 p21 g p02 q12 q22

theorem part38 (c : Dev nD) (w0 w1 w2 w3 w4 w5 : BitVec 32) (l : List Debt) (hl : ∀ p ∈ l, 4 < lvl p.1) (Q : PUnit → sProp 𝕄) :
    envp v K c ⊢ iprop(Ow c ((agpR 1 2, pm 1) :: (agpR 2 2, pm 2) :: l) -∗ inAgp c 1 2 -∗ third v c 2 1 -∗ inAgp c 2 2 -∗ third v c 2 2 -∗ todo c (agzR 2)
      -∗ (Ow c l -∗ todo c (agpS 1 2) -∗ todo c (agpS 2 2) -∗ semVal (cell c (agzR 2)) 0 -∗ third v c 3 0 -∗ third v c 3 1 -∗ third v c 3 2 -∗ Q ⟨⟩) -∗ run c (atArgs (k0_part38 (F := F)) c w0 w1 w2 w3 w4 w5) Q) := by
  simp only [k0_part38_eq_skeleton, k0_part38_skel, wp_bind]
  iintro #He HO p12 q12 p22 q22 g Hk
  iapply (go_agp v K c 1 2 (off21_eq c 1) (by unfold loc; rfl) (by unfold loc; rfl)
    (show (⟨k0_dev32 c, k0_dev32_lt c⟩ : Dev nD) = px c (pm 1) by revert c; decide +kernel) _ _) $$ He HO p12 q12
  iintro HO p12
  iapply (go_agp v K c 2 2 (off21_eq c 1) (by unfold loc; rfl) (by unfold loc; rfl)
    (show (⟨k0_dev33 c, k0_dev33_lt c⟩ : Dev nD) = px c (pm 2) by revert c; decide +kernel) _ _) $$ He HO p22 q22
  iintro HO p22
  iapply (wait_o v K c (agzR 2) (by unfold isBar; rfl) (by unfold loc; rfl) _ (lv_agzR 2 hl) _) $$ He HO g
  iintro HO g
  ihave g := (got_agzR v c 2 3 rfl) $$ g
  icases g with ⟨g, q03, q13, q23⟩
  iapply run_pure
  iapply Hk $$ HO p12 p22 g q03 q13 q23

theorem part39 (c : Dev nD) (w0 w1 : BitVec 32) (l : List Debt) (hl : ∀ p ∈ l, 0 < lvl p.1) (Q : PUnit → sProp 𝕄) :
    envp v K c ⊢ iprop(Ow c ((agpR 0 3, pm 0) :: (agpR 1 3, pm 1) :: (agpR 2 3, pm 2) :: l) -∗ inAgp c 0 3 -∗ third v c 3 0 -∗ inAgp c 1 3 -∗ third v c 3 1 -∗ inAgp c 2 3 -∗ third v c 3 2 -∗ todo c (agzS 0)
      -∗ (Ow c l -∗ todo c (agpS 0 3) -∗ todo c (agpS 1 3) -∗ todo c (agpS 2 3) -∗ got v c (agzS 0) -∗ Q ⟨⟩) -∗ run c (atArgs (k0_part39 (F := F)) c w0 w1) Q) := by
  simp only [k0_part39_eq_skeleton, k0_part39_skel, wp_bind]
  iintro #He HO p03 q03 p13 q13 p23 q23 g Hk
  iapply (go_agp v K c 0 3 (off21_eq c 2) (by unfold loc; rfl) (by unfold loc; rfl)
    (show (⟨k0_dev34 c, k0_dev34_lt c⟩ : Dev nD) = px c (pm 0) by revert c; decide +kernel) _ _) $$ He HO p03 q03
  iintro HO p03
  iapply (go_agp v K c 1 3 (off21_eq c 2) (by unfold loc; rfl) (by unfold loc; rfl)
    (show (⟨k0_dev35 c, k0_dev35_lt c⟩ : Dev nD) = px c (pm 1) by revert c; decide +kernel) _ _) $$ He HO p13 q13
  iintro HO p13
  iapply (go_agp v K c 2 3 (off21_eq c 2) (by unfold loc; rfl) (by unfold loc; rfl)
    (show (⟨k0_dev36 c, k0_dev36_lt c⟩ : Dev nD) = px c (pm 2) by revert c; decide +kernel) _ _) $$ He HO p23 q23
  iintro HO p23
  iapply (wait_o v K c (agzS 0) (by unfold isBar; rfl) (by unfold loc; rfl) _ (low hl) _) $$ He HO g
  iintro HO g
  iapply run_pure
  iapply Hk $$ HO p03 p13 p23 g

theorem part40 (c : Dev nD) (w0 w1 : BitVec 32) (l : List Debt) (hl : ∀ p ∈ l, 5 < lvl p.1) (Q : PUnit → sProp 𝕄) :
    envp v K c ⊢ iprop(Ow c l -∗ todo c (agzS 1) -∗ todo c (agzS 2) -∗ todo c (agpS 0 0) -∗ todo c (agpR 0 0) -∗ todo c (agpS 1 0)
      -∗ (Ow c l -∗ got v c (agzS 1) -∗ got v c (agzS 2) -∗ got v c (agpS 0 0) -∗ got v c (agpR 0 0) -∗ got v c (agpS 1 0) -∗ Q ⟨⟩) -∗ run c (atArgs (k0_part40 (F := F)) c w0 w1) Q) := by
  simp only [k0_part40_eq_skeleton, k0_part40_skel, wp_bind]
  iintro #He HO h0 h1 h2 h3 h4 Hk
  iapply (wait_o v K c (agzS 1) (by unfold isBar; rfl) (by unfold loc; rfl) _ (low hl) _) $$ He HO h0
  iintro HO g0
  iapply (wait_o v K c (agzS 2) (by unfold isBar; rfl) (by unfold loc; rfl) _ (low hl) _) $$ He HO h1
  iintro HO g1
  iapply (wait_o v K c (agpS 0 0) (by unfold isBar; rfl) (by unfold loc; rfl) _ (low hl) _) $$ He HO h2
  iintro HO g2
  iapply (wait_o v K c (agpR 0 0) (by unfold isBar; rfl) (by unfold loc; rfl) _ (lv_agpR 0 0 hl) _) $$ He HO h3
  iintro HO g3
  iapply (wait_o v K c (agpS 1 0) (by unfold isBar; rfl) (by unfold loc; rfl) _ (low hl) _) $$ He HO h4
  iintro HO g4
  iapply run_pure
  iapply Hk $$ HO g0 g1 g2 g3 g4

theorem part41 (c : Dev nD) (w0 w1 : BitVec 32) (l : List Debt) (hl : ∀ p ∈ l, 5 < lvl p.1) (Q : PUnit → sProp 𝕄) :
    envp v K c ⊢ iprop(Ow c l -∗ todo c (agpR 1 0) -∗ todo c (agpS 2 0) -∗ todo c (agpR 2 0) -∗ todo c (agpS 0 1) -∗ todo c (agpR 0 1)
      -∗ (Ow c l -∗ got v c (agpR 1 0) -∗ got v c (agpS 2 0) -∗ got v c (agpR 2 0) -∗ got v c (agpS 0 1) -∗ got v c (agpR 0 1) -∗ Q ⟨⟩) -∗ run c (atArgs (k0_part41 (F := F)) c w0 w1) Q) := by
  simp only [k0_part41_eq_skeleton, k0_part41_skel, wp_bind]
  iintro #He HO h0 h1 h2 h3 h4 Hk
  iapply (wait_o v K c (agpR 1 0) (by unfold isBar; rfl) (by unfold loc; rfl) _ (lv_agpR 1 0 hl) _) $$ He HO h0
  iintro HO g0
  iapply (wait_o v K c (agpS 2 0) (by unfold isBar; rfl) (by unfold loc; rfl) _ (low hl) _) $$ He HO h1
  iintro HO g1
  iapply (wait_o v K c (agpR 2 0) (by unfold isBar; rfl) (by unfold loc; rfl) _ (lv_agpR 2 0 hl) _) $$ He HO h2
  iintro HO g2
  iapply (wait_o v K c (agpS 0 1) (by unfold isBar; rfl) (by unfold loc; rfl) _ (low hl) _) $$ He HO h3
  iintro HO g3
  iapply (wait_o v K c (agpR 0 1) (by unfold isBar; rfl) (by unfold loc; rfl) _ (lv_agpR 0 1 hl) _) $$ He HO h4
  iintro HO g4
  iapply run_pure
  iapply Hk $$ HO g0 g1 g2 g3 g4

theorem part42 (c : Dev nD) (w0 w1 : BitVec 32) (l : List Debt) (hl : ∀ p ∈ l, 5 < lvl p.1) (Q : PUnit → sProp 𝕄) :
    envp v K c ⊢ iprop(Ow c l -∗ todo c (agpS 1 1) -∗ todo c (agpR 1 1) -∗ todo c (agpS 2 1) -∗ todo c (agpR 2 1)
      -∗ (Ow c l -∗ got v c (agpS 1 1) -∗ got v c (agpR 1 1) -∗ got v c (agpS 2 1) -∗ got v c (agpR 2 1) -∗ Q ⟨⟩) -∗ run c (atArgs (k0_part42 (F := F)) c w0 w1) Q) := by
  simp only [k0_part42_eq_skeleton, k0_part42_skel, wp_bind]
  iintro #He HO h0 h1 h2 h3 Hk
  iapply (wait_o v K c (agpS 1 1) (by unfold isBar; rfl) (by unfold loc; rfl) _ (low hl) _) $$ He HO h0
  iintro HO g0
  iapply (wait_o v K c (agpR 1 1) (by unfold isBar; rfl) (by unfold loc; rfl) _ (lv_agpR 1 1 hl) _) $$ He HO h1
  iintro HO g1
  iapply (wait_o v K c (agpS 2 1) (by unfold isBar; rfl) (by unfold loc; rfl) _ (low hl) _) $$ He HO h2
  iintro HO g2
  iapply (wait_o v K c (agpR 2 1) (by unfold isBar; rfl) (by unfold loc; rfl) _ (lv_agpR 2 1 hl) _) $$ He HO h3
  iintro HO g3
  iapply run_pure
  iapply Hk $$ HO g0 g1 g2 g3

theorem part43 (c : Dev nD) (w0 w1 : BitVec 32) (l : List Debt) (hl : ∀ p ∈ l, 5 < lvl p.1) (Q : PUnit → sProp 𝕄) :
    envp v K c ⊢ iprop(Ow c l -∗ todo c (agpS 0 2) -∗ todo c (agpR 0 2) -∗ todo c (agpS 1 2) -∗ todo c (agpR 1 2) -∗ todo c (agpS 2 2)
      -∗ (Ow c l -∗ got v c (agpS 0 2) -∗ got v c (agpR 0 2) -∗ got v c (agpS 1 2) -∗ got v c (agpR 1 2) -∗ got v c (agpS 2 2) -∗ Q ⟨⟩) -∗ run c (atArgs (k0_part43 (F := F)) c w0 w1) Q) := by
  simp only [k0_part43_eq_skeleton, k0_part43_skel, wp_bind]
  iintro #He HO h0 h1 h2 h3 h4 Hk
  iapply (wait_o v K c (agpS 0 2) (by unfold isBar; rfl) (by unfold loc; rfl) _ (low hl) _) $$ He HO h0
  iintro HO g0
  iapply (wait_o v K c (agpR 0 2) (by unfold isBar; rfl) (by unfold loc; rfl) _ (lv_agpR 0 2 hl) _) $$ He HO h1
  iintro HO g1
  iapply (wait_o v K c (agpS 1 2) (by unfold isBar; rfl) (by unfold loc; rfl) _ (low hl) _) $$ He HO h2
  iintro HO g2
  iapply (wait_o v K c (agpR 1 2) (by unfold isBar; rfl) (by unfold loc; rfl) _ (lv_agpR 1 2 hl) _) $$ He HO h3
  iintro HO g3
  iapply (wait_o v K c (agpS 2 2) (by unfold isBar; rfl) (by unfold loc; rfl) _ (low hl) _) $$ He HO h4
  iintro HO g4
  iapply run_pure
  iapply Hk $$ HO g0 g1 g2 g3 g4

theorem part44 (c : Dev nD) (w0 w1 w2 : BitVec 32) (l : List Debt) (hl : ∀ p ∈ l, 5 < lvl p.1) (Q : BitVec 32 → sProp 𝕄) :
    envp v K c ⊢ iprop(Ow c l -∗ todo c (agpR 2 2) -∗ todo c (agpS 0 3) -∗ todo c (agpR 0 3) -∗ todo c (agpS 1 3)
      -∗ (Ow c l -∗ got v c (agpR 2 2) -∗ got v c (agpS 0 3) -∗ got v c (agpR 0 3) -∗ got v c (agpS 1 3) -∗ ∀ a, Q a) -∗ run c (atArgs (k0_part44 (F := F)) c w0 w1 w2) Q) := by
  simp only [k0_part44_eq_skeleton, k0_part44_skel, wp_bind]
  iintro #He HO h0 h1 h2 h3 Hk
  iapply (wait_o v K c (agpR 2 2) (by unfold isBar; rfl) (by unfold loc; rfl) _ (lv_agpR 2 2 hl) _) $$ He HO h0
  iintro HO g0
  iapply (wait_o v K c (agpS 0 3) (by unfold isBar; rfl) (by unfold loc; rfl) _ (low hl) _) $$ He HO h1
  iintro HO g1
  iapply (wait_o v K c (agpR 0 3) (by unfold isBar; rfl) (by unfold loc; rfl) _ (lv_agpR 0 3 hl) _) $$ He HO h2
  iintro HO g2
  iapply (wait_o v K c (agpS 1 3) (by unfold isBar; rfl) (by unfold loc; rfl) _ (low hl) _) $$ He HO h3
  iintro HO g3
  iapply run_pure
  iapply Hk $$ HO g0 g1 g2 g3

theorem part45 (c : Dev nD) (w0 w1 w2 w3 w4 : BitVec 32) (l : List Debt) (hl : ∀ p ∈ l, 5 < lvl p.1) (Q : PUnit → sProp 𝕄) :
    envp v K c ⊢ iprop(Ow c ((ext, mask (false, 0)) :: (ext, mask (false, 1)) :: (ext, mask (false, 2)) :: (ext, mask (true, 0)) :: l) -∗ todo c (agpR 1 3) -∗ todo c (agpS 2 3) -∗ todo c (agpR 2 3) -∗ dutyTok ER (cell (px c (mask (false, 0))) ext) 0 (false, 0) -∗ dutyTok ER (cell (px c (mask (false, 1))) ext) 0 (false, 1) -∗ dutyTok ER (cell (px c (mask (false, 2))) ext) 0 (false, 2) -∗ dutyTok ER (cell (px c (mask (true, 0))) ext) 0 (true, 0)
      -∗ (Ow c l -∗ got v c (agpR 1 3) -∗ got v c (agpS 2 3) -∗ got v c (agpR 2 3) -∗ Q ⟨⟩) -∗ run c (atArgs (k0_part45 (F := F)) c w0 w1 w2 w3 w4) Q) := by
  simp only [k0_part45_eq_skeleton, k0_part45_skel, wp_bind]
  iintro #He HO g0 g1 g2 e0 e1 e2 e3 Hk
  iapply (wait_o v K c (agpR 1 3) (by unfold isBar; rfl) (by unfold loc; rfl) _ (lv_agpR 1 3 (List.forall_mem_cons.2 ⟨by decide, (List.forall_mem_cons.2 ⟨by decide, (List.forall_mem_cons.2 ⟨by decide, (List.forall_mem_cons.2 ⟨by decide, hl⟩)⟩)⟩)⟩)) _) $$ He HO g0
  iintro HO g0
  iapply (wait_o v K c (agpS 2 3) (by unfold isBar; rfl) (by unfold loc; rfl) _ (low_cons (by decide) (low_cons (by decide) (low_cons (by decide) (low_cons (by decide) (low hl))))) _) $$ He HO g1
  iintro HO g1
  iapply (wait_o v K c (agpR 2 3) (by unfold isBar; rfl) (by unfold loc; rfl) _ (lv_agpR 2 3 (List.forall_mem_cons.2 ⟨by decide, (List.forall_mem_cons.2 ⟨by decide, (List.forall_mem_cons.2 ⟨by decide, (List.forall_mem_cons.2 ⟨by decide, hl⟩)⟩)⟩)⟩)) _) $$ He HO g2
  iintro HO g2
  iapply (go_exit v K c (by unfold loc; rfl) (false, 0)
    (show (⟨k0_dev37 c, k0_dev37_lt c⟩ : Dev nD) = px c (pm 0) by revert c; decide +kernel) _ _) $$ He HO e0
  iintro HO
  iapply (go_exit v K c (by unfold loc; rfl) (false, 1)
    (show (⟨k0_dev38 c, k0_dev38_lt c⟩ : Dev nD) = px c (pm 1) by revert c; decide +kernel) _ _) $$ He HO e1
  iintro HO
  iapply (go_exit v K c (by unfold loc; rfl) (false, 2)
    (show (⟨k0_dev39 c, k0_dev39_lt c⟩ : Dev nD) = px c (pm 2) by revert c; decide +kernel) _ _) $$ He HO e2
  iintro HO
  iapply (go_exit v K c (by unfold loc; rfl) (true, 0)
    (show (⟨k0_dev40 c, k0_dev40_lt c⟩ : Dev nD) = px c (zm 0) by revert c; decide +kernel) _ _) $$ He HO e3
  iintro HO
  iapply run_pure
  iapply Hk $$ HO g0 g1 g2

end Cert.Attn

end
-- ==== Proof.Local.lean ====
/-
  Loads and stores of the buffers a device computes in.
-/
module

public import proofs.«01_k».proof.Proof.Attn
public import proofs.«01_k».proof.Proof.Gather

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3)

variable {F : FTy → Type} [FloatOps F] [Named F]

local notation "𝕄" => MT nD τ sig Unit (Elt F) ℕ UU ℕ

attribute [local irreducible] loc px owedK isBar sPay

abbrev xM : Memref sig .tc .vmem S1024x1024 .bf16 := Memref.whole cc0_stg0_0
abbrev wqM : Memref sig .tc .vmem S1024x1024 .bf16 := Memref.whole cc0_stg1_0
abbrev wkM : Memref sig .tc .vmem S1024x1024 .bf16 := Memref.whole cc0_stg2_0
abbrev wvM : Memref sig .tc .vmem S1024x1024 .bf16 := Memref.whole cc0_stg3_0
abbrev woM : Memref sig .tc .vmem S1024x1024 .bf16 := Memref.whole cc0_stg4_0
abbrev csM : Memref sig .tc .vmem S512x64 .bf16 := Memref.whole cc0_stg5_0
abbrev snM : Memref sig .tc .vmem S512x64 .bf16 := Memref.whole cc0_stg6_0
abbrev kM : Memref sig .tc .vmem S1024x1024 .bf16 := Memref.whole cc0_scratch0
abbrev vM : Memref sig .tc .vmem S1024x1024 .bf16 := Memref.whole cc0_scratch1

/-- A whole buffer of device `c`. -/
abbrev buf {s : Shape} (m : Memref sig .tc .vmem s .bf16) (c : Dev nD) (f : Buf (Elt F) (m.view.loc (c : Thread nD τ))) : sProp 𝕄 :=
  m.view.loc (c : Thread nD τ) ↦[Finset.univ]{fullShare} f

/-! ## Loads -/

theorem load_any {s : Shape} (m : Memref sig .tc .vmem s .bf16) (c : Dev nD) (f : Buf (Elt F) (m.view.loc (c : Thread nD τ))) (r : Rect s) {hl}
    (Q : (r.shape.Idx → Elt F .bf16) → sProp 𝕄) :
    buf m c f ⊢ iprop((buf m c f -∗ Q ((m.access r).read (Elt F) f)) -∗ run c (Prog.lift (.load m r.toLoadRect hl)) Q) := by
  unfold run Prog.lift
  iintro H Hk
  iapply (wp_load_rect 𝒱₀ (c : Thread nD τ) none Set.univ (m := m) (r := r) (S := Finset.univ) (f := f) (Finset.subset_univ _)) $$ H
  iintro H
  rw [wp_ret]
  imodintro
  iapply Hk; iexact H

theorem load_tile (m : Memref sig .tc .vmem S1024x1024 .bf16) (c : Dev nD) (f : Buf (Elt F) (m.view.loc (c : Thread nD τ))) (X : FVec F S1024x1024 .bf16)
    (hX : m.view.read (Elt F) f = X) (b : Fin 2) (h : Fin 8) {off : Fin 2 → Nat} {hoff} (ho : off = ![512 * b.val, 128 * h.val]) {hl}
    (Q : Vec F S512x128 .bf16 → sProp 𝕄) :
    buf m c f ⊢ iprop((buf m c f -∗ Q (tile X b h)) -∗ run c (Prog.lift (.load m (Rect.unit (s := S1024x1024) off S512x128.size hoff).toLoadRect hl)) Q) := by
  subst ho hX
  have he : ((m.access (Rect.unit (s := S1024x1024) ![512 * b.val, 128 * h.val] S512x128.size hoff)).read (Elt F) f : Vec F S512x128 .bf16)
      = tile (m.view.read (Elt F) f) b h := by
    funext x
    show m.view.read (Elt F) f _ = m.view.read (Elt F) f _
    congr 1
    funext a
    exact Fin.ext (show _ + 1 * (x a).val = _ + (x a).val by rw [Nat.one_mul]; rfl)
  have h' := load_any m c f (Rect.unit (s := S1024x1024) ![512 * b.val, 128 * h.val] S512x128.size hoff) (hl := hl) Q
  rw [show (m.access (Rect.unit (s := S1024x1024) ![512 * b.val, 128 * h.val] S512x128.size hoff)).read (Elt F) f = tile (m.view.read (Elt F) f) b h from he] at h'
  exact h'
theorem load_rows (m : Memref sig .tc .vmem S1024x1024 .bf16) (c : Dev nD) (f : Buf (Elt F) (m.view.loc (c : Thread nD τ))) (X : FVec F S1024x1024 .bf16)
    (hX : m.view.read (Elt F) f = X) (b : Fin 2) {off : Fin 2 → Nat} {hoff} (ho : off = ![512 * b.val, 0]) {hl} (Q : Vec F S512x1024 .bf16 → sProp 𝕄) :
    buf m c f ⊢ iprop((buf m c f -∗ Q (rows X b)) -∗ run c (Prog.lift (.load m (Rect.unit (s := S1024x1024) off S512x1024.size hoff).toLoadRect hl)) Q) := by
  subst ho hX
  have he : ((m.access (Rect.unit (s := S1024x1024) ![512 * b.val, 0] S512x1024.size hoff)).read (Elt F) f : Vec F S512x1024 .bf16)
      = rows (m.view.read (Elt F) f) b := by
    funext x
    show m.view.read (Elt F) f _ = m.view.read (Elt F) f _
    congr 1
    funext a
    exact Fin.ext (show _ + 1 * (x a).val = _ + (x a).val by rw [Nat.one_mul]; rfl)
  have h' := load_any m c f (Rect.unit (s := S1024x1024) ![512 * b.val, 0] S512x1024.size hoff) (hl := hl) Q
  rw [show (m.access (Rect.unit (s := S1024x1024) ![512 * b.val, 0] S512x1024.size hoff)).read (Elt F) f = rows (m.view.read (Elt F) f) b from he] at h'
  exact h'
theorem load_all {s : Shape} (m : Memref sig .tc .vmem s .bf16) (c : Dev nD) (f : Buf (Elt F) (m.view.loc (c : Thread nD τ))) (X : FVec F s .bf16)
    (hX : m.view.read (Elt F) f = X) {off : Fin s.rank → Nat} {hoff} (ho : ∀ a, off a = 0) {hl} (Q : Vec F s .bf16 → sProp 𝕄) :
    buf m c f ⊢ iprop((buf m c f -∗ Q X) -∗ run c (Prog.lift (.load m (Rect.unit (s := s) off s.size hoff).toLoadRect hl)) Q) := by
  subst hX
  have he : ((m.access (Rect.unit (s := s) off s.size hoff)).read (Elt F) f : Vec F s .bf16) = m.view.read (Elt F) f := by
    funext x
    show m.view.read (Elt F) f _ = m.view.read (Elt F) f _
    congr 1
    funext a
    exact Fin.ext (show off a + 1 * (x a).val = (x a).val by rw [ho, Nat.zero_add, Nat.one_mul])
  have h := load_any m c f (Rect.unit (s := s) off s.size hoff) (hl := hl) Q
  rw [show (m.access (Rect.unit (s := s) off s.size hoff)).read (Elt F) f = m.view.read (Elt F) f from he] at h
  exact h

/-! ## Stores -/

/-- The keys' buffer with the first `n` heads of the two halves stored. -/
def kst (c : Dev nD) (X : FVec F S1024x1024 .bf16) (n : ℕ) : sProp 𝕄 :=
  iprop(∃ f : OutC F, ⌜∀ i : S1024x1024.Idx, 8 * ((i 0).val / 512) + (i 1).val / 128 < n → f i = X i⌝ ∗ buf kM c f)
theorem kst_start (c : Dev nD) (X : FVec F S1024x1024 .bf16) (f : OutC F) : buf kM c f ⊢ kst c X 0 := by
  unfold kst
  iintro H
  iexists f
  isplitr
  · ipureintro; intro i h; omega
  iexact H
theorem kst_end (c : Dev nD) (X : FVec F S1024x1024 .bf16) : kst c X 16 ⊢ buf kM c X := by
  unfold kst
  iintro ⟨%f, %h, H⟩
  have hf : f = X := funext fun i => h i (by
    have h0 : (i 0).val < 1024 := (i 0).isLt
    have h1 : (i 1).val < 1024 := (i 1).isLt
    omega)
  subst hf
  iexact H
theorem load_kst (c : Dev nD) (X : FVec F S1024x1024 .bf16) (n : ℕ) {off : Fin 2 → Nat} {hoff} {hl} (Q : Vec F S512x128 .bf16 → sProp 𝕄) :
    kst c X n ⊢ iprop((kst c X n -∗ ∀ w, Q w) -∗ run c (Prog.lift (.load kM (Rect.unit (s := S1024x1024) off S512x128.size hoff).toLoadRect hl)) Q) := by
  unfold kst
  iintro ⟨%f, %h, H⟩ Hk
  iapply (load_any kM c f (Rect.unit (s := S1024x1024) off S512x128.size hoff) Q) $$ H
  iintro H
  rw [show ((kM.access (Rect.unit (s := S1024x1024) off S512x128.size hoff)).read (Elt F) f : Vec F S512x128 .bf16)
    = (fun x : S512x128.Idx => (kM.access (Rect.unit (s := S1024x1024) off S512x128.size hoff)).read (Elt F) f x : Vec F S512x128 .bf16) from rfl]
  iapply Hk $$ [H]
  iexists f
  isplitr
  · ipureintro; exact h
  iexact H

abbrev tileRect (b : Fin 2) (h : Fin 8) (hoff : ∀ a, (![512 * b.val, 128 * h.val] : Fin 2 → Nat) a + S512x128.size a ≤ S1024x1024.size a) : Rect S1024x1024 := Rect.unit (s := S1024x1024) ![512 * b.val, 128 * h.val] S512x128.size hoff
theorem tile_written (f : OutC F) (X : FVec F S1024x1024 .bf16) (b : Fin 2) (h : Fin 8) (hoff) (hf : ∀ i : S1024x1024.Idx, 8 * ((i 0).val / 512) + (i 1).val / 128 < 8 * b.val + h.val → f i = X i)
    (i : S1024x1024.Idx) (hi : 8 * ((i 0).val / 512) + (i 1).val / 128 < 8 * b.val + h.val + 1) :
    (kM.access (tileRect b h hoff)).write (Elt F) f (tile X b h) Finset.univ i = X i := by
  have h0 : (i 0).val < 1024 := (i 0).isLt
  have h1 : (i 1).val < 1024 := (i 1).isLt
  by_cases hs : i ∈ (kM.access (tileRect b h hoff)).set
  · obtain ⟨x, -, rfl⟩ := Finset.mem_map.1 hs
    rw [View.write_emb_of_mem _ _ (Finset.mem_univ _)]
    show X _ = X _
    congr 1
    funext a
    exact Fin.ext (show _ + (x a).val = _ + 1 * (x a).val by rw [Nat.one_mul]; rfl)
  · rw [View.write_of_not_mem _ _ _ (by rw [View.setOn_univ]; exact hs)]
    refine hf i ?_
    have hn : ¬ (512 * b.val ≤ (i 0).val ∧ (i 0).val < 512 * b.val + 512 ∧ 128 * h.val ≤ (i 1).val ∧ (i 1).val < 128 * h.val + 128) := by
      intro ⟨ha, hb, hc, hd⟩
      apply hs
      show i ∈ ((View.whole cc0_scratch0).slice (tileRect b h hoff)).set
      rw [View.set_slice_whole, Rect.mem_set_unit]
      intro a
      fin_cases a
      · exact ⟨ha, hb⟩
      · exact ⟨hc, hd⟩
    omega
theorem store_kst (c : Dev nD) (X : FVec F S1024x1024 .bf16) (b : Fin 2) (h : Fin 8) (n n' : ℕ) (hn : n = 8 * b.val + h.val) (hn' : n' = 8 * b.val + h.val + 1)
    {off : Fin 2 → Nat} {hoff} (ho : off = ![512 * b.val, 128 * h.val])
    {w : Vec F S512x128 .bf16} (hw : w = tile X b h) {hx hm} (Q : PUnit → sProp 𝕄) :
    kst c X n ⊢ iprop((kst c X n' -∗ Q ⟨⟩)
      -∗ run c (Prog.lift (.store kM (Rect.unit (s := S1024x1024) off S512x128.size hoff) w Finset.univ hx hm)) Q) := by
  subst ho hw hn hn'
  unfold kst run Prog.lift
  iintro ⟨%f, %hf, H⟩ Hk
  iapply (wp_store 𝒱₀ (c : Thread nD τ) none Set.univ (m := kM) (r := tileRect b h hoff) (S := Finset.univ) (f := f) (w := tile X b h) (Mk := Finset.univ)
    (Finset.subset_univ _)) $$ H
  iintro H
  rw [wp_ret]
  imodintro
  iapply Hk
  iexists _
  isplitr
  · ipureintro; exact tile_written f X b h hoff hf
  iexact H

theorem store_vals (c : Dev nD) (f X : OutC F) {off : Fin 2 → Nat} {hoff} (ho : off = ![0, 0]) {hx hm} (Q : PUnit → sProp 𝕄) :
    buf vM c f ⊢ iprop((buf vM c X -∗ Q ⟨⟩)
      -∗ run c (Prog.lift (.store vM (Rect.unit (s := S1024x1024) off S1024x1024.size hoff) X Finset.univ hx hm)) Q) := by
  subst ho
  unfold run Prog.lift
  iintro H Hk
  iapply (wp_store 𝒱₀ (c : Thread nD τ) none Set.univ (m := vM) (r := Rect.unit (s := S1024x1024) ![0, 0] S1024x1024.size hoff) (S := Finset.univ) (f := f)
    (w := X) (Mk := Finset.univ) (Finset.subset_univ _)) $$ H
  iintro H
  rw [wp_ret]
  imodintro
  iapply Hk
  have he : ∀ i ∈ (Finset.univ : Finset S1024x1024.Idx),
      (vM.access (Rect.unit (s := S1024x1024) ![0, 0] S1024x1024.size hoff)).write (Elt F) f X Finset.univ i = X i := by
    intro i _
    have hi : (vM.access (Rect.unit (s := S1024x1024) ![0, 0] S1024x1024.size hoff)).emb i = i := by
      funext a
      refine Fin.ext (show (![0, 0] : Fin 2 → Nat) a + 1 * (i a).val = (i a).val from ?_)
      fin_cases a <;> exact (Nat.zero_add _).trans (Nat.one_mul _)
    have hw := View.write_emb_of_mem (v := vM.access (Rect.unit (s := S1024x1024) ![0, 0] S1024x1024.size hoff)) (Val := Elt F) f X (Finset.mem_univ i)
    rw [hi] at hw
    exact hw
  have h := pointsTo_congr (nD := nD) (τ := τ) (sig := sig) (Val := Elt F) (Name := ℕ) (Ix := Unit) (U := UU) (Lvl := ℕ)
    (ℓ := vM.view.loc (c : Thread nD τ)) (q := fullShare) he
  iapply (Entails.of_eq h) $$ H

/-! ## The result's buffer by halves -/

def halfSet (b : Fin 2) : Finset S1024x1024.Idx := Finset.univ.filter fun i => (i 0).val / 512 = b.val
abbrev halfP (c : Dev nD) (b : Fin 2) (X : OutC F) : sProp 𝕄 := outM.view.loc (c : Thread nD τ) ↦[halfSet b]{fullShare} X
abbrev halfRect (b : Fin 2) (hoff : ∀ a, (![512 * b.val, 0] : Fin 2 → Nat) a + S512x1024.size a ≤ S1024x1024.size a) : Rect S1024x1024 := Rect.unit (s := S1024x1024) ![512 * b.val, 0] S512x1024.size hoff
theorem half_set (b : Fin 2) (hoff) : (outM.access (halfRect b hoff)).set = halfSet b := by
  ext i
  show i ∈ ((View.whole cc0_stg7_0).slice (halfRect b hoff)).set ↔ _
  rw [View.set_slice_whole, Rect.mem_set_unit, halfSet, Finset.mem_filter]
  have h1 : (i 1).val < 1024 := (i 1).isLt
  have h0 : (i 0).val < 1024 := (i 0).isLt
  constructor
  · intro h
    have ha : 512 * b.val ≤ (i 0).val := (h 0).1
    have hb : (i 0).val < 512 * b.val + 512 := (h 0).2
    exact ⟨Finset.mem_univ _, by omega⟩
  · rintro ⟨-, h⟩ a
    fin_cases a
    · exact ⟨show 512 * b.val ≤ (i 0).val by omega, show (i 0).val < 512 * b.val + 512 by omega⟩
    · exact ⟨Nat.zero_le _, by show (i 1).val < 0 + 1024; omega⟩
theorem load_half (c : Dev nD) (b : Fin 2) (X : OutC F) {off : Fin 2 → Nat} {hoff} (ho : off = ![512 * b.val, 0]) {hl} (Q : Vec F S512x1024 .bf16 → sProp 𝕄) :
    halfP c b X ⊢ iprop((halfP c b X -∗ ∀ w, Q w)
      -∗ run c (Prog.lift (.load outM (Rect.unit (s := S1024x1024) off S512x1024.size hoff).toLoadRect hl)) Q) := by
  subst ho
  unfold run Prog.lift
  iintro H Hk
  iapply (wp_load_rect 𝒱₀ (c : Thread nD τ) none Set.univ (m := outM) (r := halfRect b hoff) (S := halfSet b) (f := X)
    (Finset.subset_of_eq (half_set b hoff))) $$ H
  iintro H
  rw [wp_ret]
  imodintro
  rw [show ((outM.access (halfRect b hoff)).read (Elt F) X : Vec F S512x1024 .bf16)
    = (fun x : S512x1024.Idx => (outM.access (halfRect b hoff)).read (Elt F) X x : Vec F S512x1024 .bf16) from rfl]
  iapply Hk $$ H
theorem store_half (c : Dev nD) (b : Fin 2) (f X : OutC F) {off : Fin 2 → Nat} {hoff} (ho : off = ![512 * b.val, 0]) {w : Vec F S512x1024 .bf16} (hw : rows X b = w) {hx hm}
    (Q : PUnit → sProp 𝕄) :
    halfP c b f ⊢ iprop((halfP c b X -∗ Q ⟨⟩)
      -∗ run c (Prog.lift (.store outM (Rect.unit (s := S1024x1024) off S512x1024.size hoff) w Finset.univ hx hm)) Q) := by
  subst ho hw
  unfold run Prog.lift
  iintro H Hk
  iapply (wp_store 𝒱₀ (c : Thread nD τ) none Set.univ (m := outM) (r := halfRect b hoff) (S := halfSet b) (f := f) (w := rows X b) (Mk := Finset.univ)
    (Finset.subset_of_eq (half_set b hoff))) $$ H
  iintro H
  rw [wp_ret]
  imodintro
  iapply Hk
  have he : ∀ i ∈ halfSet b, (outM.access (halfRect b hoff)).write (Elt F) f (rows X b) Finset.univ i = X i := by
    intro i hi
    rw [← half_set b hoff] at hi
    obtain ⟨x, -, rfl⟩ := Finset.mem_map.1 hi
    rw [View.write_emb_of_mem _ _ (Finset.mem_univ _)]
    show X _ = X _
    congr 1
    funext a
    exact Fin.ext (show _ + (x a).val = _ + 1 * (x a).val by rw [Nat.one_mul]; rfl)
  have h := pointsTo_congr (nD := nD) (τ := τ) (sig := sig) (Val := Elt F) (Name := ℕ) (Ix := Unit) (U := UU) (Lvl := ℕ)
    (ℓ := outM.view.loc (c : Thread nD τ)) (q := fullShare) he
  iapply (Entails.of_eq h) $$ H

/-- The half computed first, and the other. -/
def hA (c : Dev nD) : Fin 2 := ⟨1 - c.val % 4 / 2, by omega⟩
def hB (c : Dev nD) : Fin 2 := ⟨c.val % 4 / 2, by omega⟩
theorem off1_eq (c : Dev nD) : k0_off1 c = ![512 * (hA c).val, 0] := by revert c; decide +kernel
theorem off2_eq (c : Dev nD) : k0_off2 c = ![512 * (hA c).val, 128 * (0 : Fin 8).val] := by revert c; decide +kernel
theorem off3_eq (c : Dev nD) : k0_off3 c = ![512 * (hA c).val, 128 * (1 : Fin 8).val] := by revert c; decide +kernel
theorem off4_eq (c : Dev nD) : k0_off4 c = ![512 * (hA c).val, 128 * (2 : Fin 8).val] := by revert c; decide +kernel
theorem off5_eq (c : Dev nD) : k0_off5 c = ![512 * (hA c).val, 128 * (3 : Fin 8).val] := by revert c; decide +kernel
theorem off6_eq (c : Dev nD) : k0_off6 c = ![512 * (hA c).val, 128 * (4 : Fin 8).val] := by revert c; decide +kernel
theorem off7_eq (c : Dev nD) : k0_off7 c = ![512 * (hA c).val, 128 * (5 : Fin 8).val] := by revert c; decide +kernel
theorem off8_eq (c : Dev nD) : k0_off8 c = ![512 * (hA c).val, 128 * (6 : Fin 8).val] := by revert c; decide +kernel
theorem off9_eq (c : Dev nD) : k0_off9 c = ![512 * (hA c).val, 128 * (7 : Fin 8).val] := by revert c; decide +kernel
theorem off11_eq (c : Dev nD) : k0_off11 c = ![512 * (hB c).val, 0] := by revert c; decide +kernel
theorem off12_eq (c : Dev nD) : k0_off12 c = ![512 * (hB c).val, 128 * (0 : Fin 8).val] := by revert c; decide +kernel
theorem off13_eq (c : Dev nD) : k0_off13 c = ![512 * (hB c).val, 128 * (1 : Fin 8).val] := by revert c; decide +kernel
theorem off14_eq (c : Dev nD) : k0_off14 c = ![512 * (hB c).val, 128 * (2 : Fin 8).val] := by revert c; decide +kernel
theorem off15_eq (c : Dev nD) : k0_off15 c = ![512 * (hB c).val, 128 * (3 : Fin 8).val] := by revert c; decide +kernel
theorem off16_eq (c : Dev nD) : k0_off16 c = ![512 * (hB c).val, 128 * (4 : Fin 8).val] := by revert c; decide +kernel
theorem off17_eq (c : Dev nD) : k0_off17 c = ![512 * (hB c).val, 128 * (5 : Fin 8).val] := by revert c; decide +kernel
theorem off18_eq (c : Dev nD) : k0_off18 c = ![512 * (hB c).val, 128 * (6 : Fin 8).val] := by revert c; decide +kernel
theorem off19_eq (c : Dev nD) : k0_off19 c = ![512 * (hB c).val, 128 * (7 : Fin 8).val] := by revert c; decide +kernel

end Cert.Attn

end
-- ==== Proof.Compute.lean ====
/-
  The parts that compute: keys, values and the two halves of the attention.
-/
module

public import proofs.«01_k».proof.Proof.Local

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3)

variable {F : FTy → Type} [FloatOps F] [Named F]

local notation "𝕄" => MT nD τ sig Unit (Elt F) ℕ UU ℕ

attribute [local irreducible] loc px owedK isBar sPay

variable (v : Vals F) (K : GSem nD τ sig → ℕ)

variable (I : Ins F)

theorem part2 (c : Dev nD) (Q : (Σ' (_ : FVec F S512x64 .bf16) (_ : FVec F S512x64 .bf16) (_ : FVec F S1024x1024 .bf16), FVec F S512x128 .bf16) → sProp 𝕄) :
    buf csM c I.cs ⊢ iprop(buf snM c I.sn -∗ buf xM c I.x -∗ buf wkM c I.wk -∗ kst c I.keys 0 -∗ (buf csM c I.cs -∗ buf snM c I.sn -∗ buf xM c I.x -∗ buf wkM c I.wk -∗ kst c I.keys 2 -∗ Q ⟨I.cs, I.sn, I.km, k0_pay6 I.cs I.sn I.x I.wk⟩)
      -∗ run c (atArgs (k0_part2 (F := F)) ) Q) := by
  simp only [k0_part2_eq_skeleton, k0_part2_skel, wp_bind]
  iintro cs sn x wk k Hk
  iapply (load_all csM c I.cs I.cs rfl (fun a => by fin_cases a <;> rfl) _) $$ cs
  iintro cs
  iapply (load_all snM c I.sn I.sn rfl (fun a => by fin_cases a <;> rfl) _) $$ sn
  iintro sn
  iapply (load_all xM c I.x I.x rfl (fun a => by fin_cases a <;> rfl) _) $$ x
  iintro x
  iapply (load_all wkM c I.wk I.wk rfl (fun a => by fin_cases a <;> rfl) _) $$ wk
  iintro wk
  iapply (load_kst c I.keys 0 _) $$ k
  iintro k %_
  iapply (store_kst c I.keys 0 0 0 1 rfl rfl rfl (key00 I) _) $$ k
  iintro k
  iapply (load_kst c I.keys 1 _) $$ k
  iintro k %_
  iapply (store_kst c I.keys 0 1 1 2 rfl rfl rfl (key01 I) _) $$ k
  iintro k
  rw [pay1_eq, pay2_eq, show k0_pay3 I.x I.wk = I.km from rfl]
  iapply run_pure
  iapply Hk $$ cs sn x wk k

theorem part3 (c : Dev nD) (Q : (Σ' (_ : FVec F S512x64 .bf16) (_ : FVec F S512x64 .bf16), FVec F S512x64 .bf16) → sProp 𝕄) :
    kst c I.keys 2 ⊢ iprop((kst c I.keys 6 -∗ Q ⟨k0_pay12 I.km, k0_pay13 I.km, k0_pay14 I.cs I.sn I.km⟩)
      -∗ run c (atArgs (k0_part3 (F := F)) I.cs I.sn I.km (k0_pay6 I.cs I.sn I.x I.wk)) Q) := by
  simp only [k0_part3_eq_skeleton, k0_part3_skel, wp_bind]
  iintro k Hk
  iapply (load_kst c I.keys 2 _) $$ k
  iintro k %_
  iapply (store_kst c I.keys 0 2 2 3 rfl rfl rfl (key02 I) _) $$ k
  iintro k
  iapply (load_kst c I.keys 3 _) $$ k
  iintro k %_
  iapply (store_kst c I.keys 0 3 3 4 rfl rfl rfl (key03 I) _) $$ k
  iintro k
  iapply (load_kst c I.keys 4 _) $$ k
  iintro k %_
  iapply (store_kst c I.keys 0 4 4 5 rfl rfl rfl (key04 I) _) $$ k
  iintro k
  iapply (load_kst c I.keys 5 _) $$ k
  iintro k %_
  iapply (store_kst c I.keys 0 5 5 6 rfl rfl rfl (key05 I) _) $$ k
  iintro k
  iapply run_pure
  iapply Hk $$ k

theorem part4 (c : Dev nD) (Q : (Σ' (_ : FVec F S512x128 .bf16), FVec F S512x64 .bf16) → sProp 𝕄) :
    kst c I.keys 6 ⊢ iprop((kst c I.keys 10 -∗ Q ⟨k0_pay19 I.km, k0_pay20 I.km⟩)
      -∗ run c (atArgs (k0_part4 (F := F)) I.cs I.sn I.km (k0_pay12 I.km) (k0_pay13 I.km) (k0_pay14 I.cs I.sn I.km)) Q) := by
  simp only [k0_part4_eq_skeleton, k0_part4_skel, wp_bind]
  iintro k Hk
  iapply (load_kst c I.keys 6 _) $$ k
  iintro k %_
  iapply (store_kst c I.keys 0 6 6 7 rfl rfl rfl (key06 I) _) $$ k
  iintro k
  iapply (load_kst c I.keys 7 _) $$ k
  iintro k %_
  iapply (store_kst c I.keys 0 7 7 8 rfl rfl rfl (key07 I) _) $$ k
  iintro k
  iapply (load_kst c I.keys 8 _) $$ k
  iintro k %_
  iapply (store_kst c I.keys 1 0 8 9 rfl rfl rfl (key10 I) _) $$ k
  iintro k
  iapply (load_kst c I.keys 9 _) $$ k
  iintro k %_
  iapply (store_kst c I.keys 1 1 9 10 rfl rfl rfl (key11 I) _) $$ k
  iintro k
  iapply run_pure
  iapply Hk $$ k

theorem part5 (c : Dev nD) (Q : FVec F S512x128 .bf16 → sProp 𝕄) :
    kst c I.keys 10 ⊢ iprop((kst c I.keys 13 -∗ Q (k0_pay24 I.cs I.sn I.km))
      -∗ run c (atArgs (k0_part5 (F := F)) I.cs I.sn I.km (k0_pay19 I.km) (k0_pay20 I.km)) Q) := by
  simp only [k0_part5_eq_skeleton, k0_part5_skel, wp_bind]
  iintro k Hk
  iapply (load_kst c I.keys 10 _) $$ k
  iintro k %_
  iapply (store_kst c I.keys 1 2 10 11 rfl rfl rfl (key12 I) _) $$ k
  iintro k
  iapply (load_kst c I.keys 11 _) $$ k
  iintro k %_
  iapply (store_kst c I.keys 1 3 11 12 rfl rfl rfl (key13 I) _) $$ k
  iintro k
  iapply (load_kst c I.keys 12 _) $$ k
  iintro k %_
  iapply (store_kst c I.keys 1 4 12 13 rfl rfl rfl (key14 I) _) $$ k
  iintro k
  iapply (load_kst c I.keys 13 _) $$ k
  iintro k %_
  iapply run_pure
  iapply Hk $$ k

theorem lv_bar {l : List Debt} (hl : ∀ p ∈ l, 1 < lvl p.1) : ∀ p ∈ l, lvl bar < lvl p.1 := hl

theorem part6 (c : Dev nD) (w0 : BitVec 32) (f : OutC F) (l : List Debt) (hl : ∀ p ∈ l, 1 < lvl p.1) (Q : BitVec 32 → sProp 𝕄) :
    env v K ⊢ iprop(Ow c l -∗ kst c I.keys 13 -∗ buf xM c I.x -∗ buf wvM c I.wv -∗ buf vM c f
      -∗ cred (tallyAt (cell c bar) () 6) -∗ atPos ER (cell c bar) 0 ∅ 0
      -∗ (Ow c l -∗ kst c I.keys 16 -∗ buf xM c I.x -∗ buf wvM c I.wv -∗ buf vM c I.vals -∗ semVal (cell c bar) 0
        -∗ (bigSep Finset.univ fun d => sPay v c bar d) -∗ ∀ a, Q a)
      -∗ run c (atArgs (k0_part6 (F := F)) w0 (SemArray.scalar (sig.barrier 0 rfl)) I.cs I.sn I.km (k0_pay24 I.cs I.sn I.km)) Q) := by
  simp only [k0_part6_eq_skeleton, k0_part6_skel, wp_bind]
  iintro #He HO k x wv vb Hc Ha Hk
  iapply (store_kst c I.keys 1 5 13 14 rfl rfl rfl (key15 I) _) $$ k
  iintro k
  iapply (load_kst c I.keys 14 _) $$ k
  iintro k %_
  iapply (store_kst c I.keys 1 6 14 15 rfl rfl rfl (key16 I) _) $$ k
  iintro k
  iapply (load_kst c I.keys 15 _) $$ k
  iintro k %_
  iapply (store_kst c I.keys 1 7 15 16 rfl rfl rfl (key17 I) _) $$ k
  iintro k
  iapply (load_all xM c I.x I.x rfl (fun a => by fin_cases a <;> rfl) _) $$ x
  iintro x
  iapply (load_all wvM c I.wv I.wv rfl (fun a => by fin_cases a <;> rfl) _) $$ wv
  iintro wv
  iapply (load_all vM c f f rfl (fun a => by fin_cases a <;> rfl) _) $$ vb
  iintro vb
  iapply (store_vals c f I.vals rfl _) $$ vb
  iintro vb
  iapply (step_bar v K c bar (by unfold isBar; rfl) (by unfold loc; rfl) l (lv_bar hl) _) $$ [HO Hc Ha]
  · isplitr; · iexact He
    isplitl [Hc]; · iexact Hc
    isplitl [HO]; · iexact HO
    iexact Ha
  iintro ⟨HO, Hs, Hp⟩
  iapply run_pure
  iapply Hk $$ HO k x wv vb Hs Hp

theorem part7 (c : Dev nD) (w0 : BitVec 32) (Q : (Σ' (_ : FVec F S512x1024 .bf16) (_ : FVec F S512x128 .bf16) (_ : FVec F S512x128 .bf16), FVec F S512x128 .bf16) → sProp 𝕄) :
    buf xM c I.x ⊢ iprop(buf wqM c I.wq -∗ buf kM c I.keys -∗ buf vM c I.vals -∗ (buf xM c I.x -∗ buf wqM c I.wq -∗ buf kM c I.keys -∗ buf vM c I.vals -∗ Q ⟨I.qs (hA c), I.head (hA c) 0, k0_pay31 I.cs I.sn (rows I.x (hA c)) I.wq, tile I.keys (hA c) 1⟩)
      -∗ run c (atArgs (k0_part7 (F := F)) c I.cs I.sn w0) Q) := by
  simp only [k0_part7_eq_skeleton, k0_part7_skel, wp_bind]
  iintro x wq kb vb Hk
  iapply (load_rows xM c I.x I.x rfl (hA c) (off1_eq c) _) $$ x
  iintro x
  iapply (load_all wqM c I.wq I.wq rfl (fun a => by fin_cases a <;> rfl) _) $$ wq
  iintro wq
  iapply (load_tile kM c I.keys I.keys rfl (hA c) 0 (off2_eq c) _) $$ kb
  iintro kb
  iapply (load_tile vM c I.vals I.vals rfl (hA c) 0 (off2_eq c) _) $$ vb
  iintro vb
  iapply (load_tile kM c I.keys I.keys rfl (hA c) 1 (off3_eq c) _) $$ kb
  iintro kb
  rw [head_a0, show k0_pay29 (rows I.x (hA c)) I.wq = I.qs (hA c) from rfl]
  iapply run_pure
  iapply Hk $$ x wq kb vb

theorem part8 (c : Dev nD) (w0 : BitVec 32) (Q : (Σ' (_ : FVec F S512x128 .bf16) (_ : FVec F S512x128 .bf16) (_ : FVec F S512x128 .bf16), FVec F S512x128 .bf16) → sProp 𝕄) :
    buf kM c I.keys ⊢ iprop(buf vM c I.vals -∗ (buf kM c I.keys -∗ buf vM c I.vals -∗ Q ⟨I.head (hA c) 1, I.head (hA c) 2, k0_pay34 I.cs I.sn (I.qs (hA c)), tile I.keys (hA c) 3⟩)
      -∗ run c (atArgs (k0_part8 (F := F)) c I.cs I.sn w0 (I.qs (hA c)) (k0_pay31 I.cs I.sn (rows I.x (hA c)) I.wq) (tile I.keys (hA c) 1)) Q) := by
  simp only [k0_part8_eq_skeleton, k0_part8_skel, wp_bind]
  iintro kb vb Hk
  iapply (load_tile vM c I.vals I.vals rfl (hA c) 1 (off3_eq c) _) $$ vb
  iintro vb
  iapply (load_tile kM c I.keys I.keys rfl (hA c) 2 (off4_eq c) _) $$ kb
  iintro kb
  iapply (load_tile vM c I.vals I.vals rfl (hA c) 2 (off4_eq c) _) $$ vb
  iintro vb
  iapply (load_tile kM c I.keys I.keys rfl (hA c) 3 (off5_eq c) _) $$ kb
  iintro kb
  rw [head_a1, head_a2]
  iapply run_pure
  iapply Hk $$ kb vb

theorem part9 (c : Dev nD) (w0 : BitVec 32) (Q : (Σ' (_ : FVec F S512x128 .bf16) (_ : FVec F S512x128 .bf16), FVec F S512x128 .bf16) → sProp 𝕄) :
    buf kM c I.keys ⊢ iprop(buf vM c I.vals -∗ (buf kM c I.keys -∗ buf vM c I.vals -∗ Q ⟨I.head (hA c) 3, I.head (hA c) 4, k0_pay37 I.cs I.sn (I.qs (hA c))⟩)
      -∗ run c (atArgs (k0_part9 (F := F)) c I.cs I.sn w0 (I.qs (hA c)) (k0_pay34 I.cs I.sn (I.qs (hA c))) (tile I.keys (hA c) 3)) Q) := by
  simp only [k0_part9_eq_skeleton, k0_part9_skel, wp_bind]
  iintro kb vb Hk
  iapply (load_tile vM c I.vals I.vals rfl (hA c) 3 (off5_eq c) _) $$ vb
  iintro vb
  iapply (load_tile kM c I.keys I.keys rfl (hA c) 4 (off6_eq c) _) $$ kb
  iintro kb
  iapply (load_tile vM c I.vals I.vals rfl (hA c) 4 (off6_eq c) _) $$ vb
  iintro vb
  rw [head_a3, head_a4]
  iapply run_pure
  iapply Hk $$ kb vb

theorem part10 (c : Dev nD) (w0 : BitVec 32) (Q : (Σ' (_ : FVec F S512x128 .bf16) (_ : FVec F S512x128 .bf16) (_ : FVec F S512x64 .bf16), FVec F S512x64 .bf16) → sProp 𝕄) :
    buf kM c I.keys ⊢ iprop(buf vM c I.vals -∗ (buf kM c I.keys -∗ buf vM c I.vals -∗ Q ⟨I.head (hA c) 5, I.head (hA c) 6, k0_pay43 I.cs I.sn (I.qs (hA c)), k0_pay44 I.cs I.sn (I.qs (hA c))⟩)
      -∗ run c (atArgs (k0_part10 (F := F)) c I.cs I.sn w0 (I.qs (hA c)) (k0_pay37 I.cs I.sn (I.qs (hA c)))) Q) := by
  simp only [k0_part10_eq_skeleton, k0_part10_skel, wp_bind]
  iintro kb vb Hk
  iapply (load_tile kM c I.keys I.keys rfl (hA c) 5 (off7_eq c) _) $$ kb
  iintro kb
  iapply (load_tile vM c I.vals I.vals rfl (hA c) 5 (off7_eq c) _) $$ vb
  iintro vb
  iapply (load_tile kM c I.keys I.keys rfl (hA c) 6 (off8_eq c) _) $$ kb
  iintro kb
  iapply (load_tile vM c I.vals I.vals rfl (hA c) 6 (off8_eq c) _) $$ vb
  iintro vb
  rw [head_a5, head_a6]
  iapply run_pure
  iapply Hk $$ kb vb

theorem part11 (c : Dev nD) (w0 w1 w2 w3 : BitVec 32) (f : OutC F) (Q : PUnit → sProp 𝕄) :
    buf kM c I.keys ⊢ iprop(buf vM c I.vals -∗ buf woM c I.wo -∗ halfP c (hA c) f -∗ (buf kM c I.keys -∗ buf vM c I.vals -∗ buf woM c I.wo -∗ halfP c (hA c) I.part -∗ Q ⟨⟩)
      -∗ run c (atArgs (k0_part11 (F := F)) c w0 w1 w2 w3 (I.head (hA c) 0) (I.head (hA c) 1) (I.head (hA c) 2) (I.head (hA c) 3) (I.head (hA c) 4) (I.head (hA c) 5) (I.head (hA c) 6) (k0_pay43 I.cs I.sn (I.qs (hA c))) (k0_pay44 I.cs I.sn (I.qs (hA c)))) Q) := by
  simp only [k0_part11_eq_skeleton, k0_part11_skel, wp_bind]
  iintro kb vb wo o Hk
  iapply (load_tile kM c I.keys I.keys rfl (hA c) 7 (off9_eq c) _) $$ kb
  iintro kb
  iapply (load_tile vM c I.vals I.vals rfl (hA c) 7 (off9_eq c) _) $$ vb
  iintro vb
  iapply (load_all woM c I.wo I.wo rfl (fun a => by fin_cases a <;> rfl) _) $$ wo
  iintro wo
  iapply (load_half c (hA c) f (off1_eq c) _) $$ o
  iintro o %_
  iapply (store_half c (hA c) f I.part (off1_eq c) ((part_rows I (hA c)).trans (half_a I (hA c)).symm) _) $$ o
  iintro o
  iapply run_pure
  iapply Hk $$ kb vb wo o

theorem part15 (c : Dev nD) (w0 w1 w2 : BitVec 32) (l : List Debt) (Q : (Σ' (_ : BitVec 32) (_ : FVec F S512x1024 .bf16) (_ : FVec F S512x64 .bf16) (_ : FVec F S512x64 .bf16), FVec F S512x64 .bf16) → sProp 𝕄) :
    envp v K c ⊢ iprop(Ow c ((rspR 2 2, pm 2) :: (rspR 2 3, pm 2) :: l) -∗ inRsp v c 2 2 -∗ inRsp v c 2 3 -∗ buf xM c I.x -∗ buf wqM c I.wq -∗ (Ow c l -∗ todo c (rspS 2 2) -∗ todo c (rspS 2 3) -∗ buf xM c I.x -∗ buf wqM c I.wq -∗ ∀ w, Q ⟨w, I.qs (hB c), k0_pay50 I.cs I.sn (rows I.x (hB c)) I.wq, k0_pay51 I.cs (rows I.x (hB c)) I.wq, k0_pay52 I.sn (rows I.x (hB c)) I.wq⟩)
      -∗ run c (atArgs (k0_part15 (F := F)) c w0 w1 w2 I.cs I.sn) Q) := by
  simp only [k0_part15_eq_skeleton, k0_part15_skel, wp_bind]
  iintro #He HO h22 h23 x wq Hk
  iapply (go_rsp v K c 2 2 (off10_eq c 2 3) rfl (by unfold loc; rfl) (by unfold loc; rfl)
    (show (⟨k0_dev13 c, k0_dev13_lt c⟩ : Dev nD) = px c (pm 2) by revert c; decide +kernel) _ _) $$ He HO h22
  iintro HO h22
  iapply (go_rsp v K c 2 3 (off10_eq c 2 0) rfl (by unfold loc; rfl) (by unfold loc; rfl)
    (show (⟨k0_dev14 c, k0_dev14_lt c⟩ : Dev nD) = px c (pm 2) by revert c; decide +kernel) _ _) $$ He HO h23
  iintro HO h23
  iapply (load_rows xM c I.x I.x rfl (hB c) (off11_eq c) _) $$ x
  iintro x
  iapply (load_all wqM c I.wq I.wq rfl (fun a => by fin_cases a <;> rfl) _) $$ wq
  iintro wq
  rw [q_b]
  iapply run_pure
  iapply Hk $$ HO h22 h23 x wq

theorem part16 (c : Dev nD) (w0 : BitVec 32) (Q : (Σ' (_ : FVec F S512x128 .bf16) (_ : FVec F S512x128 .bf16) (_ : FVec F S512x64 .bf16) (_ : FVec F S512x64 .bf16), FVec F S512x64 .bf16) → sProp 𝕄) :
    buf kM c I.keys ⊢ iprop(buf vM c I.vals -∗ (buf kM c I.keys -∗ buf vM c I.vals -∗ Q ⟨I.head (hB c) 0, I.head (hB c) 1, k0_pay56 (I.qs (hB c)), k0_pay57 (I.qs (hB c)), k0_pay58 I.cs I.sn (I.qs (hB c))⟩)
      -∗ run c (atArgs (k0_part16 (F := F)) c I.cs I.sn w0 (I.qs (hB c)) (k0_pay50 I.cs I.sn (rows I.x (hB c)) I.wq) (k0_pay51 I.cs (rows I.x (hB c)) I.wq) (k0_pay52 I.sn (rows I.x (hB c)) I.wq)) Q) := by
  simp only [k0_part16_eq_skeleton, k0_part16_skel, wp_bind]
  iintro kb vb Hk
  iapply (load_tile kM c I.keys I.keys rfl (hB c) 0 (off12_eq c) _) $$ kb
  iintro kb
  iapply (load_tile vM c I.vals I.vals rfl (hB c) 0 (off12_eq c) _) $$ vb
  iintro vb
  iapply (load_tile kM c I.keys I.keys rfl (hB c) 1 (off13_eq c) _) $$ kb
  iintro kb
  iapply (load_tile vM c I.vals I.vals rfl (hB c) 1 (off13_eq c) _) $$ vb
  iintro vb
  rw [head_b0, head_b1]
  iapply run_pure
  iapply Hk $$ kb vb

theorem part17 (c : Dev nD) (w0 : BitVec 32) (Q : (Σ' (_ : FVec F S512x128 .bf16) (_ : FVec F S512x128 .bf16) (_ : FVec F S512x64 .bf16) (_ : FVec F S512x64 .bf16), FVec F S512x64 .bf16) → sProp 𝕄) :
    buf kM c I.keys ⊢ iprop(buf vM c I.vals -∗ (buf kM c I.keys -∗ buf vM c I.vals -∗ Q ⟨I.head (hB c) 2, I.head (hB c) 3, k0_pay62 (I.qs (hB c)), k0_pay63 (I.qs (hB c)), k0_pay64 I.cs (I.qs (hB c))⟩)
      -∗ run c (atArgs (k0_part17 (F := F)) c I.cs I.sn w0 (I.qs (hB c)) (k0_pay56 (I.qs (hB c))) (k0_pay57 (I.qs (hB c))) (k0_pay58 I.cs I.sn (I.qs (hB c)))) Q) := by
  simp only [k0_part17_eq_skeleton, k0_part17_skel, wp_bind]
  iintro kb vb Hk
  iapply (load_tile kM c I.keys I.keys rfl (hB c) 2 (off14_eq c) _) $$ kb
  iintro kb
  iapply (load_tile vM c I.vals I.vals rfl (hB c) 2 (off14_eq c) _) $$ vb
  iintro vb
  iapply (load_tile kM c I.keys I.keys rfl (hB c) 3 (off15_eq c) _) $$ kb
  iintro kb
  iapply (load_tile vM c I.vals I.vals rfl (hB c) 3 (off15_eq c) _) $$ vb
  iintro vb
  rw [head_b2, head_b3]
  iapply run_pure
  iapply Hk $$ kb vb

theorem part18 (c : Dev nD) (w0 : BitVec 32) (Q : (Σ' (_ : FVec F S512x128 .bf16) (_ : FVec F S512x128 .bf16) (_ : FVec F S512x128 .bf16), FVec F S512x64 .bf16) → sProp 𝕄) :
    buf kM c I.keys ⊢ iprop(buf vM c I.vals -∗ (buf kM c I.keys -∗ buf vM c I.vals -∗ Q ⟨I.head (hB c) 4, I.head (hB c) 5, k0_pay67 (I.qs (hB c)), k0_pay68 (I.qs (hB c))⟩)
      -∗ run c (atArgs (k0_part18 (F := F)) c I.cs I.sn w0 (I.qs (hB c)) (k0_pay62 (I.qs (hB c))) (k0_pay63 (I.qs (hB c))) (k0_pay64 I.cs (I.qs (hB c)))) Q) := by
  simp only [k0_part18_eq_skeleton, k0_part18_skel, wp_bind]
  iintro kb vb Hk
  iapply (load_tile kM c I.keys I.keys rfl (hB c) 4 (off16_eq c) _) $$ kb
  iintro kb
  iapply (load_tile vM c I.vals I.vals rfl (hB c) 4 (off16_eq c) _) $$ vb
  iintro vb
  iapply (load_tile kM c I.keys I.keys rfl (hB c) 5 (off17_eq c) _) $$ kb
  iintro kb
  iapply (load_tile vM c I.vals I.vals rfl (hB c) 5 (off17_eq c) _) $$ vb
  iintro vb
  rw [head_b4, head_b5]
  iapply run_pure
  iapply Hk $$ kb vb

theorem part19 (c : Dev nD) (w0 : BitVec 32) (Q : (Σ' (_ : FVec F S512x128 .bf16), FVec F S512x128 .bf16) → sProp 𝕄) :
    buf kM c I.keys ⊢ iprop(buf vM c I.vals -∗ (buf kM c I.keys -∗ buf vM c I.vals -∗ Q ⟨I.head (hB c) 6, I.head (hB c) 7⟩)
      -∗ run c (atArgs (k0_part19 (F := F)) c I.cs I.sn w0 (I.qs (hB c)) (k0_pay67 (I.qs (hB c))) (k0_pay68 (I.qs (hB c)))) Q) := by
  simp only [k0_part19_eq_skeleton, k0_part19_skel, wp_bind]
  iintro kb vb Hk
  iapply (load_tile kM c I.keys I.keys rfl (hB c) 6 (off18_eq c) _) $$ kb
  iintro kb
  iapply (load_tile vM c I.vals I.vals rfl (hB c) 6 (off18_eq c) _) $$ vb
  iintro vb
  iapply (load_tile kM c I.keys I.keys rfl (hB c) 7 (off19_eq c) _) $$ kb
  iintro kb
  iapply (load_tile vM c I.vals I.vals rfl (hB c) 7 (off19_eq c) _) $$ vb
  iintro vb
  rw [head_b6, head_b7]
  iapply run_pure
  iapply Hk $$ kb vb

theorem part20 (c : Dev nD) (w0 w1 w2 w3 : BitVec 32) (f : OutC F) (R : sProp 𝕄) (l : List Debt) (Q : (Σ' (_ : BitVec 32), BitVec 32) → sProp 𝕄) :
    envp v K c ⊢ iprop(Ow c ((rspR 0 0, pm 0) :: l) -∗ buf woM c I.wo -∗ halfP c (hB c) f -∗ (halfP c (hB c) I.part -∗ inRsp v c 0 0 ∗ R) -∗ (Ow c l -∗ buf woM c I.wo -∗ todo c (rspS 0 0) -∗ R -∗ ∀ a b, Q ⟨a, b⟩)
      -∗ run c (atArgs (k0_part20 (F := F)) c w0 w1 w2 w3 (I.head (hB c) 0) (I.head (hB c) 1) (I.head (hB c) 2) (I.head (hB c) 3) (I.head (hB c) 4) (I.head (hB c) 5) (I.head (hB c) 6) (I.head (hB c) 7)) Q) := by
  simp only [k0_part20_eq_skeleton, k0_part20_skel, wp_bind]
  iintro #He HO wo o i Hk
  iapply (load_all woM c I.wo I.wo rfl (fun a => by fin_cases a <;> rfl) _) $$ wo
  iintro wo
  iapply (load_half c (hB c) f (off11_eq c) _) $$ o
  iintro o %_
  iapply (store_half c (hB c) f I.part (off11_eq c) (part_rows I (hB c)) _) $$ o
  iintro o
  ihave i := i $$ o
  icases i with ⟨h00, r⟩
  iapply (go_rsp v K c 0 0 (off10_eq c 0 1) rfl (by unfold loc; rfl) (by unfold loc; rfl)
    (show (⟨k0_dev15 c, k0_dev15_lt c⟩ : Dev nD) = px c (pm 0) by revert c; decide +kernel) _ _) $$ He HO h00
  iintro HO h00
  iapply run_pure
  iapply Hk $$ HO wo h00 r

end Cert.Attn

end
-- ==== Proof.Blocks.lean ====
/-
  The result buffer in blocks and in halves, the landing buffers in slots, and the bundles of copies and waits that the run of
  the body goes through.
-/
module

public import proofs.«01_k».proof.Proof.Compute
public import proofs.«01_k».proof.Proof.Gather

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3)

variable {F : FTy → Type} [FloatOps F] [Named F]

local notation "𝕄" => MT nD τ sig Unit (Elt F) ℕ UU ℕ

attribute [local irreducible] loc px owedK isBar sPay

theorem bigSep3 (Φ : Fin 3 → sProp 𝕄) : (bigSep Finset.univ Φ : sProp 𝕄) = iprop(Φ 0 ∗ Φ 1 ∗ Φ 2) := by
  rw [show (Finset.univ : Finset (Fin 3)) = {0, 1, 2} from by decide, bigSep_insert (by decide), bigSep_insert (by decide), bigSep_singleton]
  rfl
theorem bigSep4 (Φ : Fin 4 → sProp 𝕄) : (bigSep Finset.univ Φ : sProp 𝕄) = iprop(Φ 0 ∗ Φ 1 ∗ Φ 2 ∗ Φ 3) := by
  rw [show (Finset.univ : Finset (Fin 4)) = {0, 1, 2, 3} from by decide, bigSep_insert (by decide), bigSep_insert (by decide),
    bigSep_insert (by decide), bigSep_singleton]
  rfl

/-! ## The result buffer -/

theorem blk_disj (e e' : Dev nD) (h : e ≠ e') : Disjoint (blkSet e) (blkSet e') := by
  refine Finset.disjoint_left.2 fun i hi hi' => h ?_
  rw [blkSet, Finset.mem_filter] at hi hi'
  exact hi.2.symm.trans hi'.2
theorem half_owner_all : ∀ n : Fin 1024, n.val / 512 = (owner n.val).val % 4 / 2 := by decide +kernel
theorem half_biUnion (b : Fin 2) : halfSet b = (Finset.univ.filter fun e : Dev nD => e.val % 4 / 2 = b.val).biUnion blkSet := by
  ext i
  have h := half_owner_all (i 0)
  simp only [halfSet, blkSet, Finset.mem_biUnion, Finset.mem_filter, Finset.mem_univ, true_and]
  rw [h]
  exact ⟨fun hb => ⟨_, hb, rfl⟩, fun ⟨e, he, hie⟩ => by rw [hie]; exact he⟩
theorem univ_biUnion : (Finset.univ : Finset S1024x1024.Idx) = (Finset.univ : Finset (Dev nD)).biUnion blkSet := by
  ext i
  simp only [blkSet, Finset.mem_biUnion, Finset.mem_filter, Finset.mem_univ, true_and, exists_eq', true_iff]

theorem half_blocks (c : Dev nD) (b : Fin 2) (X : OutC F) :
    halfP c b X = bigSep (Finset.univ.filter fun e : Dev nD => e.val % 4 / 2 = b.val) fun e => blk c e fullShare X := by
  unfold halfP blk
  rw [half_biUnion]
  exact pointsTo_biUnion _ _ fun e _ e' _ h => blk_disj e e' h

/-- The half that is computed first, in the blocks that go to the partners 2 and 3 of the plane. -/
theorem half_first (c : Dev nD) (X : OutC F) : halfP c (hA c) X = iprop(
    blk c (px (px c (pm 1)) (zu (uj 0))) fullShare X
    ∗ blk c (px (px c (pm 1)) (zu (uj 1))) fullShare X
    ∗ blk c (px (px c (pm 1)) (zu (uj 2))) fullShare X
    ∗ blk c (px (px c (pm 1)) (zu (uj 3))) fullShare X
    ∗ blk c (px (px c (pm 2)) (zu (uj 0))) fullShare X
    ∗ blk c (px (px c (pm 2)) (zu (uj 1))) fullShare X
    ∗ blk c (px (px c (pm 2)) (zu (uj 2))) fullShare X
    ∗ blk c (px (px c (pm 2)) (zu (uj 3))) fullShare X) := by
  have hs : (Finset.univ.filter fun e : Dev nD => e.val % 4 / 2 = (hA c).val) = {px (px c (pm 1)) (zu (uj 0)), px (px c (pm 1)) (zu (uj 1)), px (px c (pm 1)) (zu (uj 2)), px (px c (pm 1)) (zu (uj 3)), px (px c (pm 2)) (zu (uj 0)), px (px c (pm 2)) (zu (uj 1)), px (px c (pm 2)) (zu (uj 2)), px (px c (pm 2)) (zu (uj 3))} := by
    revert c; unfold px; decide +kernel
  rw [half_blocks, hs]
  rw [bigSep_insert (by clear * - c; revert c; unfold px; decide +kernel), bigSep_insert (by clear * - c; revert c; unfold px; decide +kernel), bigSep_insert (by clear * - c; revert c; unfold px; decide +kernel), bigSep_insert (by clear * - c; revert c; unfold px; decide +kernel), bigSep_insert (by clear * - c; revert c; unfold px; decide +kernel), bigSep_insert (by clear * - c; revert c; unfold px; decide +kernel), bigSep_insert (by clear * - c; revert c; unfold px; decide +kernel), bigSep_singleton]
  rfl
/-- The other half, in the blocks that go to the partner 1 of the plane and those that stay. -/
theorem half_second (c : Dev nD) (X : OutC F) : halfP c (hB c) X = iprop(
    blk c (px (px c (pm 0)) (zu (uj 0))) fullShare X
    ∗ blk c (px (px c (pm 0)) (zu (uj 1))) fullShare X
    ∗ blk c (px (px c (pm 0)) (zu (uj 2))) fullShare X
    ∗ blk c (px (px c (pm 0)) (zu (uj 3))) fullShare X
    ∗ blk c (px c (zu (uj 0))) fullShare X
    ∗ blk c (px c (zu (uj 1))) fullShare X
    ∗ blk c (px c (zu (uj 2))) fullShare X
    ∗ blk c (px c (zu (uj 3))) fullShare X) := by
  have hs : (Finset.univ.filter fun e : Dev nD => e.val % 4 / 2 = (hB c).val) = {px (px c (pm 0)) (zu (uj 0)), px (px c (pm 0)) (zu (uj 1)), px (px c (pm 0)) (zu (uj 2)), px (px c (pm 0)) (zu (uj 3)), px c (zu (uj 0)), px c (zu (uj 1)), px c (zu (uj 2)), px c (zu (uj 3))} := by
    revert c; unfold px; decide +kernel
  rw [half_blocks, hs]
  rw [bigSep_insert (by clear * - c; revert c; unfold px; decide +kernel), bigSep_insert (by clear * - c; revert c; unfold px; decide +kernel), bigSep_insert (by clear * - c; revert c; unfold px; decide +kernel), bigSep_insert (by clear * - c; revert c; unfold px; decide +kernel), bigSep_insert (by clear * - c; revert c; unfold px; decide +kernel), bigSep_insert (by clear * - c; revert c; unfold px; decide +kernel), bigSep_insert (by clear * - c; revert c; unfold px; decide +kernel), bigSep_singleton]
  rfl
theorem halves (c : Dev nD) (X : OutC F) : buf outM c X ⊣⊢ iprop(halfP c (hA c) X ∗ halfP c (hB c) X) := by
  have hu : (Finset.univ : Finset S1024x1024.Idx) = halfSet (hA c) ∪ halfSet (hB c) := by
    ext i
    have h := (i 0).isLt
    change (i 0).val < 1024 at h
    simp only [halfSet, Finset.mem_union, Finset.mem_filter, Finset.mem_univ, true_and, true_iff]
    rw [show (hA c).val = 1 - c.val % 4 / 2 from rfl, show (hB c).val = c.val % 4 / 2 from rfl]
    omega
  have hd : Disjoint (halfSet (hA c)) (halfSet (hB c)) := by
    refine Finset.disjoint_left.2 fun i hi hi' => ?_
    rw [halfSet, Finset.mem_filter] at hi hi'
    have h : (hA c).val = (hB c).val := hi.2.symm.trans hi'.2
    rw [show (hA c).val = 1 - c.val % 4 / 2 from rfl, show (hB c).val = c.val % 4 / 2 from rfl] at h
    omega
  unfold buf halfP
  rw [hu]
  exact pointsTo_union hd

/-- The blocks of one distance across the planes: the own plane member's and those of the three partners there. -/
def col (c : Dev nD) (u : Fin 4) (X : OutC F) : sProp 𝕄 :=
  iprop(blk c (px c (zu u)) fullShare X ∗ blk c (px (px c (pm 0)) (zu u)) fullShare X ∗ blk c (px (px c (pm 1)) (zu u)) fullShare X
    ∗ blk c (px (px c (pm 2)) (zu u)) fullShare X)
theorem whole_cols (c : Dev nD) (X : OutC F) : buf outM c X = iprop(
    blk c (px c (zu 0)) fullShare X
    ∗ blk c (px (px c (pm 0)) (zu 0)) fullShare X
    ∗ blk c (px (px c (pm 1)) (zu 0)) fullShare X
    ∗ blk c (px (px c (pm 2)) (zu 0)) fullShare X
    ∗ blk c (px c (zu 1)) fullShare X
    ∗ blk c (px (px c (pm 0)) (zu 1)) fullShare X
    ∗ blk c (px (px c (pm 1)) (zu 1)) fullShare X
    ∗ blk c (px (px c (pm 2)) (zu 1)) fullShare X
    ∗ blk c (px c (zu 2)) fullShare X
    ∗ blk c (px (px c (pm 0)) (zu 2)) fullShare X
    ∗ blk c (px (px c (pm 1)) (zu 2)) fullShare X
    ∗ blk c (px (px c (pm 2)) (zu 2)) fullShare X
    ∗ blk c (px c (zu 3)) fullShare X
    ∗ blk c (px (px c (pm 0)) (zu 3)) fullShare X
    ∗ blk c (px (px c (pm 1)) (zu 3)) fullShare X
    ∗ blk c (px (px c (pm 2)) (zu 3)) fullShare X) := by
  have hs : (Finset.univ : Finset (Dev nD)) = {px c (zu 0), px (px c (pm 0)) (zu 0), px (px c (pm 1)) (zu 0), px (px c (pm 2)) (zu 0), px c (zu 1), px (px c (pm 0)) (zu 1), px (px c (pm 1)) (zu 1), px (px c (pm 2)) (zu 1), px c (zu 2), px (px c (pm 0)) (zu 2), px (px c (pm 1)) (zu 2), px (px c (pm 2)) (zu 2), px c (zu 3), px (px c (pm 0)) (zu 3), px (px c (pm 1)) (zu 3), px (px c (pm 2)) (zu 3)} := by
    revert c; unfold px; decide +kernel
  have h : buf outM c X = bigSep (Finset.univ : Finset (Dev nD)) fun e => blk c e fullShare X := by
    unfold buf blk
    rw [univ_biUnion]
    exact pointsTo_biUnion _ _ fun e _ e' _ h => blk_disj e e' h
  rw [h, hs]
  rw [bigSep_insert (by clear * - c; revert c; unfold px; decide +kernel), bigSep_insert (by clear * - c; revert c; unfold px; decide +kernel), bigSep_insert (by clear * - c; revert c; unfold px; decide +kernel), bigSep_insert (by clear * - c; revert c; unfold px; decide +kernel), bigSep_insert (by clear * - c; revert c; unfold px; decide +kernel), bigSep_insert (by clear * - c; revert c; unfold px; decide +kernel), bigSep_insert (by clear * - c; revert c; unfold px; decide +kernel), bigSep_insert (by clear * - c; revert c; unfold px; decide +kernel), bigSep_insert (by clear * - c; revert c; unfold px; decide +kernel), bigSep_insert (by clear * - c; revert c; unfold px; decide +kernel), bigSep_insert (by clear * - c; revert c; unfold px; decide +kernel), bigSep_insert (by clear * - c; revert c; unfold px; decide +kernel), bigSep_insert (by clear * - c; revert c; unfold px; decide +kernel), bigSep_insert (by clear * - c; revert c; unfold px; decide +kernel), bigSep_insert (by clear * - c; revert c; unfold px; decide +kernel), bigSep_singleton]
  rfl
theorem of_cols (c : Dev nD) (X : OutC F) : iprop(col c 0 X ∗ col c 1 X ∗ col c 2 X ∗ col c 3 X) ⊢ buf outM c X := by
  rw [whole_cols]
  unfold col
  iintro ⟨⟨a0, a1, a2, a3⟩, ⟨b0, b1, b2, b3⟩, ⟨c0, c1, c2, c3⟩, ⟨d0, d1, d2, d3⟩⟩
  iframe

/-! ## The landing buffers -/

theorem lp_disj (a b : Fin 3 × Fin 4) (h : a ≠ b) : Disjoint (lpSet a.1 a.2) (lpSet b.1 b.2) := by
  refine Finset.disjoint_left.2 fun i hi hi' => h ?_
  rw [lpSet, Finset.mem_filter] at hi hi'
  exact Prod.ext (Fin.ext (hi.2.1.symm.trans hi'.2.1)) (Fin.ext (hi.2.2.symm.trans hi'.2.2))
theorem lp_univ : (Finset.univ : Finset S3x4x64x1024.Idx) = (Finset.univ : Finset (Fin 3 × Fin 4)).biUnion fun x => lpSet x.1 x.2 := by
  ext i
  simp only [lpSet, Finset.mem_biUnion, Finset.mem_filter, Finset.mem_univ, true_and, true_iff]
  exact ⟨(⟨(i 0).val, (i 0).isLt⟩, ⟨(i 1).val, (i 1).isLt⟩), rfl, rfl⟩
theorem lp_slots (c : Dev nD) (X : LpC F) :
    buf lpM c X = bigSep Finset.univ fun t : Fin 3 => bigSep Finset.univ fun j : Fin 4 => lp c t j X := by
  have h : buf lpM c X = bigSep (Finset.univ : Finset (Fin 3 × Fin 4)) fun x => lp c x.1 x.2 X := by
    unfold buf lp
    rw [lp_univ]
    exact pointsTo_biUnion _ _ fun a _ b _ h => lp_disj a b h
  rw [h, bigSep_univ_prod]
theorem lz_disj (a b : Fin 3) (h : a ≠ b) : Disjoint (lzSet a) (lzSet b) := by
  refine Finset.disjoint_left.2 fun i hi hi' => h ?_
  rw [lzSet, Finset.mem_filter] at hi hi'
  exact Fin.ext (hi.2.symm.trans hi'.2)
theorem lz_univ : (Finset.univ : Finset S3x64x1024.Idx) = (Finset.univ : Finset (Fin 3)).biUnion lzSet := by
  ext i
  simp only [lzSet, Finset.mem_biUnion, Finset.mem_filter, Finset.mem_univ, true_and, true_iff]
  exact ⟨⟨(i 0).val, (i 0).isLt⟩, rfl⟩
theorem lz_slots (c : Dev nD) (X : LzC F) : buf lzM c X = bigSep Finset.univ fun t : Fin 3 => lz c t X := by
  unfold buf lz
  rw [lz_univ]
  exact pointsTo_biUnion _ _ fun a _ b _ h => lz_disj a b h

/-! ## Bundles -/

variable (v : Vals F)

/-- What a copy of each kind needs of semaphores. -/
def rspT (c : Dev nD) (t : Fin 3) (j : Fin 4) : sProp 𝕄 := iprop(sendR c (rspS t j) (rspR t j) (pm t) ∗ idle c (rspS t j))
def rszT (c : Dev nD) (t : Fin 3) : sProp 𝕄 := iprop(sendR c (rszS t) (rszR t) (zm t) ∗ idle c (rszS t))
def agzT (c : Dev nD) (t : Fin 3) : sProp 𝕄 := iprop(sendR c (agzS t) (agzR t) (zm t) ∗ idle c (agzS t))
def agpT (c : Dev nD) (t : Fin 3) (u : Fin 4) : sProp 𝕄 := iprop(sendR c (agpS t u) (agpR t u) (pm t) ∗ idle c (agpS t u))

theorem mk_rsp (c : Dev nD) (t : Fin 3) (j : Fin 4) : rspT c t j ⊢ iprop(blk c (px (px c (pm t)) (zu (uj j))) fullShare (v.part c)
    -∗ (∃ f, lp (px c (pm t)) t j f) -∗ inRsp v c t j) := by
  unfold rspT inRsp
  iintro ⟨a, b⟩ x y
  iframe
theorem mk_rsz (c : Dev nD) (t : Fin 3) : rszT (F := F) c t ⊢ iprop((∃ f, lz (px c (zm t)) t f) -∗ inRsz c t) := by
  unfold rszT inRsz
  iintro ⟨a, b⟩ x
  iframe
theorem mk_agz (c : Dev nD) (t : Fin 3) : agzT c t ⊢ iprop(gotZ v c t -∗ (inAgz c t ∗ semVal (cell c (rszR t)) 0)) := by
  unfold agzT gotZ inAgz
  iintro ⟨a, b⟩ ⟨x, y⟩
  isplitr [x]
  · isplitl [a]; · iexact a
    isplitl [b]; · iexact b
    iexists _
    iexact y
  · iexact x
theorem mk_agp (c : Dev nD) (t : Fin 3) (j u : Fin 4) (hu : u = uj j) :
    agpT c t u ⊢ iprop(gotP v c t j -∗ (inAgp c t u ∗ semVal (cell c (rspR t j)) 0)) := by
  subst hu
  unfold agpT gotP inAgp
  iintro ⟨a, b⟩ ⟨x, y⟩
  isplitr [x]
  · isplitl [a]; · iexact a
    isplitl [b]; · iexact b
    iexists _
    iexact y
  · iexact x

/-- A copy's own semaphore, at its end. -/
theorem got_rspS (c : Dev nD) (t : Fin 3) (j : Fin 4) : got v c (rspS t j) ⊢ semVal (cell c (rspS t j)) 0 := by
  have h : sPay v c (rspS t j) d0 = iprop(emp) := by unfold sPay; rfl
  unfold got; rw [h]; iintro ⟨H, -⟩; iexact H
theorem got_rszS (c : Dev nD) (t : Fin 3) : got v c (rszS t) ⊢ semVal (cell c (rszS t)) 0 := by
  have h : sPay v c (rszS t) d0 = iprop(emp) := by unfold sPay; rfl
  unfold got; rw [h]; iintro ⟨H, -⟩; iexact H
theorem got_agzS (c : Dev nD) (t : Fin 3) : got v c (agzS t) ⊢ iprop(semVal (cell c (agzS t)) 0 ∗ blk c c (shares3 fullShare.left t) (final v.tot)) := by
  have h : sPay v c (agzS t) d0 = blk c c (shares3 fullShare.left t) (final v.tot) := by unfold sPay; rfl
  unfold got; rw [h]
theorem got_agpS (c : Dev nD) (t : Fin 3) (u : Fin 4) : got v c (agpS t u) ⊢ iprop(semVal (cell c (agpS t u)) 0 ∗ third v c u t) := by
  have h : sPay v c (agpS t u) d0 = third v c u t := by unfold sPay; rfl
  unfold got; rw [h]
theorem got_agpR (c : Dev nD) (t : Fin 3) (u : Fin 4) :
    got v c (agpR t u) ⊢ iprop(semVal (cell c (agpR t u)) 0 ∗ blk c (px (px c (pm t)) (zu u)) fullShare (final v.tot)) := by
  have h : sPay v c (agpR t u) d0 = blk c (px (px c (pm t)) (zu u)) fullShare (final v.tot) := by unfold sPay; rfl
  unfold got; rw [h]

/-- The semaphores of one kind of copies, spent. -/
def semsP (c : Dev nD) (j : Fin 4) : sProp 𝕄 := bigSep Finset.univ fun t : Fin 3 => iprop(semVal (cell c (rspS t j)) 0 ∗ semVal (cell c (rspR t j)) 0)
def semsG (c : Dev nD) (u : Fin 4) : sProp 𝕄 := bigSep Finset.univ fun t : Fin 3 => iprop(semVal (cell c (agpS t u)) 0 ∗ semVal (cell c (agpR t u)) 0)
def semsZ (c : Dev nD) : sProp 𝕄 := bigSep Finset.univ fun t : Fin 3 => iprop(semVal (cell c (rszS t)) 0 ∗ semVal (cell c (rszR t)) 0)
def semsA (c : Dev nD) : sProp 𝕄 := bigSep Finset.univ fun t : Fin 3 => iprop(semVal (cell c (agzS t)) 0 ∗ semVal (cell c (agzR t)) 0)

theorem plane_done (c : Dev nD) (j u : Fin 4) (hu : u = uj j) : agpT c 0 u ⊢ iprop(agpT c 1 u -∗ agpT c 2 u -∗ gotP v c 0 j -∗ gotP v c 1 j
    -∗ gotP v c 2 j -∗ got v c (rspS 0 j) -∗ got v c (rspS 1 j) -∗ got v c (rspS 2 j)
    -∗ (inAgp c 0 u ∗ inAgp c 1 u ∗ inAgp c 2 u ∗ semsP c j)) := by
  unfold semsP
  rw [bigSep3]
  iintro a0 a1 a2 g0 g1 g2 s0 s1 s2
  ihave ⟨a0, r0⟩ := (mk_agp v c 0 j u hu) $$ a0 g0
  ihave ⟨a1, r1⟩ := (mk_agp v c 1 j u hu) $$ a1 g1
  ihave ⟨a2, r2⟩ := (mk_agp v c 2 j u hu) $$ a2 g2
  ihave s0 := (got_rspS v c 0 j) $$ s0
  ihave s1 := (got_rspS v c 1 j) $$ s1
  ihave s2 := (got_rspS v c 2 j) $$ s2
  iframe

theorem thirds_join (c : Dev nD) (u : Fin 4) (hu : u ≠ 0) : iprop(third v c u 0 ∗ third v c u 1 ∗ third v c u 2) ⊢ blk c (px c (zu u)) fullShare (final v.tot) := by
  unfold third qp
  simp only [if_neg hu]
  exact (Idealize.ShloMosaic.Ring.pointsTo_thirds _ _).2
theorem own_join (c : Dev nD) : iprop(third v c 0 0 ∗ third v c 0 1 ∗ third v c 0 2) ⊢ own3' v c := by
  unfold own3'
  rw [show third v c 0 0 = blk c c (shares3 fullShare.right 0) (final v.tot) from by unfold third; rw [show zu 0 = 0 from rfl, px_zero]; rfl,
    show third v c 0 1 = blk c c (shares3 fullShare.right 1) (final v.tot) from by unfold third; rw [show zu 0 = 0 from rfl, px_zero]; rfl,
    show third v c 0 2 = blk c c (shares3 fullShare.right 2) (final v.tot) from by unfold third; rw [show zu 0 = 0 from rfl, px_zero]; rfl]

/-- The copies within the plane of one block, ended. -/
theorem gather_done (c : Dev nD) (u : Fin 4) : got v c (agpS 0 u) ⊢ iprop(got v c (agpS 1 u) -∗ got v c (agpS 2 u) -∗ got v c (agpR 0 u)
    -∗ got v c (agpR 1 u) -∗ got v c (agpR 2 u)
    -∗ (semsG c u ∗ (third v c u 0 ∗ third v c u 1 ∗ third v c u 2) ∗ blk c (px (px c (pm 0)) (zu u)) fullShare (final v.tot)
      ∗ blk c (px (px c (pm 1)) (zu u)) fullShare (final v.tot) ∗ blk c (px (px c (pm 2)) (zu u)) fullShare (final v.tot))) := by
  unfold semsG
  rw [bigSep3]
  iintro s0 s1 s2 r0 r1 r2
  ihave ⟨s0, t0⟩ := (got_agpS v c 0 u) $$ s0
  ihave ⟨s1, t1⟩ := (got_agpS v c 1 u) $$ s1
  ihave ⟨s2, t2⟩ := (got_agpS v c 2 u) $$ s2
  ihave ⟨r0, b0⟩ := (got_agpR v c 0 u) $$ r0
  ihave ⟨r1, b1⟩ := (got_agpR v c 1 u) $$ r1
  ihave ⟨r2, b2⟩ := (got_agpR v c 2 u) $$ r2
  iframe
theorem gather_col (c : Dev nD) (u : Fin 4) (hu : u ≠ 0) : got v c (agpS 0 u) ⊢ iprop(got v c (agpS 1 u) -∗ got v c (agpS 2 u)
    -∗ got v c (agpR 0 u) -∗ got v c (agpR 1 u) -∗ got v c (agpR 2 u) -∗ (semsG c u ∗ col c u (final v.tot))) := by
  unfold col
  iintro s0 s1 s2 r0 r1 r2
  ihave ⟨S, T, b0, b1, b2⟩ := (gather_done v c u) $$ s0 s1 s2 r0 r1 r2
  ihave T := (thirds_join v c u hu) $$ T
  iframe
theorem gather_own (c : Dev nD) : got v c (agpS 0 0) ⊢ iprop(got v c (agpS 1 0) -∗ got v c (agpS 2 0)
    -∗ got v c (agpR 0 0) -∗ got v c (agpR 1 0) -∗ got v c (agpR 2 0) -∗ got v c (agzS 0) -∗ got v c (agzS 1) -∗ got v c (agzS 2)
    -∗ semVal (cell c (agzR 0)) 0 -∗ semVal (cell c (agzR 1)) 0 -∗ semVal (cell c (agzR 2)) 0
    -∗ (semsG c 0 ∗ semsA c ∗ col c 0 (final v.tot))) := by
  unfold col semsA
  rw [bigSep3]
  have h : iprop(own3 v c ∗ own3' v c) ⊢ blk c (px c (zu 0)) fullShare (final v.tot) := by
    rw [show zu 0 = 0 from rfl, px_zero]; exact (own_split v c).2
  iintro s0 s1 s2 r0 r1 r2 z0 z1 z2 y0 y1 y2
  ihave ⟨S, T, b0, b1, b2⟩ := (gather_done v c 0) $$ s0 s1 s2 r0 r1 r2
  ihave T := (own_join v c) $$ T
  ihave ⟨z0, l0⟩ := (got_agzS v c 0) $$ z0
  ihave ⟨z1, l1⟩ := (got_agzS v c 1) $$ z1
  ihave ⟨z2, l2⟩ := (got_agzS v c 2) $$ z2
  ihave O := h $$ [T l0 l1 l2]
  · unfold own3; iframe
  iframe
theorem across_done (c : Dev nD) : got v c (rszS 0) ⊢ iprop(got v c (rszS 1) -∗ got v c (rszS 2) -∗ semVal (cell c (rszR 0)) 0
    -∗ semVal (cell c (rszR 1)) 0 -∗ semVal (cell c (rszR 2)) 0 -∗ semsZ c) := by
  unfold semsZ
  rw [bigSep3]
  iintro s0 s1 s2 r0 r1 r2
  ihave s0 := (got_rszS v c 0) $$ s0
  ihave s1 := (got_rszS v c 1) $$ s1
  ihave s2 := (got_rszS v c 2) $$ s2
  iframe

theorem bigSep_sum {A B : Type} [Fintype A] [Fintype B] (Φ : A ⊕ B → sProp 𝕄) : (bigSep Finset.univ Φ : sProp 𝕄)
    = iprop((bigSep Finset.univ fun a => Φ (.inl a)) ∗ bigSep Finset.univ fun b => Φ (.inr b)) := bigSep_univ_sum Φ

/-- All the semaphores that belong to the call, at zero. -/
theorem sems_all (c : Dev nD) : iprop(semVal (cell c ext) 0 ∗ semsZ c ∗ semsA c ∗ (bigSep Finset.univ fun j : Fin 4 => semsP (F := F) c j)
    ∗ (bigSep Finset.univ fun u : Fin 4 => semsG c u)) ⊢ bigSep Finset.univ fun s : OS => semVal (cell c (.inr s)) 0 := by
  unfold semsZ semsA semsP semsG
  simp only [bigSep_sum, bigSep_univ_prod]
  rw [bigSep_univ_comm (fun (j : Fin 4) (t : Fin 3) => (iprop(semVal (cell c (rspS t j)) 0 ∗ semVal (cell c (rspR t j)) 0) : sProp 𝕄)),
    bigSep_univ_comm (fun (j : Fin 4) (t : Fin 3) => (iprop(semVal (cell c (agpS t j)) 0 ∗ semVal (cell c (agpR t j)) 0) : sProp 𝕄))]
  simp only [bigSep_sep', bigSep4]
  rw [show (Finset.univ : Finset Unit) = {()} from rfl, bigSep_singleton]
  iintro ⟨e, ⟨a, b⟩, ⟨c, d⟩, ⟨⟨f0, f1, f2, f3⟩, ⟨g0, g1, g2, g3⟩⟩, ⟨⟨h0, h1, h2, h3⟩, ⟨i0, i1, i2, i3⟩⟩⟩
  iframe

/-! ## What the entry barrier gives -/

/-- The slots of the partners' landing buffers. -/
def slots (c : Dev nD) : sProp 𝕄 :=
  iprop((bigSep Finset.univ fun t : Fin 3 => bigSep Finset.univ fun j : Fin 4 => iprop(∃ f, lp (px c (pm t)) t j f))
    ∗ (bigSep Finset.univ fun t : Fin 3 => iprop(∃ f, lz (px c (zm t)) t f)))

theorem bar_got (c : Dev nD) : (bigSep Finset.univ fun d => sPay v c bar d) ⊢ iprop(slots c ∗ □ peers c) := by
  have hp (t : Fin 3) : sPay v c bar (false, t) = giveP (px c (pm t)) t := by unfold sPay; rfl
  have hz (t : Fin 3) : sPay v c bar (true, t) = giveZ (px c (zm t)) t := by unfold sPay; rfl
  rw [bigSep_duty]
  unfold slots peers
  rw [hp, hp, hp, hz, hz, hz, bigSep3, bigSep3, bigSep3, bigSep3, bigSep_duty]
  unfold giveP giveZ
  iintro ⟨⟨a0, #b0, #c0, #d0⟩, ⟨a1, #b1, #c1, #d1⟩, ⟨a2, #b2, #c2, #d2⟩, ⟨e0, #f0, #g0, #h0⟩, ⟨e1, #f1, #g1, #h1⟩, ⟨e2, #f2, #g2, #h2⟩⟩
  isplitl [a0 a1 a2 e0 e1 e2]
  · iframe
  imodintro
  isplitr
  · isplitr
    · isplitr; · iexact b0
      iexact c0
    isplitr
    · isplitr; · iexact b1
      iexact c1
    isplitr; · iexact b2
    iexact c2
  isplitr
  · isplitr
    · isplitr; · iexact f0
      iexact g0
    isplitr
    · isplitr; · iexact f1
      iexact g1
    isplitr; · iexact f2
    iexact g2
  isplitr; · iexact d0
  isplitr; · iexact d1
  isplitr; · iexact d2
  isplitr; · iexact h0
  isplitr; · iexact h1
  iexact h2

/-- What the device tells and gives its partners at the entry barrier. -/
def opened (c : Dev nD) : sProp 𝕄 := iprop(bigSep Finset.univ fun s : OS => reached ER (cell c (.inr s)) 0)
instance opened_persistent (c : Dev nD) : BI.Persistent (opened (F := F) c) := by unfold opened; infer_instance
theorem opened_one (c : Dev nD) (s : OS) : opened (F := F) c ⊢ reached ER (cell c (.inr s)) 0 := by
  unfold opened; exact bigSep_elim (Finset.mem_univ s)

theorem give_p (c : Dev nD) (t : Fin 3) (f : LpC F) : opened (F := F) c ⊢ iprop((bigSep Finset.univ fun j : Fin 4 => lp c t j f)
    -∗ sPay v (px c (mask (false, t))) bar (false, t)) := by
  have hp : sPay v (px c (mask (false, t))) bar (false, t) = giveP (px (px c (pm t)) (pm t)) t := by unfold sPay; rfl
  have hx (j : Fin 4) : (lp c t j f : sProp 𝕄) ⊢ iprop(∃ f, lp c t j f) := by iintro H; iexists f; iexact H
  have he : (bigSep Finset.univ fun j : Fin 4 => lp c t j f) ⊢ bigSep Finset.univ fun j : Fin 4 => iprop(∃ f, lp c t j f) :=
    bigSep_mono fun j _ => hx j
  have hr : opened (F := F) c ⊢ bigSep Finset.univ fun j : Fin 4 => reached ER (cell c (rspR t j)) 0 := by
    rw [bigSep4]
    iintro #H
    isplitr; · iapply (opened_one c (.inr (.inr (1, t, 0)))); iexact H
    isplitr; · iapply (opened_one c (.inr (.inr (1, t, 1)))); iexact H
    isplitr; · iapply (opened_one c (.inr (.inr (1, t, 2)))); iexact H
    iapply (opened_one c (.inr (.inr (1, t, 3)))); iexact H
  have hg : opened (F := F) c ⊢ bigSep Finset.univ fun j : Fin 4 => reached ER (cell c (agpR t j)) 0 := by
    rw [bigSep4]
    iintro #H
    isplitr; · iapply (opened_one c (.inr (.inr (3, t, 0)))); iexact H
    isplitr; · iapply (opened_one c (.inr (.inr (3, t, 1)))); iexact H
    isplitr; · iapply (opened_one c (.inr (.inr (3, t, 2)))); iexact H
    iapply (opened_one c (.inr (.inr (3, t, 3)))); iexact H
  rw [hp, px_px]
  unfold giveP
  iintro #H L
  isplitl [L]; · iapply he; iexact L
  isplitr; · iapply hr; iexact H
  isplitr; · iapply hg; iexact H
  iapply (opened_one c (.inl ())); iexact H
theorem give_z (c : Dev nD) (t : Fin 3) (f : LzC F) : opened (F := F) c ⊢ iprop(lz c t f -∗ sPay v (px c (mask (true, t))) bar (true, t)) := by
  have hp : sPay v (px c (mask (true, t))) bar (true, t) = giveZ (px (px c (zm t)) (zm t)) t := by unfold sPay; rfl
  rw [hp, px_px]
  unfold giveZ
  iintro #H L
  isplitl [L]; · iexists f; iexact L
  isplitr; · iapply (opened_one c (.inr (.inl (1, t)))); iexact H
  isplitr; · iapply (opened_one c (.inr (.inl (3, t)))); iexact H
  iapply (opened_one c (.inl ())); iexact H

/-- What is signalled at the entry barrier. -/
theorem bar_in (c : Dev nD) (f : LpC F) (g : LzC F) : opened (F := F) c ⊢ iprop(buf lpM c f -∗ buf lzM c g
    -∗ (bigSep Finset.univ fun d : Duty => iprop(dutyTok ER (cell (px c (mask d)) bar) 0 d ∗ reached ER (cell (px c (mask d)) bar) 0))
    -∗ bigSep Finset.univ fun d => inBar v c bar d) := by
  rw [bigSep_duty, bigSep_duty, lp_slots, lz_slots, bigSep3, bigSep3]
  unfold inBar
  iintro #H ⟨p0, p1, p2⟩ ⟨z0, z1, z2⟩ ⟨⟨t0, r0⟩, ⟨t1, r1⟩, ⟨t2, r2⟩, ⟨t3, r3⟩, ⟨t4, r4⟩, ⟨t5, r5⟩⟩
  ihave p0 := (give_p v c 0 f) $$ H p0
  ihave p1 := (give_p v c 1 f) $$ H p1
  ihave p2 := (give_p v c 2 f) $$ H p2
  ihave z0 := (give_z v c 0 g) $$ H z0
  ihave z1 := (give_z v c 1 g) $$ H z1
  ihave z2 := (give_z v c 2 g) $$ H z2
  iframe

end Cert.Attn

end
-- ==== Proof.Body.lean ====
/-
  The run of the whole body on one device: its parts one after the other.
-/
module

public import proofs.«01_k».proof.Proof.Blocks

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3)

variable {F : FTy → Type} [FloatOps F] [Named F]

local notation "𝕄" => MT nD τ sig Unit (Elt F) ℕ UU ℕ

attribute [local irreducible] loc px owedK isBar sPay

/-! ## What is owed after each part -/

def l46 : List Debt := (ext, mask (true, 2)) :: []
def l45 : List Debt := (ext, mask (true, 1)) :: l46
def l39 : List Debt := (ext, mask (false, 0)) :: (ext, mask (false, 1)) :: (ext, mask (false, 2)) :: (ext, mask (true, 0)) :: l45
def l38 : List Debt := (agpR 0 3, pm 0) :: (agpR 1 3, pm 1) :: (agpR 2 3, pm 2) :: l39
def l37 : List Debt := (agpR 1 2, pm 1) :: (agpR 2 2, pm 2) :: l38
def l36 : List Debt := (agpR 1 1, pm 1) :: (agpR 2 1, pm 2) :: (agpR 0 2, pm 0) :: l37
def l35 : List Debt := (agpR 2 0, pm 2) :: (agpR 0 1, pm 0) :: l36
def l34 : List Debt := (agzR 2, zm 2) :: (agpR 0 0, pm 0) :: (agpR 1 0, pm 1) :: l35
def l30 : List Debt := (agzR 0, zm 0) :: (agzR 1, zm 1) :: l34
def l27 : List Debt := (rszR 2, zm 2) :: l30
def l24 : List Debt := (rszR 1, zm 1) :: l27
def l22 : List Debt := (rszR 0, zm 0) :: l24
def l21 : List Debt := (rspR 0 3, pm 0) :: l22
def l20 : List Debt := (rspR 0 1, pm 0) :: (rspR 0 2, pm 0) :: l21
def l15 : List Debt := (rspR 0 0, pm 0) :: l20
def l14 : List Debt := (rspR 2 2, pm 2) :: (rspR 2 3, pm 2) :: l15
def l13 : List Debt := (rspR 2 0, pm 2) :: (rspR 2 1, pm 2) :: l14
def l12 : List Debt := (rspR 1 2, pm 1) :: (rspR 1 3, pm 1) :: l13
theorem debts1_eq : debts1 = (rspR 1 0, pm 1) :: (rspR 1 1, pm 1) :: l12 := rfl
theorem l12_eq : l12 = (rspR 1 2, pm 1) :: (rspR 1 3, pm 1) :: l13 := rfl
theorem l13_eq : l13 = (rspR 2 0, pm 2) :: (rspR 2 1, pm 2) :: l14 := rfl
theorem l14_eq : l14 = (rspR 2 2, pm 2) :: (rspR 2 3, pm 2) :: l15 := rfl
theorem l15_eq : l15 = (rspR 0 0, pm 0) :: l20 := rfl
theorem l20_eq : l20 = (rspR 0 1, pm 0) :: (rspR 0 2, pm 0) :: l21 := rfl
theorem l21_eq : l21 = (rspR 0 3, pm 0) :: l22 := rfl
theorem l22_eq : l22 = (rszR 0, zm 0) :: l24 := rfl
theorem l24_eq : l24 = (rszR 1, zm 1) :: l27 := rfl
theorem l27_eq : l27 = (rszR 2, zm 2) :: l30 := rfl
theorem l30_eq : l30 = (agzR 0, zm 0) :: (agzR 1, zm 1) :: l34 := rfl
theorem l34_eq : l34 = (agzR 2, zm 2) :: (agpR 0 0, pm 0) :: (agpR 1 0, pm 1) :: l35 := rfl
theorem l35_eq : l35 = (agpR 2 0, pm 2) :: (agpR 0 1, pm 0) :: l36 := rfl
theorem l36_eq : l36 = (agpR 1 1, pm 1) :: (agpR 2 1, pm 2) :: (agpR 0 2, pm 0) :: l37 := rfl
theorem l37_eq : l37 = (agpR 1 2, pm 1) :: (agpR 2 2, pm 2) :: l38 := rfl
theorem l38_eq : l38 = (agpR 0 3, pm 0) :: (agpR 1 3, pm 1) :: (agpR 2 3, pm 2) :: l39 := rfl
theorem l39_eq : l39 = (ext, mask (false, 0)) :: (ext, mask (false, 1)) :: (ext, mask (false, 2)) :: (ext, mask (true, 0)) :: l45 := rfl
theorem l45_eq : l45 = (ext, mask (true, 1)) :: l46 := rfl
theorem l46_eq : l46 = (ext, mask (true, 2)) :: [] := rfl

/-- What a device has of the semaphores when the body starts. -/
def start (c : Dev nD) : sProp 𝕄 :=
  iprop((bigSep Finset.univ fun t : Fin 3 => bigSep Finset.univ fun j : Fin 4 => rspT c t j)
    ∗ (bigSep Finset.univ fun t : Fin 3 => bigSep Finset.univ fun j : Fin 4 => todo c (rspR t j))
    ∗ (bigSep Finset.univ fun t : Fin 3 => rszT c t) ∗ (bigSep Finset.univ fun t : Fin 3 => todo c (rszR t))
    ∗ (bigSep Finset.univ fun t : Fin 3 => agzT c t) ∗ (bigSep Finset.univ fun t : Fin 3 => todo c (agzR t))
    ∗ (bigSep Finset.univ fun t : Fin 3 => bigSep Finset.univ fun u : Fin 4 => agpT c t u)
    ∗ (bigSep Finset.univ fun t : Fin 3 => bigSep Finset.univ fun u : Fin 4 => todo c (agpR t u)))
theorem fan (Φ : Fin 3 → Fin 4 → sProp 𝕄) : (bigSep Finset.univ fun t : Fin 3 => bigSep Finset.univ fun j : Fin 4 => Φ t j)
    = iprop((Φ 0 0 ∗ Φ 0 1 ∗ Φ 0 2 ∗ Φ 0 3) ∗ (Φ 1 0 ∗ Φ 1 1 ∗ Φ 1 2 ∗ Φ 1 3) ∗ (Φ 2 0 ∗ Φ 2 1 ∗ Φ 2 2 ∗ Φ 2 3)) := by
  rw [bigSep3, bigSep4, bigSep4, bigSep4]

/-- The seven operands as they lie in the staging buffers. -/
def inputs (I : Ins F) (c : Dev nD) : sProp 𝕄 :=
  iprop(buf xM c I.x ∗ buf wqM c I.wq ∗ buf wkM c I.wk ∗ buf wvM c I.wv ∗ buf woM c I.wo ∗ buf csM c I.cs ∗ buf snM c I.sn)

variable (v : Vals F) (K : GSem nD τ sig → ℕ)

theorem dev41_eq (c : Dev nD) : (⟨k0_dev41 c, k0_dev41_lt c⟩ : Dev nD) = px c (zm 1) := by revert c; unfold px; decide +kernel
theorem dev42_eq (c : Dev nD) : (⟨k0_dev42 c, k0_dev42_lt c⟩ : Dev nD) = px c (zm 2) := by revert c; unfold px; decide +kernel

theorem bar_got' (c : Dev nD) : (bigSep Finset.univ fun d => sPay v c bar d)
    ⊢ iprop(((bigSep Finset.univ fun t : Fin 3 => bigSep Finset.univ fun j : Fin 4 => iprop(∃ f, lp (px c (pm t)) t j f))
      ∗ (bigSep Finset.univ fun t : Fin 3 => iprop(∃ f, lz (px c (zm t)) t f))) ∗ □ peers c) := bar_got v c

/-- What the body leaves. -/
def left (I : Ins F) (c : Dev nD) : sProp 𝕄 :=
  iprop(Ow c [] ∗ inputs I c ∗ buf kM c I.keys ∗ buf vM c I.vals ∗ buf lpM c (landp v.part c) ∗ buf lzM c (landz v.acc c)
    ∗ buf outM c (final v.tot) ∗ semVal (cell c bar) 0 ∗ bigSep Finset.univ fun s : OS => semVal (cell c (.inr s)) 0)

set_option maxHeartbeats 4000000 in
theorem body_run (hv : Sums v) (I : Ins F) (c : Dev nD) (hI : v.part c = I.part) (fk fv fo : OutC F) (Q : PUnit → sProp 𝕄) :
    env v K ⊢ iprop(Ow c debts -∗ (bigSep Finset.univ fun d => inBar v c bar d)
      -∗ cred (tallyAt (cell c bar) () 6) -∗ atPos ER (cell c bar) 0 ∅ 0
      -∗ cred (tallyAt (cell c ext) () 6) -∗ atPos ER (cell c ext) 0 ∅ 0
      -∗ (bigSep Finset.univ fun d : Duty => dutyTok ER (cell (px c (mask d)) ext) 0 d)
      -∗ start c -∗ inputs I c -∗ buf kM c fk -∗ buf vM c fv -∗ buf outM c fo
      -∗ (left v I c -∗ Q ⟨⟩) -∗ run c (atArgs (cc0_body (F := F))) Q) := by
  have hfirst : halfP c (hA c) I.part ⊢ iprop(blk c (px (px c (pm 1)) (zu (uj 0))) fullShare (v.part c)
    ∗ blk c (px (px c (pm 1)) (zu (uj 1))) fullShare (v.part c)
    ∗ blk c (px (px c (pm 1)) (zu (uj 2))) fullShare (v.part c)
    ∗ blk c (px (px c (pm 1)) (zu (uj 3))) fullShare (v.part c)
    ∗ blk c (px (px c (pm 2)) (zu (uj 0))) fullShare (v.part c)
    ∗ blk c (px (px c (pm 2)) (zu (uj 1))) fullShare (v.part c)
    ∗ blk c (px (px c (pm 2)) (zu (uj 2))) fullShare (v.part c)
    ∗ blk c (px (px c (pm 2)) (zu (uj 3))) fullShare (v.part c)) := by
    rw [← hI, half_first]
  have hsecond : halfP c (hB c) I.part ⊢ iprop(blk c (px (px c (pm 0)) (zu (uj 0))) fullShare (v.part c)
    ∗ blk c (px (px c (pm 0)) (zu (uj 1))) fullShare (v.part c)
    ∗ blk c (px (px c (pm 0)) (zu (uj 2))) fullShare (v.part c)
    ∗ blk c (px (px c (pm 0)) (zu (uj 3))) fullShare (v.part c)
    ∗ blk c (px c (zu (uj 0))) fullShare (v.part c)
    ∗ blk c (px c (zu (uj 1))) fullShare (v.part c)
    ∗ blk c (px c (zu (uj 2))) fullShare (v.part c)
    ∗ blk c (px c (zu (uj 3))) fullShare (v.part c)) := by
    rw [← hI, half_second]
  have henv : iprop(env v K ∗ peers c) ⊢ envp v K c := by unfold envp; exact .rfl
  have hown : blk c (px c (zu (uj 3))) fullShare (v.acc c) ⊢ blk c c fullShare (v.acc c) := by
    rw [show zu (uj 3) = 0 from rfl, px_zero]
  have hq2 : blk c (px c (zu (uj 2))) fullShare (v.acc c) ⊢ blk c (px c (zm 2)) fullShare (v.acc c) := blk_zu v c rfl
  have hlp := lp_slots c (landp v.part c)
  have hlz := lz_slots c (landz v.acc c)
  simp only [cc0_body_eq_skeleton, cc0_body_skel, k0_part46_eq_skeleton, k0_part46_skel, wp_bind]
  unfold left start inputs
  rw [bigSep_duty (fun d => dutyTok ER (cell (px c (mask d)) ext) 0 d), show debts = debtsBar bar ++ debts1 from rfl]
  iintro #He HO Hb bc ba ec ea ⟨e0, e1, e2, e3, e4, e5⟩ ⟨P, R, Z, Y, A, B, G, E⟩ ⟨x, wq, wk, wv, wo, cs, sn⟩ k vv o Hk
  iapply (part1 v K c debts1 _) $$ He HO Hb
  iintro HO %_ %_ %_ %_ %_ %_ %_ %_
  dsimp only
  ihave k := (kst_start c I.keys fk) $$ k
  iapply (part2 I c  _) $$ cs sn x wk k
  iintro cs sn x wk k
  iapply (part3 I c  _) $$ k
  iintro k
  iapply (part4 I c  _) $$ k
  iintro k
  iapply (part5 I c  _) $$ k
  iintro k
  iapply (part6 v K I c _ fv debts1 (by decide) _) $$ He HO k x wv vv bc ba
  iintro HO k x wv vv bs Hp %_
  ihave k := (kst_end c I.keys) $$ k
  ihave ⟨⟨sp, sz⟩, #Hpe⟩ := (bar_got' v c) $$ Hp
  ihave #Hv := henv $$ [He Hpe]
  · isplitr; · iexact He
    iexact Hpe
  ihave ⟨oA, oB⟩ := (halves c fo).1 $$ o
  iapply (part7 I c _ _) $$ x wq k vv
  iintro x wq k vv
  iapply (part8 I c _ _) $$ k vv
  iintro k vv
  iapply (part9 I c _ _) $$ k vv
  iintro k vv
  iapply (part10 I c _ _) $$ k vv
  iintro k vv
  iapply (part11 I c _ _ _ _ fo _) $$ k vv wo oA
  iintro k vv wo oA
  ihave ⟨a10, a11, a12, a13, a20, a21, a22, a23⟩ := hfirst $$ oA
  ihave P := (Entails.of_eq (fan (fun t j => rspT c t j))) $$ P
  icases P with ⟨⟨P00, P01, P02, P03⟩, ⟨P10, P11, P12, P13⟩, ⟨P20, P21, P22, P23⟩⟩
  ihave sp := (Entails.of_eq (fan (fun t j => iprop(∃ f, lp (px c (pm t)) t j f)))) $$ sp
  icases sp with ⟨⟨sp00, sp01, sp02, sp03⟩, ⟨sp10, sp11, sp12, sp13⟩, ⟨sp20, sp21, sp22, sp23⟩⟩
  ihave i10 := (mk_rsp v c 1 0) $$ P10 a10 sp10
  ihave i11 := (mk_rsp v c 1 1) $$ P11 a11 sp11
  ihave i12 := (mk_rsp v c 1 2) $$ P12 a12 sp12
  ihave i13 := (mk_rsp v c 1 3) $$ P13 a13 sp13
  ihave i20 := (mk_rsp v c 2 0) $$ P20 a20 sp20
  ihave i21 := (mk_rsp v c 2 1) $$ P21 a21 sp21
  ihave i22 := (mk_rsp v c 2 2) $$ P22 a22 sp22
  ihave i23 := (mk_rsp v c 2 3) $$ P23 a23 sp23
  rw [debts1_eq]
  iapply (part12 v K c _ _ _ l12 _) $$ Hv HO i10 i11
  iintro HO S10 S11
  rw [l12_eq]
  iapply (part13 v K c _ _ _ _ l13 _) $$ Hv HO i12 i13
  iintro HO S12 S13
  rw [l13_eq]
  iapply (part14 v K c _ _ _ l14 _) $$ Hv HO i20 i21
  iintro HO S20 S21
  rw [l14_eq]
  iapply (part15 v K I c _ _ _ l15 _) $$ Hv HO i22 i23 x wq
  iintro HO S22 S23 x wq %_
  iapply (part16 I c _ _) $$ k vv
  iintro k vv
  iapply (part17 I c _ _) $$ k vv
  iintro k vv
  iapply (part18 I c _ _) $$ k vv
  iintro k vv
  iapply (part19 I c _ _) $$ k vv
  iintro k vv
  rw [l15_eq]
  iapply (part20 v K I c _ _ _ _ fo iprop(inRsp v c 0 1 ∗ inRsp v c 0 2 ∗ inRsp v c 0 3 ∗ blk c (px c (zu (uj 0))) fullShare (v.part c) ∗ blk c (px c (zu (uj 1))) fullShare (v.part c) ∗ blk c (px c (zu (uj 2))) fullShare (v.part c) ∗ blk c (px c (zu (uj 3))) fullShare (v.part c)) l20 _) $$ Hv HO wo oB [P00 P01 P02 P03 sp00 sp01 sp02 sp03]
  · iintro oB
    ihave ⟨a00, a01, a02, a03, p0, p1, p2, p3⟩ := hsecond $$ oB
    ihave i00 := (mk_rsp v c 0 0) $$ P00 a00 sp00
    ihave i01 := (mk_rsp v c 0 1) $$ P01 a01 sp01
    ihave i02 := (mk_rsp v c 0 2) $$ P02 a02 sp02
    ihave i03 := (mk_rsp v c 0 3) $$ P03 a03 sp03
    iframe
  iintro HO wo S00 ⟨i01, i02, i03, p0, p1, p2, p3⟩ %_ %_
  ihave R := (Entails.of_eq (fan (fun t j => todo c (rspR t j)))) $$ R
  icases R with ⟨⟨R00, R01, R02, R03⟩, ⟨R10, R11, R12, R13⟩, ⟨R20, R21, R22, R23⟩⟩
  ihave Z := (Entails.of_eq (bigSep3 (fun t => rszT c t))) $$ Z
  icases Z with ⟨Z0, Z1, Z2⟩
  ihave Y := (Entails.of_eq (bigSep3 (fun t => todo c (rszR t)))) $$ Y
  icases Y with ⟨Y0, Y1, Y2⟩
  ihave sz := (Entails.of_eq (bigSep3 (fun t => iprop(∃ f, lz (px c (zm t)) t f)))) $$ sz
  icases sz with ⟨sz0, sz1, sz2⟩
  ihave z0 := (mk_rsz c 0) $$ Z0 sz0
  ihave z1 := (mk_rsz c 1) $$ Z1 sz1
  ihave z2 := (mk_rsz c 2) $$ Z2 sz2
  rw [l20_eq]
  iapply (part21 v K c _ _ _ _ _ l21 _) $$ Hv HO i01 i02
  iintro HO S01 S02 %_ %_
  rw [l21_eq]
  iapply (part22 v K c _ _ _ _ _ l22 (by decide) _) $$ Hv HO i03 S00 R00
  iintro HO S03 s00 r00 %_ %_
  ihave ⟨L00, g00⟩ := (got_rspR v c 0 0) $$ r00
  iapply (part23 v K c _ _ l22 (by decide) _) $$ Hv HO S10 R10 S20
  iintro HO s10 r10 s20
  ihave ⟨L10, g10⟩ := (got_rspR v c 1 0) $$ r10
  rw [l22_eq]
  iapply (part24 v K hv c _ _ _ _ l24 (by decide) _) $$ Hv HO R20 p0 L00 L10 z0
  iintro HO g20 L00 L10 L20 T0 %_ %_
  iapply (part25 v K c _ _ _ l24 (by decide) _) $$ Hv HO S01 R01 S11
  iintro HO s01 r01 s11 %_
  ihave ⟨L01, g01⟩ := (got_rspR v c 0 1) $$ r01
  iapply (part26 v K c _ _ _ l24 (by decide) _) $$ Hv HO R11 S21 R21 p1 L01
  iintro HO r11 s21 r21 p1 L01
  ihave ⟨L11, g11⟩ := (got_rspR v c 1 1) $$ r11
  ihave ⟨L21, g21⟩ := (got_rspR v c 2 1) $$ r21
  rw [l24_eq]
  iapply (part27 v K hv c _ _ _ _ l27 (by decide) _) $$ Hv HO L11 L21 p1 z1 S02
  iintro HO L11 L21 T1 s02 %_
  iapply (part28 v K c _ _ l27 (by decide) _) $$ Hv HO R02 S12 R12
  iintro HO r02 s12 r12
  ihave ⟨L02, g02⟩ := (got_rspR v c 0 2) $$ r02
  ihave ⟨L12, g12⟩ := (got_rspR v c 1 2) $$ r12
  iapply (part29 v K hv c _ _ l27 (by decide) _) $$ Hv HO S22 R22 p2 L02 L12
  iintro HO s22 g22 q2 L02 L12 L22 %_
  ihave q2 := hq2 $$ q2
  rw [l27_eq]
  iapply (part30 v K c _ _ _ _ _ l30 (by decide) _) $$ Hv HO z2 q2 S03 R03
  iintro HO T2 s03 r03 %_
  ihave ⟨L03, g03⟩ := (got_rspR v c 0 3) $$ r03
  iapply (part31 v K c _ _ l30 (by decide) _) $$ Hv HO S13 R13 S23
  iintro HO s13 r13 s23
  ihave ⟨L13, g13⟩ := (got_rspR v c 1 3) $$ r13
  iapply (part32 v K hv c _ _ l30 (by decide) _) $$ Hv HO R23 p3 L03 L13 T0
  iintro HO g23 q3 L03 L13 L23 T0
  iapply (part33 v K c _ _ l30 (by decide) _) $$ Hv HO Y0 T1 Y1 T2
  iintro HO Y0 T1 Y1 T2
  ihave ⟨z0, g0⟩ := (got_rszR v c 0) $$ Y0
  ihave ⟨z1, g1⟩ := (got_rszR v c 1) $$ Y1
  ihave A := (Entails.of_eq (bigSep3 (fun t => agzT c t))) $$ A
  icases A with ⟨A0, A1, A2⟩
  ihave B := (Entails.of_eq (bigSep3 (fun t => todo c (agzR t)))) $$ B
  icases B with ⟨B0, B1, B2⟩
  ihave ⟨i0, y0⟩ := (mk_agz v c 0) $$ A0 g0
  ihave ⟨i1, y1⟩ := (mk_agz v c 1) $$ A1 g1
  ihave q3 := hown $$ q3
  rw [l30_eq]
  iapply (part34 v K hv c _ _ _ l34 (by decide) _) $$ Hv HO Y2 q3 z0 z1 i0 i1
  iintro HO g2 z0 z1 z2 A0 A1 b2 ow
  ihave ⟨i2, y2⟩ := (mk_agz v c 2) $$ A2 g2
  ihave SZ := (across_done v c) $$ T0 T1 T2 y0 y1 y2
  ihave G := (Entails.of_eq (fan (fun t u => agpT c t u))) $$ G
  icases G with ⟨⟨G00, G01, G02, G03⟩, ⟨G10, G11, G12, G13⟩, ⟨G20, G21, G22, G23⟩⟩
  ihave E := (Entails.of_eq (fan (fun t u => todo c (agpR t u)))) $$ E
  icases E with ⟨⟨E00, E01, E02, E03⟩, ⟨E10, E11, E12, E13⟩, ⟨E20, E21, E22, E23⟩⟩
  ihave ⟨i01, i11, i21, SP0⟩ := (plane_done v c 0 1 rfl) $$ G01 G11 G21 g00 g10 g20 s00 s10 s20
  ihave ⟨i02, i12, i22, SP1⟩ := (plane_done v c 1 2 rfl) $$ G02 G12 G22 g01 g11 g21 s01 s11 s21
  ihave ⟨i03, i13, i23, SP2⟩ := (plane_done v c 2 3 rfl) $$ G03 G13 G23 g02 g12 g22 s02 s12 s22
  ihave ⟨i00, i10, i20, SP3⟩ := (plane_done v c 3 0 rfl) $$ G00 G10 G20 g03 g13 g23 s03 s13 s23
  ihave LP := (Entails.of_eq hlp.symm) $$ [L00 L01 L02 L03 L10 L11 L12 L13 L20 L21 L22 L23]
  · rw [fan]; iframe
  ihave LZ := (Entails.of_eq hlz.symm) $$ [z0 z1 z2]
  · rw [bigSep3]; iframe
  ihave ⟨t00, t01, t02⟩ := (own_thirds v c) $$ ow
  rw [l34_eq]
  iapply (part35 v K c _ _ _ _ _ _ l35 _) $$ Hv HO i2 b2 i00 t00 i10 t01
  iintro HO A2 G00 G10
  rw [l35_eq]
  iapply (part36 v K c _ _ _ _ _ l36 (by decide) _) $$ Hv HO i20 t02 B0 i01
  iintro HO G20 B0 G01 t11 t12
  rw [l36_eq]
  iapply (part37 v K c _ _ _ _ _ l37 (by decide) _) $$ Hv HO i11 t11 i21 t12 B1 i02
  iintro HO G11 G21 B1 G02 t21 t22
  rw [l37_eq]
  iapply (part38 v K c _ _ _ _ _ _ l38 (by decide) _) $$ Hv HO i12 t21 i22 t22 B2
  iintro HO G12 G22 B2 t30 t31 t32
  rw [l38_eq]
  iapply (part39 v K c _ _ l39 (by decide) _) $$ Hv HO i03 t30 i13 t31 i23 t32 A0
  iintro HO G03 G13 G23 A0
  iapply (part40 v K c _ _ l39 (by decide) _) $$ Hv HO A1 A2 G00 E00 G10
  iintro HO A1 A2 G00 E00 G10
  iapply (part41 v K c _ _ l39 (by decide) _) $$ Hv HO E10 G20 E20 G01 E01
  iintro HO E10 G20 E20 G01 E01
  iapply (part42 v K c _ _ l39 (by decide) _) $$ Hv HO G11 E11 G21 E21
  iintro HO G11 E11 G21 E21
  iapply (part43 v K c _ _ l39 (by decide) _) $$ Hv HO G02 E02 G12 E12 G22
  iintro HO G02 E02 G12 E12 G22
  iapply (part44 v K c _ _ _ l39 (by decide) _) $$ Hv HO E22 G03 E03 G13
  iintro HO E22 G03 E03 G13 %_
  rw [l39_eq]
  iapply (part45 v K c _ _ _ _ _ l45 (by decide) _) $$ Hv HO E13 G23 E23 e0 e1 e2 e3
  iintro HO E13 G23 E23
  ihave ⟨SG0, SA, C0⟩ := (gather_own v c) $$ G00 G10 G20 E00 E10 E20 A0 A1 A2 B0 B1 B2
  ihave ⟨SG1, C1⟩ := (gather_col v c 1 (by decide)) $$ G01 G11 G21 E01 E11 E21
  ihave ⟨SG2, C2⟩ := (gather_col v c 2 (by decide)) $$ G02 G12 G22 E02 E12 E22
  ihave ⟨SG3, C3⟩ := (gather_col v c 3 (by decide)) $$ G03 G13 G23 E03 E13 E23
  ihave O := (of_cols c (final v.tot)) $$ [C0 C1 C2 C3]
  · iframe
  rw [l45_eq]
  iapply (go_exit v K c (by unfold loc; rfl) (true, 1)
    (dev41_eq c) l46 _) $$ Hv HO e4
  iintro HO
  rw [l46_eq]
  iapply (go_exit v K c (by unfold loc; rfl) (true, 2)
    (dev42_eq c) [] _) $$ Hv HO e5
  iintro HO
  iapply (step_bar v K c ext (by unfold isBar; rfl) (by unfold loc; rfl) [] (fun p hp => absurd hp List.not_mem_nil) _) $$ [HO ec ea]
  · isplitr; · iexact He
    isplitl [ec]; · iexact ec
    isplitl [HO]; · iexact HO
    iexact ea
  iintro ⟨HO, se, -⟩
  ihave S := (sems_all c) $$ [se SZ SA SP0 SP1 SP2 SP3 SG0 SG1 SG2 SG3]
  · rw [bigSep4, bigSep4]; iframe
  iapply (run_pure c PUnit.unit (fun a => run c (pure PUnit.unit) Q))
  iapply (run_pure c PUnit.unit Q)
  iapply Hk
  iframe

end Cert.Attn

end
-- ==== Proof.Region.lean ====
/-
  The kernel as a region of the program: its arrays, what each window holds before and after, and its body's run.
-/
module

public import proofs.«01_k».proof.Proof.Body
public import proofs.«01_k».proof.Proof.Gen.KernelIdeal.Frame

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

attribute [local irreducible] loc px owedK isBar sPay

variable (m : (ℓ : Loc nD τ sig) → Buf (Elt F) ℓ)

/-- The arrays that the kernel is given on device `c`. -/
def insOf (c : Dev nD) : Ins F where
  x := V m c main_v1
  wq := V m c main_v27
  wk := V m c main_v32
  wv := V m c main_arg3
  wo := V m c main_arg4
  cs := V m c main_v20
  sn := V m c main_v22

/-- What the result's buffer holds on each device at the three stages. -/
def partOf (c : Dev nD) : OutC F := (insOf m c).part
def accOf (c : Dev nD) : OutC F := fun i =>
  FloatOps.addf (FloatOps.addf (FloatOps.addf (partOf m c i) (partOf m (px c (pm 0)) i)) (partOf m (px c (pm 1)) i)) (partOf m (px c (pm 2)) i)
def totOf (c : Dev nD) : OutC F := fun i =>
  FloatOps.addf (FloatOps.addf (FloatOps.addf (accOf m c i) (accOf m (px c (zm 0)) i)) (accOf m (px c (zm 1)) i)) (accOf m (px c (zm 2)) i)
def valsOf : Vals F := ⟨partOf m, accOf m, totOf m⟩
theorem sums_valsOf : Sums (valsOf m) := ⟨fun _ _ => rfl, fun _ _ => rfl⟩

/-- The result, the same on every device. -/
def outOf : OutC F := final (totOf m)

/-! ## The windows -/

/-- The whole array, read as its one block. -/
theorem read_block (b : Ref sig .tc) (off : Fin b.ty.shape.rank → ℕ) (inb : ∀ a, off a + b.ty.shape.size a ≤ b.ty.shape.size a)
    (A : b.ty.Contents (Elt F)) : ((View.whole b).slice (Rect.unit off b.ty.shape.size inb)).read (Elt F) A = A := by
  funext j
  rw [View.read_apply]
  refine (cast_eq rfl _).trans (congrArg A ?_)
  funext a; apply Fin.ext
  rw [View.emb_slice, Function.Embedding.trans_apply, View.emb_whole, Function.Embedding.refl_apply, Rect.emb_apply]
  show off a + 1 * (j a).val = (j a).val
  have := inb a
  omega

theorem mem_block (b : Ref sig .tc) (off : Fin b.ty.shape.rank → ℕ) (inb : ∀ a, off a + b.ty.shape.size a ≤ b.ty.shape.size a)
    (i : b.ty.shape.Idx) : i ∈ ((View.whole b).slice (Rect.unit off b.ty.shape.size inb)).set := by
  refine Finset.mem_map.mpr ⟨i, Finset.mem_univ _, ?_⟩
  funext a; apply Fin.ext
  rw [View.emb_slice, Function.Embedding.trans_apply, View.emb_whole, Function.Embedding.refl_apply, Rect.emb_apply]
  show off a + 1 * (i a).val = (i a).val
  have := inb a
  omega

/-- The region's data: every input array stays, the result's array ends at the result. -/
def dat0 (X Y : Dev nD → sProp 𝕄) (c : Dev nD) : Dat τ (Elt F) Unit ℕ UU ℕ cfg0 c where
  A w := V m c (Pipeline.arrRef spec0 w)
  after w _ := match w with
    | 0 => (insOf m c).x
    | 1 => (insOf m c).wq
    | 2 => (insOf m c).wk
    | 3 => (insOf m c).wv
    | 4 => (insOf m c).wo
    | 5 => (insOf m c).cs
    | 6 => (insOf m c).sn
    | 7 => outOf m
    | ⟨_ + 8, h⟩ => absurd h (Nat.not_lt.2 (Nat.le_add_left _ _))
  Φ t := if t.val = 0 then X c else Y c
  q _ := fullShare
  owed t := if t.val = 0 then owedK c debts else 0

/-! Each window's block is its whole array. -/

theorem blk_read0 (A : (⟨S1024x1024, .bf16⟩ : BufTy).Contents (Elt F)) : ((cfg0.win 0).blk t0_0).view.read (Elt F) A = A :=
  read_block main_v1 _ _ A
theorem blk_read1 (A : (⟨S1024x1024, .bf16⟩ : BufTy).Contents (Elt F)) : ((cfg0.win 1).blk t0_0).view.read (Elt F) A = A :=
  read_block main_v27 _ _ A
theorem blk_read2 (A : (⟨S1024x1024, .bf16⟩ : BufTy).Contents (Elt F)) : ((cfg0.win 2).blk t0_0).view.read (Elt F) A = A :=
  read_block main_v32 _ _ A
theorem blk_read3 (A : (⟨S1024x1024, .bf16⟩ : BufTy).Contents (Elt F)) : ((cfg0.win 3).blk t0_0).view.read (Elt F) A = A :=
  read_block main_arg3 _ _ A
theorem blk_read4 (A : (⟨S1024x1024, .bf16⟩ : BufTy).Contents (Elt F)) : ((cfg0.win 4).blk t0_0).view.read (Elt F) A = A :=
  read_block main_arg4 _ _ A
theorem blk_read5 (A : (⟨S512x64, .bf16⟩ : BufTy).Contents (Elt F)) : ((cfg0.win 5).blk t0_0).view.read (Elt F) A = A :=
  read_block main_v20 _ _ A
theorem blk_read6 (A : (⟨S512x64, .bf16⟩ : BufTy).Contents (Elt F)) : ((cfg0.win 6).blk t0_0).view.read (Elt F) A = A :=
  read_block main_v22 _ _ A
theorem blk_read7 (A : (⟨S1024x1024, .bf16⟩ : BufTy).Contents (Elt F)) : ((cfg0.win 7).blk t0_0).view.read (Elt F) A = A :=
  read_block main_v33 _ _ A

/-- So the body finds each input array in its window. -/
theorem before_0 (X Y : Dev nD → sProp 𝕄) (c : Dev nD) (d) : (dat0 m X Y c).before 0 t0_0 d = (insOf m c).x :=
  ((dat0 m X Y c).before_fetched 0 t0_0 (fetch0_0 _) d).trans (blk_read0 (V m c main_v1))
theorem before_1 (X Y : Dev nD → sProp 𝕄) (c : Dev nD) (d) : (dat0 m X Y c).before 1 t0_0 d = (insOf m c).wq :=
  ((dat0 m X Y c).before_fetched 1 t0_0 (fetch0_1 _) d).trans (blk_read1 (V m c main_v27))
theorem before_2 (X Y : Dev nD → sProp 𝕄) (c : Dev nD) (d) : (dat0 m X Y c).before 2 t0_0 d = (insOf m c).wk :=
  ((dat0 m X Y c).before_fetched 2 t0_0 (fetch0_2 _) d).trans (blk_read2 (V m c main_v32))
theorem before_3 (X Y : Dev nD → sProp 𝕄) (c : Dev nD) (d) : (dat0 m X Y c).before 3 t0_0 d = (insOf m c).wv :=
  ((dat0 m X Y c).before_fetched 3 t0_0 (fetch0_3 _) d).trans (blk_read3 (V m c main_arg3))
theorem before_4 (X Y : Dev nD → sProp 𝕄) (c : Dev nD) (d) : (dat0 m X Y c).before 4 t0_0 d = (insOf m c).wo :=
  ((dat0 m X Y c).before_fetched 4 t0_0 (fetch0_4 _) d).trans (blk_read4 (V m c main_arg4))
theorem before_5 (X Y : Dev nD → sProp 𝕄) (c : Dev nD) (d) : (dat0 m X Y c).before 5 t0_0 d = (insOf m c).cs :=
  ((dat0 m X Y c).before_fetched 5 t0_0 (fetch0_5 _) d).trans (blk_read5 (V m c main_v20))
theorem before_6 (X Y : Dev nD → sProp 𝕄) (c : Dev nD) (d) : (dat0 m X Y c).before 6 t0_0 d = (insOf m c).sn :=
  ((dat0 m X Y c).before_fetched 6 t0_0 (fetch0_6 _) d).trans (blk_read6 (V m c main_v22))

/-- The result's array at the end. -/
theorem arrAt_7 (X Y : Dev nD → sProp 𝕄) (c : Dev nD) : (dat0 m X Y c).arrAt 7 cfg0.N = outOf m := by
  refine (dat0 m X Y c).arrAt_eq_of_cover 7 (outOf m) (fun t _ => ?_) (fun i => ⟨t0_0, flush0_7 _, ?_⟩)
  · obtain rfl := fin_N0 t
    exact (blk_read7 (outOf m)).symm
  · exact mem_block main_v33 _ _ i

/-! ## The body -/

set_option maxRecDepth 20000 in
/-- The program of the body is run with the windows' buffers. -/
theorem body_args (c : Dev nD) (Q : PUnit → sProp 𝕄) : run c (atArgs (cc0_body (F := F))) Q = run c (bodyAt0 t0_0) Q := rfl
end Cert.Attn

end
-- ==== Proof.Deal.lean ====
/-
  What the launch deals to the devices: every cell's record, the tokens of the duties that a device pays, its own places, and
  the credits that its partners owe it.
-/
module

public import proofs.«01_k».proof.Proof.Body

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The cells and the tokens -/

/-- The semaphores of the copies. -/
abbrev Dm : Type := (Fin 4 × Fin 3) ⊕ (Fin 4 × Fin 3 × Fin 4)
abbrev dm (x : Dm) : Sm := .inr (.inr x)

def barEmb : Dev nD ↪ GSem nD τ sig := ⟨fun c => cell c bar, fun _ _ h => (cell_inj h).1⟩
def ownEmb : Dev nD × OS ↪ GSem nD τ sig :=
  ⟨fun p => cell p.1 (.inr p.2), fun _ _ h => Prod.ext (cell_inj h).1 (Sum.inr_injective (cell_inj h).2)⟩
abbrev barCells : Finset (GSem nD τ sig) := Finset.univ.map barEmb
abbrev ownCells : Finset (GSem nD τ sig) := Finset.univ.map ownEmb

theorem disjoint_cells : Disjoint (barCells : Finset (GSem nD τ sig)) ownCells := by
  rw [Finset.disjoint_left]
  rintro g h₁ h₂
  obtain ⟨c, -, rfl⟩ := Finset.mem_map.mp h₁
  obtain ⟨p, -, h⟩ := Finset.mem_map.mp h₂
  exact Sum.inr_ne_inl (cell_inj h).2

/-- A token's semaphore and its duty. -/
def tokOf : Duty ⊕ (Duty ⊕ Dm) → Sm × Duty
  | .inl d => (bar, d)
  | .inr (.inl d) => (ext, d)
  | .inr (.inr x) => (dm x, d0)
theorem tokOf_inj : Function.Injective tokOf := by
  rintro (d | d | x) (d' | d' | x') h <;> simp only [tokOf, Prod.mk.injEq] at h
  · exact congrArg _ h.2
  · exact absurd h.1 (by simp)
  · exact absurd h.1 (by simp)
  · exact absurd h.1 (by simp)
  · rw [h.2]
  · exact absurd h.1 (by simp)
  · exact absurd h.1 (by simp)
  · exact absurd h.1 (by simp)
  · rw [Sum.inr_injective (Sum.inr_injective h.1)]
def tokEmb : Dev nD × (Duty ⊕ (Duty ⊕ Dm)) ↪ GSem nD τ sig × ℕ × Duty :=
  ⟨fun p => (cell p.1 (tokOf p.2).1, 0, (tokOf p.2).2), fun _ _ h =>
    have h1 := cell_inj (congrArg Prod.fst h)
    Prod.ext h1.1 (tokOf_inj (Prod.ext h1.2 (congrArg (fun t : GSem nD τ sig × ℕ × Duty => t.2.2) h)))⟩
abbrev allToks : Finset (GSem nD τ sig × ℕ × Duty) := Finset.univ.map tokEmb

attribute [local irreducible] loc px owedK isBar sPay

/-- Where a copy's token goes: the one of a send stays, the one of a receive goes to the partner who sends. -/
def tmask : Dm → Fin 16
  | .inl (k, t) => if k = 1 ∨ k = 3 then zm t else 0
  | .inr (k, t, _) => if k = 1 ∨ k = 3 then pm t else 0

/-- A family over the devices and something else, with each member moved over the devices by a mask. -/
theorem deal {A : Type} [Fintype A] (μ : A → Fin 16) (Φ : Dev nD → A → sProp 𝕄) :
    (bigSep Finset.univ fun c => bigSep Finset.univ fun a => Φ c a : sProp 𝕄)
      = bigSep Finset.univ fun c => bigSep Finset.univ fun a => Φ (px c (μ a)) a := by
  rw [bigSep_univ_comm, bigSep_univ_comm (fun c a => Φ (px c (μ a)) a)]
  exact bigSep_congr fun a _ => bigSep_univ_equiv (pxEquiv (μ a)) (fun c => Φ c a)

/-- The tokens that device `c` pays with. -/
def toks (c : Dev nD) : sProp 𝕄 :=
  iprop((bigSep Finset.univ fun d : Duty => dutyTok ER (cell (px c (mask d)) bar) 0 d)
    ∗ (bigSep Finset.univ fun d : Duty => dutyTok ER (cell (px c (mask d)) ext) 0 d)
    ∗ bigSep Finset.univ fun x : Dm => dutyTok ER (cell (px c (tmask x)) (dm x)) 0 d0)

theorem toks_deal : bigSep allToks (fun x => (dutyTok ER x.1 x.2.1 x.2.2 : sProp 𝕄)) = bigSep Finset.univ fun c : Dev nD => toks c := by
  unfold allToks toks
  rw [bigSep_map, bigSep_univ_prod, bigSep_sep', bigSep_sep', ← deal mask (fun c d => dutyTok ER (cell c bar) 0 d),
    ← deal mask (fun c d => dutyTok ER (cell c ext) 0 d), ← deal tmask (fun c x => dutyTok ER (cell c (dm x)) 0 d0), ← bigSep_sep', ← bigSep_sep']
  refine bigSep_congr fun c _ => ?_
  rw [bigSep_sum, bigSep_sum]
  rfl

/-! ## The credits -/

/-- How many debts there are to a semaphore. -/
def due (s : Sm) : ℕ := debts.countP fun p => p.1 = s

theorem owed_sum (c : Dev nD) (s : Sm) (l : List Debt) : (∑ d : Dev nD, owedK d l (cell c s) ()) = (l.countP fun p => p.1 = s) * amt s := by
  induction l with
  | nil =>
    unfold owedK
    simp
  | cons p l ih =>
    have h (d : Dev nD) : owedK d (p :: l) (cell c s) () = owedK d l (cell c s) () + if d = px c p.2 then (if p.1 = s then amt s else 0) else 0 := by
      conv_lhs => unfold owedK
      rw [Pi.add_apply, Finsupp.add_apply, tallyAt_apply]
      congr 1
      by_cases hd : d = px c p.2
      · subst hd
        by_cases hs : p.1 = s
        · subst hs
          rw [px_px, if_pos ⟨rfl, rfl⟩, if_pos rfl, if_pos rfl]
        · rw [if_neg fun h => hs (cell_inj h.1).2.symm, if_pos rfl, if_neg hs]
      · rw [if_neg (fun h => hd (by rw [(cell_inj h.1).1, px_px])), if_neg hd]
    rw [Finset.sum_congr rfl fun d _ => h d, Finset.sum_add_distrib, ih, Finset.sum_ite_eq' Finset.univ (px c p.2), if_pos (Finset.mem_univ _),
      List.countP_cons]
    by_cases hs : p.1 = s
    · simp [hs, Nat.add_mul]
    · simp [hs]

/-- A device's credits: at each of its cells what its partners owe there. -/
def creds (c : Dev nD) : sProp 𝕄 := bigSep Finset.univ fun s : Sm => cred (tallyAt (cell c s) () (due s * amt s))

theorem launch_creds (c : Dev nD) : (Pipeline.launchCred (fun c => owedK c debts) c : sProp 𝕄) ⊢ creds c := by
  have h (s : Sm) : tallyOn (cell c s) (launchCredit (Pipeline.owing fun c => owedK c debts) 0 (cell c s))
      = (tallyAt (cell c s) () (due s * amt s) : CellTallies nD τ sig Unit) := by
    unfold tallyAt; refine congrArg _ (Finsupp.ext fun u => ?_); cases u
    rw [Pipeline.launchCredit_owing, Finsupp.single_eq_same, owed_sum]; rfl
  unfold Pipeline.launchCred creds
  refine (bigSep_subset (Finset.subset_univ (Finset.univ.map ⟨loc, loc_inj⟩))).trans ?_
  rw [bigSep_map]
  exact bigSep_mono fun s _ => Entails.of_eq (congrArg cred (h s))

end Cert.Attn

end
-- ==== Proof.Open.lean ====
/-
  The kernel's own semaphores opened, and all that the body starts from put together.
-/
module

public import proofs.«01_k».proof.Proof.Deal

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

attribute [local irreducible] loc px owedK isBar sPay

variable (v : Vals F)

/-- What every device may look up: the record of each cell, and that the entry barriers are open. -/
def invs (κ : GSem nD τ sig → ℕ) : sProp 𝕄 :=
  bigSep Finset.univ fun p : Dev nD × Sm => cellInv ER (Rd v) (κ (cell p.1 p.2)) (cell p.1 p.2)
def records (κ : GSem nD τ sig → ℕ) : sProp 𝕄 :=
  iprop(invs v κ ∗ bigSep Finset.univ fun c : Dev nD => reached ER (cell c bar) 0)
instance invs_persistent (κ : GSem nD τ sig → ℕ) : BI.Persistent (invs v κ) := by unfold invs; infer_instance
instance records_persistent (κ : GSem nD τ sig → ℕ) : BI.Persistent (records v κ) := by unfold records; infer_instance

theorem invs_one (κ : GSem nD τ sig → ℕ) (c : Dev nD) (s : Sm) : invs v κ ⊢ cellInv ER (Rd v) (κ (cell c s)) (cell c s) := by
  have h : (bigSep Finset.univ fun p : Dev nD × Sm => (cellInv ER (Rd v) (κ (cell p.1 p.2)) (cell p.1 p.2) : sProp 𝕄))
      ⊢ cellInv ER (Rd v) (κ (cell c s)) (cell c s) := bigSep_elim (Finset.mem_univ (c, s))
  unfold invs; exact h

/-- The records as the launch makes them. -/
theorem invs_of (κ : GSem nD τ sig → ℕ) : (bigSep (barCells ∪ ownCells) fun g => (cellInv ER (Rd v) (κ g) g : sProp 𝕄)) = invs v κ := by
  unfold invs
  rw [bigSep_union disjoint_cells, bigSep_map, bigSep_map, bigSep_univ_prod, bigSep_univ_prod]
  refine (bigSep_sep' _ _ _).symm.trans (bigSep_congr fun c _ => ?_)
  rw [bigSep_sum, show (Finset.univ : Finset Unit) = {()} from rfl, bigSep_singleton]
  rfl

/-- What stays with device `c` besides. -/
def linear (c : Dev nD) : sProp 𝕄 :=
  iprop(atPos ER (cell c bar) 0 ∅ 0 ∗ (bigSep Finset.univ fun s : OS => openTok ER (cell c (.inr s))) ∗ toks c)

/-- The state of device `c` before its kernel. -/
def Tk (c : Dev nD) : sProp 𝕄 := iprop((∃ κ, records v κ ∗ linear c) ∗ creds c)

/-- The places of the semaphores of device `c`'s call. -/
def places (c : Dev nD) : sProp 𝕄 := bigSep Finset.univ fun s : OS => atPos ER (cell c (.inr s)) 0 ∅ 0

theorem open_all (κ : GSem nD τ sig → ℕ) (c : Dev nD) : iprop(invs v κ ∗ bigSep Finset.univ fun s : OS => iprop(openTok ER (cell c (.inr s)) ∗ semVal (cell c (.inr s)) 0))
    ⊢ (|={Set.univ}=> iprop(places c ∗ opened c) : sProp 𝕄) := by
  have h (s : OS) : iprop(invs v κ ∗ (openTok ER (cell c (.inr s)) ∗ semVal (cell c (.inr s)) 0))
      ⊢ (|={Set.univ}=> iprop(atPos ER (cell c (.inr s)) 0 ∅ 0 ∗ reached ER (cell c (.inr s)) 0) : sProp 𝕄) := by
    iintro ⟨#Hi, H⟩
    ihave #Hc := (invs_one v κ c (.inr s)) $$ Hi
    iapply (Rounds.cell_open ER (Rd v) (g := cell c (.inr s)) (Set.mem_univ (κ (cell c (.inr s)))))
    isplitr; · iexact Hc
    iexact H
  have h1 := (bigSep_with_persistent (S := Finset.univ) (R := invs v κ) fun s _ => h s).trans
    (bigSep_fupd (M := 𝕄) Finset.univ fun s : OS => iprop(atPos ER (cell c (.inr s)) 0 ∅ 0 ∗ reached ER (cell c (.inr s)) 0))
  unfold places opened
  rw [← bigSep_sep']
  exact h1

/-- The credits, at the cells where a device waits for a partner. -/
def dues (c : Dev nD) : sProp 𝕄 :=
  iprop(cred (tallyAt (cell c bar) () 6) ∗ cred (tallyAt (cell c ext) () 6)
    ∗ (bigSep Finset.univ fun t : Fin 3 => cred (tallyAt (cell c (rszR t)) () N)) ∗ (bigSep Finset.univ fun t : Fin 3 => cred (tallyAt (cell c (agzR t)) () N))
    ∗ (bigSep Finset.univ fun t : Fin 3 => bigSep Finset.univ fun j : Fin 4 => cred (tallyAt (cell c (rspR t j)) () N))
    ∗ (bigSep Finset.univ fun t : Fin 3 => bigSep Finset.univ fun j : Fin 4 => cred (tallyAt (cell c (agpR t j)) () N)))

theorem due_bar (s : Sm) (hs : isBar s = true) : due s * amt s = 6 := by
  have h : ∀ s : Sm, isBar s = true → due s = 6 := by unfold isBar; decide +kernel
  rw [h s hs, amt, hs]; rfl
theorem due_recv (s : Sm) (hs : isBar s = false) (h : due s = 1) : due s * amt s = N := by
  rw [h, amt, hs, Nat.one_mul]; rfl
theorem due_z (t : Fin 3) : due (rszR t) = 1 ∧ due (agzR t) = 1 := by revert t; decide +kernel
theorem due_p (t : Fin 3) (j : Fin 4) : due (rspR t j) = 1 ∧ due (agpR t j) = 1 := by revert t j; decide +kernel

theorem creds_dues (c : Dev nD) : creds c ⊢ (dues c : sProp 𝕄) := by
  unfold creds dues
  simp only [bigSep_sum, bigSep_univ_prod]
  rw [show (Finset.univ : Finset Unit) = {()} from rfl, bigSep_singleton, bigSep_singleton, bigSep4, bigSep4,
    due_bar bar (by unfold isBar; rfl), due_bar ext (by unfold isBar; rfl)]
  simp only [due_recv (rszR _) (by unfold isBar; rfl) (due_z _).1, due_recv (agzR _) (by unfold isBar; rfl) (due_z _).2,
    due_recv (rspR _ _) (by unfold isBar; rfl) (due_p _ _).1, due_recv (agpR _ _) (by unfold isBar; rfl) (due_p _ _).2]
  iintro ⟨a, b, ⟨-, z1, -, z3⟩, ⟨-, p1, -, p3⟩⟩
  iframe

/-- The copies' tokens and places, with what the body waits for, are what it starts from. -/
theorem start_of (c : Dev nD) : opened (F := F) c ⊢ iprop((bigSep Finset.univ fun x : Dm => dutyTok ER (cell (px c (tmask x)) (dm x)) 0 d0)
    -∗ (bigSep Finset.univ fun x : Dm => atPos ER (cell c (dm x)) 0 ∅ 0)
    -∗ (bigSep Finset.univ fun t : Fin 3 => cred (tallyAt (cell c (rszR t)) () N)) -∗ (bigSep Finset.univ fun t : Fin 3 => cred (tallyAt (cell c (agzR t)) () N))
    -∗ (bigSep Finset.univ fun t : Fin 3 => bigSep Finset.univ fun j : Fin 4 => cred (tallyAt (cell c (rspR t j)) () N))
    -∗ (bigSep Finset.univ fun t : Fin 3 => bigSep Finset.univ fun j : Fin 4 => cred (tallyAt (cell c (agpR t j)) () N))
    -∗ start c) := by
  have hz (k : Fin 4) (hk : k = 1 ∨ k = 3) (t : Fin 3) : tmask (.inl (k, t)) = zm t := if_pos hk
  have hz' (k : Fin 4) (hk : ¬ (k = 1 ∨ k = 3)) (t : Fin 3) : tmask (.inl (k, t)) = 0 := if_neg hk
  have hp (k : Fin 4) (hk : k = 1 ∨ k = 3) (t : Fin 3) (j : Fin 4) : tmask (.inr (k, t, j)) = pm t := if_pos hk
  have hp' (k : Fin 4) (hk : ¬ (k = 1 ∨ k = 3)) (t : Fin 3) (j : Fin 4) : tmask (.inr (k, t, j)) = 0 := if_neg hk
  unfold opened start rspT rszT agzT agpT sendR idle todo dm
  simp only [bigSep_sum, bigSep_univ_prod, bigSep_sep']
  rw [bigSep4, bigSep4, bigSep4, bigSep4, bigSep4, bigSep4]
  simp only [hz 1 (by decide), hz 3 (by decide), hz' 0 (by decide), hz' 2 (by decide), hp 1 (by decide), hp 3 (by decide), hp' 0 (by decide), hp' 2 (by decide), px_zero]
  iintro ⟨-, ⟨#r0, #r1, #r2, #r3⟩, ⟨#r4, #r5, #r6, #r7⟩⟩ ⟨⟨a0, a1, a2, a3⟩, ⟨a4, a5, a6, a7⟩⟩ ⟨⟨b0, b1, b2, b3⟩, ⟨b4, b5, b6, b7⟩⟩ z1 z3 p1 p3
  iframe
  isplitr; · iexact r4
  isplitr; · iexact r0
  isplitr; · iexact r2
  iexact r6

end Cert.Attn

end
-- ==== Proof.Launch.lean ====
/-
  The region on one device: what goes in, the body's obligation, what comes out.
-/
module

public import proofs.«01_k».proof.Proof.Region
public import proofs.«01_k».proof.Proof.Open

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

/-- The semaphores of the call itself. -/
def osem (s : OS) : SemLoc sig := loc (.inr s)
theorem osem_facts : Pipeline.OwnSemFacts spec0 osem := by decide +kernel
theorem stage_ne : ∀ (w : Fin cfg0.W) (s : Fin (cfg0.win w).nbuf) (x : Sm), loc x ≠ .dma ((cfg0.win w).sem s) := by decide +kernel
theorem stage_which (w : Fin cfg0.W) (s : Fin (cfg0.win w).nbuf) : which (.dma ((cfg0.win w).sem s)) = none :=
  dif_neg fun ⟨x, h⟩ => stage_ne w s x h
theorem debts_lv : ∀ p ∈ debts, 0 < lvl p.1 := by decide +kernel

attribute [local irreducible] loc px owedK isBar sPay

theorem ownSems0_eq (c : Dev nD) : (Pipeline.ownSems0 osem c : sProp 𝕄) = bigSep Finset.univ fun s : OS => semVal (cell c (.inr s)) 0 := rfl

/-! ## What the body starts from and leaves -/

def Xk (v : Vals F) (c : Dev nD) : sProp 𝕄 :=
  iprop((∃ K, env v K) ∗ opened c ∗ atPos ER (cell c bar) 0 ∅ 0 ∗ atPos ER (cell c ext) 0 ∅ 0
    ∗ cred (tallyAt (cell c bar) () 6) ∗ cred (tallyAt (cell c ext) () 6)
    ∗ (bigSep Finset.univ fun d : Duty => iprop(dutyTok ER (cell (px c (mask d)) bar) 0 d ∗ reached ER (cell (px c (mask d)) bar) 0))
    ∗ (bigSep Finset.univ fun d : Duty => dutyTok ER (cell (px c (mask d)) ext) 0 d) ∗ start c)
def Yk (c : Dev nD) : sProp 𝕄 := semVal (cell c bar) 0

/-- The buffers of the call, at any contents. -/
def scratch (c : Dev nD) : sProp 𝕄 := Pipeline.scopedRest spec0 c
def X0 (v : Vals F) (c : Dev nD) : sProp 𝕄 := iprop(Xk v c ∗ scratch c ∗ ∃ r, prngReg c r)
def Y0 (c : Dev nD) : sProp 𝕄 :=
  iprop(Yk c ∗ (bigSep Finset.univ fun s : OS => semVal (cell c (.inr s)) 0) ∗ scratch c ∗ ∃ r, prngReg c r)

theorem hopen (v : Vals F) (c : Dev nD) : iprop(Tk v c ∗ Pipeline.ownSems0 osem c ∗ levAts L lv) ⊢ (|={Set.univ}=> Xk v c : sProp 𝕄) := by
  have hr : (bigSep Finset.univ fun c : Dev nD => (reached ER (cell c bar) 0 : sProp 𝕄)) ⊢ bigSep Finset.univ fun d : Duty => reached ER (cell (px c (mask d)) bar) 0 := by
    have h (d : Duty) : iprop((bigSep Finset.univ fun c : Dev nD => (reached ER (cell c bar) 0 : sProp 𝕄)) ∗ BI.emp) ⊢ reached ER (cell (px c (mask d)) bar) 0 :=
      (by iintro ⟨h, -⟩; iexact h : iprop((bigSep Finset.univ fun c : Dev nD => (reached ER (cell c bar) 0 : sProp 𝕄)) ∗ BI.emp) ⊢ bigSep Finset.univ fun c : Dev nD => reached ER (cell c bar) 0).trans
        (bigSep_elim (Finset.mem_univ (px c (mask d))))
    have := bigSep_with_persistent (S := Finset.univ) fun d _ => h d
    rw [bigSep_emp_const] at this
    exact (by iintro h; isplitl [h]; · iexact h
              iempintro : _ ⊢ iprop((bigSep Finset.univ fun c : Dev nD => (reached ER (cell c bar) 0 : sProp 𝕄)) ∗ BI.emp)).trans this
  have hs : places c ⊢ (iprop(atPos ER (cell c ext) 0 ∅ 0 ∗ bigSep Finset.univ fun x : Dm => atPos ER (cell c (dm x)) 0 ∅ 0) : sProp 𝕄) := by
    unfold places
    rw [bigSep_sum, show (Finset.univ : Finset Unit) = {()} from rfl, bigSep_singleton]
  rw [ownSems0_eq]
  unfold Tk records linear toks
  iintro ⟨⟨⟨%κ, ⟨⟨#Hi, #Hr⟩, ⟨ab, ot, tb, te, td⟩⟩⟩, Hc⟩, Hs, #Hl⟩
  ihave Hc := (creds_dues c) $$ Hc
  unfold dues
  icases Hc with ⟨cb, ce, z1, z3, p1, p3⟩
  imod (open_all v κ c) $$ [ot Hs] with ⟨Hp, #Ho⟩
  · isplitr; · iexact Hi
    rw [bigSep_sep']
    isplitl [ot] <;> iassumption
  ihave Hp := hs $$ Hp
  icases Hp with ⟨ae, ad⟩
  ihave st := (start_of c) $$ Ho td ad z1 z3 p1 p3
  imodintro
  unfold invs Xk env
  rw [bigSep_sep']
  iframe
  isplitr
  · iexists κ
    isplitr; · iexact Hi
    iexact Hl
  isplitr; · iexact Ho
  iapply hr $$ Hr

theorem hin (v : Vals F) (W : Valuation τ sig (Elt F)) (c : Dev nD) :
    iprop(Pipeline.scopedRest spec0 c ∗ (∃ r, prngReg c r) ∗ StableHlo.held (c.tc : Thread nD τ) ∅ W ∗ Xk v c) ⊢ (X0 v c : sProp 𝕄) := by
  unfold X0 scratch
  iintro ⟨a, b, -, d⟩
  iframe

theorem hout (W : Valuation τ sig (Elt F)) (c : Dev nD) :
    Y0 c ⊢ (iprop(Pipeline.scopedRest spec0 c ∗ (∃ r, prngReg c r) ∗ StableHlo.held (c.tc : Thread nD τ) ∅ W ∗ Pipeline.ownSems0 osem c ∗ Yk c) : sProp 𝕄) := by
  have h : (StableHlo.held (c.tc : Thread nD τ) ∅ W : sProp 𝕄) = BI.emp := bigSep_empty
  rw [ownSems0_eq, h]
  unfold Y0 scratch
  iintro ⟨a, b, d, e⟩
  iframe
  iempintro

/-! ## The body -/

variable (m : (ℓ : Loc nD τ sig) → Buf (Elt F) ℓ)

abbrev D0 : (c : Dev nD) → Dat τ (Elt F) Unit ℕ UU ℕ cfg0 c := dat0 m (X0 (valsOf m)) Y0

theorem owes_in (c : Dev nD) : ((D0 m c).owesAt () t0_0.castSucc : sProp 𝕄) ⊢ Ow c debts := by
  unfold Dat.owesAt Pipeline.owesWithin Ow
  rw [show (D0 m c).owed t0_0.castSucc = owedK c debts from rfl]
  iintro ⟨%W, -, HO⟩; iexists W; iexact HO

theorem owes_out (c : Dev nD) : Ow c [] ⊢ ((D0 m c).owesAt () t0_0.succ : sProp 𝕄) := by
  unfold Dat.owesAt Pipeline.owesWithin Ow Dat.bound
  rw [show (D0 m c).owed t0_0.succ = owedK c [] from (by unfold owedK; rfl), show (D0 m c).recorded t0_0.succ = Set.univ from rfl]
  iintro ⟨%W, HO⟩; iexists W; isplitr; · ipureintro; exact fun _ _ => Or.inl trivial
  iexact HO

/-- A whole buffer, as the windows hold it. -/
theorem owns_take (b : Ref sig .tc) (c : Dev nD) (f : b.ty.shape.Idx → Elt F b.ty.elt) :
    (owns (c : Thread nD τ) (Memref.whole b) fullShare f : sProp 𝕄) ⊢ ((Memref.whole b).view.loc (c : Thread nD τ)) ↦[Finset.univ]{fullShare} f := by
  unfold owns
  iintro ⟨%g, %h, H⟩
  obtain rfl := h
  iapply (Entails.of_eq (by rw [← View.set_whole b]; rfl)) $$ H
theorem owns_give (b : Ref sig .tc) (c : Dev nD) (f : b.ty.shape.Idx → Elt F b.ty.elt) :
    (((Memref.whole b).view.loc (c : Thread nD τ)) ↦[Finset.univ]{fullShare} f : sProp 𝕄) ⊢ owns (c : Thread nD τ) (Memref.whole b) fullShare f := by
  unfold owns
  iintro H
  iexists f
  isplitr; · ipureintro; rfl
  iapply (Entails.of_eq (by rw [← View.set_whole b])) $$ H

/-! The buffers of the windows, as the body's run names them. -/

abbrev had (c : Dev nD) {s : Shape} (M : Memref sig .tc .vmem s .bf16) (f : s.Idx → Elt F .bf16) : sProp 𝕄 := owns (c : Thread nD τ) M fullShare f

theorem body (c : Dev nD) : BodyObligation (D0 m c) defs₀ 𝒱₀ () Set.univ := fun t => by
  obtain rfl := fin_N0 t
  rw [bigSep_W0, bigSep_W0]
  have hrun (K : GSem nD τ sig → ℕ) (fk fv fo : OutC F) (Q) := body_run (valsOf m) K (sums_valsOf m) (insOf m c) c rfl fk fv fo Q
  simp only [before_0 m, before_1 m, before_2 m, before_3 m, before_4 m, before_5 m, before_6 m]
  rw [show (D0 m c).Φ t0_0.castSucc = X0 (valsOf m) c from rfl, show (D0 m c).Φ t0_0.succ = Y0 c from rfl]
  unfold X0 Y0 Xk scratch
  rw [scopedRest0_eq]
  iintro ⟨⟨⟨⟨%K, #He⟩, #Ho, ab, ae, cb, ce, tb, te, st⟩, ⟨⟨%fk, sk⟩, ⟨%fv, sv⟩, ⟨%fl, sl⟩, ⟨%fz, sz⟩⟩, hp⟩, HO, ⟨%_, w0⟩, ⟨%_, w1⟩, ⟨%_, w2⟩, ⟨%_, w3⟩, ⟨%_, w4⟩, ⟨%_, w5⟩, ⟨%_, w6⟩, ⟨%_, w7⟩⟩
  ihave HO := (owes_in m c) $$ HO
  ihave w0 := (owns_take cc0_stg0_0 c (insOf m c).x) $$ w0
  ihave w1 := (owns_take cc0_stg1_0 c (insOf m c).wq) $$ w1
  ihave w2 := (owns_take cc0_stg2_0 c (insOf m c).wk) $$ w2
  ihave w3 := (owns_take cc0_stg3_0 c (insOf m c).wv) $$ w3
  ihave w4 := (owns_take cc0_stg4_0 c (insOf m c).wo) $$ w4
  ihave w5 := (owns_take cc0_stg5_0 c (insOf m c).cs) $$ w5
  ihave w6 := (owns_take cc0_stg6_0 c (insOf m c).sn) $$ w6
  ihave w7 := (owns_take cc0_stg7_0 c _) $$ w7
  ihave tb := (bar_in (valsOf m) c fl fz) $$ Ho sl sz tb
  have hQ := body_args (F := F) c
  unfold run at hQ
  iapply (Entails.of_eq (hQ _))
  have h := body_run (valsOf m) K (sums_valsOf m) (insOf m c) c rfl fk fv
  iapply (h _ _) $$ He HO tb cb ab ce ae te st [w0 w1 w2 w3 w4 w5 w6] sk sv w7
  · unfold inputs; iframe
  unfold left inputs
  iintro ⟨HO, ⟨w0, w1, w2, w3, w4, w5, w6⟩, sk, sv, sl, sz, w7, hb, hs⟩
  ihave HO := (owes_out m c) $$ HO
  isplitl [sk sv sl sz hb hs hp]
  · isplitl [hb]; · unfold Yk; iexact hb
    isplitl [hs]; · iexact hs
    isplitr [hp]
    · isplitl [sk]; · iexists _; iexact sk
      isplitl [sv]; · iexists _; iexact sv
      isplitl [sl]; · iexists _; iexact sl
      iexists _; iexact sz
    iexact hp
  isplitl [HO]; · iexact HO
  isplitl [w0]; · iapply (owns_give cc0_stg0_0 c (insOf m c).x) $$ w0
  isplitl [w1]; · iapply (owns_give cc0_stg1_0 c (insOf m c).wq) $$ w1
  isplitl [w2]; · iapply (owns_give cc0_stg2_0 c (insOf m c).wk) $$ w2
  isplitl [w3]; · iapply (owns_give cc0_stg3_0 c (insOf m c).wv) $$ w3
  isplitl [w4]; · iapply (owns_give cc0_stg4_0 c (insOf m c).wo) $$ w4
  isplitl [w5]; · iapply (owns_give cc0_stg5_0 c (insOf m c).cs) $$ w5
  isplitl [w6]; · iapply (owns_give cc0_stg6_0 c (insOf m c).sn) $$ w6
  iapply (owns_give cc0_stg7_0 c (final (valsOf m).tot)) $$ w7

end Cert.Attn

end
-- ==== Proof.Run.lean ====
/-
  The run of the whole program: the operations before the kernel, the kernel's region, the operations after it.
-/
module

public import proofs.«01_k».proof.Proof.Launch

@[expose] public section

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation ucRefs arrRefs)

variable {F : FTy → Type} [FloatOps F] [Named F]

local notation "𝕄" => MT nD τ sig Unit (Elt F) ℕ UU ℕ

attribute [local irreducible] loc px owedK isBar sPay

variable (m : (ℓ : Loc nD τ sig) → Buf (Elt F) ℓ) (ρ : Dev nD → PrngReg)

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => D0 m

/-- The buffers that the launch keeps: the region's arrays and the rest. -/
abbrev allRefs : Finset (DevRef τ sig) := ucRefs τ sig
abbrev arrs : Finset (DevRef τ sig) := arrRefs (τ := τ) spec0
abbrev rest : Finset (DevRef τ sig) := allRefs \ arrs
theorem arrs_sub : arrs ⊆ allRefs := by decide +kernel

/-- The buffers after the region. -/
def V1 (c : Dev nD) : Valuation τ sig (Elt F) := Function.update (V0 m c) (Proc.devRef .tc main_v33) (outOf m)
def V2 (c : Dev nD) : Valuation τ sig (Elt F) := StableHlo.after hostOps1 (V1 m c)

theorem V1_out (c : Dev nD) : V1 m c (Proc.devRef .tc main_v33) = outOf m := Function.update_self ..
theorem V1_ne (c : Dev nD) {b : DevRef τ sig} (h : b ≠ Proc.devRef .tc main_v33) : V1 m c b = V0 m c b := Function.update_of_ne h _ _

theorem rest_eq (c : Dev nD) : ∀ b ∈ rest \ ∅, V1 m c b = V0 m c b := fun b hb =>
  V1_ne m c fun h => by
    subst h
    exact absurd hb (by decide +kernel)

theorem owed_lv (c : Dev nD) (t : Fin (cfg0.N + 1)) (g : GSem nD τ sig) (i : Unit) (h : 0 < (D0 m c).owed t g i) : i ∈ L g ∧ 0 < lv g i := by
  have e : (D0 m c).owed t = if t.val = 0 then owedK c debts else 0 := rfl
  rw [e] at h
  split at h
  · obtain ⟨p, hp, rfl⟩ := owedK_pos h
    exact ⟨by rw [L_tc]; exact Finset.mem_singleton_self _, by rw [lv_cell]; exact debts_lv p hp⟩
  · exact absurd h (Nat.lt_irrefl 0)

theorem hW1 (c : Dev nD) (w : Fin cfg0.W) : (D0 m c).arrAt w cfg0.N = V1 m c (Proc.devRef .tc (Pipeline.arrRef spec0 w)) := by
  by_cases h : w = 7
  · subst h; exact (arrAt_7 m _ _ c).trans (V1_out m c).symm
  · have hin : (cfg0.win w).isOut = false := by revert h w; decide +kernel
    have hne : Proc.devRef (τ := τ) .tc (Pipeline.arrRef spec0 w) ≠ Proc.devRef .tc main_v33 := by revert h w; decide +kernel
    exact ((D0 m c).arrAt_in w hin _).trans (V1_ne m c hne).symm

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ rest (Finset.empty_subset _) launch0.toP rfl (fun c => (body m c).loose)
    (fun _ => 0) (fun c => owedK c debts) (fun c => (zero_add (owedK c debts)).symm) (fun _ => rfl) (fun _ => rfl) (fun _ _ => ite_self _)
    (V0 m) (V1 m) (rest_eq m)
    (Tk (valsOf m)) Yk (Xk (valsOf m)) Yk (hopen (valsOf m)) (fun c => hin (valsOf m) (V0 m c) c) (fun c => hout (V1 m c) c)
    (fun c => by iintro H; imodintro; iexact H)
    (fun _ => 0)
    ⟨fun c w s => by rw [L_tc]; exact Finset.mem_singleton_self _, fun c w s => by unfold lv; rw [stage_which]; exact le_rfl, fun c t g i h => owed_lv m c t g i h⟩
    (fun _ => iprop(emp))
    (fun c w => rfl) (fun c w => hW1 m c w)

theorem held_all (c : Dev nD) (W : Valuation τ sig (Elt F)) :
    (StableHlo.held (c.tc : Thread nD τ) allRefs W : sProp 𝕄) = iprop(StableHlo.held (c.tc : Thread nD τ) arrs W ∗ StableHlo.held (c.tc : Thread nD τ) rest W) :=
  StableHlo.held_sub_split (c.tc : Thread nD τ) arrs_sub W

/-! ## The three segments -/

/-- What rides beside the buffers, before and after. -/
def R0 (c : Dev nD) : sProp 𝕄 := iprop(Tk (valsOf m) c ∗ (∃ r, prngReg c r) ∗ ∃ W, owes (c : Thread nD τ) (owedK c debts) W)
def R1 (c : Dev nD) : sProp 𝕄 := iprop(semVal (cell c bar) 0 ∗ ∃ W, owes (c : Thread nD τ) (0 : CellTallies nD τ sig Unit) W)

def seg0 : Pipeline.HostSeg (Ix := Unit) (Name := ℕ) (U := UU) (Lvl := ℕ) (pcfgs (F := F)) defs₀ 𝒱₀ L lv :=
  Pipeline.HostSeg.ofOps _ _ _ _ _ allRefs hostOps0 (fun op h => Pipeline.sub_ucRefs op ((List.forall_iff_forall_mem.mp hostOps0_sub) op h))
    (fun op h => (List.forall_iff_forall_mem.mp hostOps0_fresh) op h) (fun c b => m (c, b)) (R0 m)
def seg1 : Pipeline.HostSeg (Ix := Unit) (Name := ℕ) (U := UU) (Lvl := ℕ) (pcfgs (F := F)) defs₀ 𝒱₀ L lv :=
  Pipeline.HostSeg.ofOps _ _ _ _ _ allRefs hostOps1 (fun op h => Pipeline.sub_ucRefs op ((List.forall_iff_forall_mem.mp hostOps1_sub) op h))
    (fun op h => (List.forall_iff_forall_mem.mp hostOps1_fresh) op h) (V1 m) R1

def segs : List (Pipeline.Seg (pcfgs (F := F)) adm (pdats m) () defs₀ 𝒱₀ L lv) := [.host (seg0 m), .region (reg0 m), .host (seg1 m)]

theorem main_eq (c : Dev nD) : main (F := F) c = Pipeline.Seg.run (segs m) := main_segs _ _ _ _ _ _ (seg0 m) (seg1 m) (reg0 m) rfl rfl c

theorem V0_eq (c : Dev nD) : StableHlo.after hostOps0 (fun b => m (c, b)) = V0 m c := by
  unfold V0; rw [List.flatten_cons, List.flatten_nil, List.append_nil]

theorem reg0_pre (c : Dev nD) : (seg0 m).post c ⊢ (reg0 m).pre c := by
  show iprop(StableHlo.held (c.tc : Thread nD τ) allRefs (StableHlo.after hostOps0 fun b => m (c, b)) ∗ R0 m c) ⊢ iprop(StableHlo.held (c.tc : Thread nD τ) arrs (V0 m c) ∗ (∃ r, prngReg c r)
    ∗ (StableHlo.held (c.tc : Thread nD τ) rest (V0 m c) ∗ emp) ∗ Tk (valsOf m) c ∗ ∃ Wd, owes (c : Thread nD τ) (0 + owedK c debts) Wd)
  rw [V0_eq, held_all, zero_add]
  unfold R0
  iintro ⟨⟨Ha, Hr⟩, Ht, Hp, HO⟩
  iframe

theorem reg0_post (c : Dev nD) : (reg0 m).post c ⊢ (seg1 m).pre c := by
  show iprop(StableHlo.held (c.tc : Thread nD τ) arrs (V1 m c) ∗ (∃ r, prngReg c r)
    ∗ (StableHlo.held (c.tc : Thread nD τ) rest (V1 m c) ∗ emp) ∗ Yk c ∗ ∃ Wd, owes (c : Thread nD τ) (0 : CellTallies nD τ sig Unit) Wd)
    ⊢ iprop(StableHlo.held (c.tc : Thread nD τ) allRefs (V1 m c) ∗ R1 c)
  rw [held_all]
  unfold R1 Yk
  iintro ⟨Ha, -, ⟨Hr, -⟩, Hb, HO⟩
  iframe

/-! ## The launch -/

/-- The launch's element: the library's at the staging cells, and ours. -/
def u₀ : UU :=
  (initOf (Pipeline.cells (Pipeline.pin (pcfgs (F := F)) adm) cellOf_inj) (Pipeline.launchToks (Pipeline.pin (pcfgs (F := F)) adm) cellOf_inj),
    launchOf barCells ownCells allToks)

/-- All of a resource on device 0. -/
def G (c : Dev nD) : sProp 𝕄 := if c = 0 then BI.own (ER (launchOf barCells ownCells allToks)) else iprop(emp)
theorem all_G : bigSep Finset.univ (G (F := F)) = BI.own (ER (launchOf barCells ownCells allToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem unscoped_bar : ∀ sm : SemLoc sig, sm.isScoped .tc = false → sm = .reg (0 : Fin 2) := by decide +kernel
theorem loc_bar : loc bar = .reg (0 : Fin 2) := by unfold loc; rfl
theorem unscopedSems0_eq (c : Dev nD) : (unscopedSems0 c : sProp 𝕄) = semVal (cell c bar) 0 := by
  unfold unscopedSems0
  rw [show (Finset.univ.filter fun sm : SemLoc sig => ¬ sm.isScoped .tc) = {SemLoc.reg (0 : Fin 2)} from by decide +kernel, BI.bigSep_singleton, ← loc_bar]

abbrev T₀ (c : Dev nD) : sProp 𝕄 := iprop(StableHlo.held (c.tc : Thread nD τ) allRefs (fun b => m (c, b)) ∗ R0 m c)
abbrev Tₙ (c : Dev nD) : sProp 𝕄 := iprop(StableHlo.held (c.tc : Thread nD τ) allRefs (V2 m c) ∗ semVal (cell c bar) 0)

/-- What of a device's holdings is no record and no token. -/
def bundle (c : Dev nD) : sProp 𝕄 :=
  iprop(StableHlo.held (c.tc : Thread nD τ) allRefs (fun b => m (c, b)) ∗ creds c ∗ owes (c : Thread nD τ) (owedK c debts) ∅ ∗ ∃ r, prngReg c r)

theorem T₀_intro (κ : GSem nD τ sig → ℕ) (c : Dev nD) : iprop(records (valsOf m) κ ∗ (linear c ∗ bundle m c)) ⊢ T₀ m c := by
  unfold bundle T₀ R0 Tk
  iintro ⟨#HR, Hl, Hh, H1, HO, Hp⟩
  iframe
  isplitl [Hl]
  · iexists κ
    isplitr; · iexact HR
    iexact Hl
  iexists ∅; iexact HO

theorem core (c : Dev nD) : iprop(unscopedBufs c (fun b => m ((c : Thread nD τ).loc b)) ∗ unscopedSems0 c
        ∗ owes (c : Thread nD τ) (owedK c debts) ∅ ∗ Pipeline.launchCred (fun c => owedK c debts) c ∗ prngReg c (ρ c) ∗ G c)
      ⊢ (iprop(bundle m c ∗ (semVal (cell c bar) 0 ∗ G c)) : sProp 𝕄) := by
  rw [show unscopedBufs c (fun b => m ((c : Thread nD τ).loc b)) = StableHlo.held (c.tc : Thread nD τ) allRefs (fun b => m (c, b)) from Pipeline.unscopedBufs_held c (fun b => m (c, b)),
    unscopedSems0_eq]
  unfold bundle
  iintro ⟨Hh, Hus, HO, Hcr, Hp, HG⟩
  ihave Hc := (launch_creds (F := F) c) $$ Hcr
  iframe
  iexists (ρ c); iexact Hp

theorem init :
    iprop((bigSep Finset.univ fun c : Dev nD => iprop(unscopedBufs c (fun b => m ((c : Thread nD τ).loc b)) ∗ unscopedSems0 c
          ∗ owes (c : Thread nD τ) (owedK c debts) ∅ ∗ Pipeline.launchCred (fun c => owedK c debts) c ∗ prngReg c (ρ c) ∗ G c)) ∗ levAts L lv)
      ⊢ (|={Set.univ}=> bigSep Finset.univ (T₀ m) : sProp 𝕄) := by
  have hv : bigSep Finset.univ (fun c : Dev nD => (semVal (cell c bar) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cell c bar) 0 ∅ 0 : sProp 𝕄)) :=
    Entails.of_eq (bigSep_map (s := Finset.univ) barEmb (Φ := fun g : GSem nD τ sig => (atPos ER g 0 ∅ 0 : sProp 𝕄)))
  have hre : bigSep barCells (fun g => (reached ER g 0 : sProp 𝕄)) ⊢ bigSep Finset.univ (fun c : Dev nD => (reached ER (cell c bar) 0 : sProp 𝕄)) :=
    Entails.of_eq (bigSep_map (s := Finset.univ) barEmb (Φ := fun g : GSem nD τ sig => (reached ER g 0 : sProp 𝕄)))
  have hopen : bigSep ownCells (fun g => (openTok ER g : sProp 𝕄))
      ⊢ bigSep Finset.univ (fun c : Dev nD => bigSep Finset.univ fun s : OS => openTok ER (cell c (.inr s))) :=
    Entails.of_eq (by rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (owedK c debts) ∅ ∗ Pipeline.launchCred (fun c => owedK c debts) c ∗ prngReg c (ρ c) ∗ G c))
      ⊢ (bigSep Finset.univ fun c : Dev nD => iprop(bundle m c ∗ (semVal (cell c bar) 0 ∗ G c)) : sProp 𝕄) from bigSep_mono fun c _ => core m ρ c) $$ H
  ihave H2 := (Entails.of_eq (bigSep_sep' (M := 𝕄) Finset.univ _ _)) $$ H'; icases H2 with ⟨HB, H3⟩
  ihave H4 := (Entails.of_eq (bigSep_sep' (M := 𝕄) Finset.univ _ _)) $$ H3; icases H4 with ⟨Hv, HG⟩
  ihave Hu := (Entails.of_eq (all_G (F := F))) $$ HG
  imod (Rounds.fund_launch ER (Rd (valsOf m)) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := records (valsOf m) κ) (Φ := fun c => iprop(linear c ∗ bundle m c)) fun c _ => T₀_intro m κ c)
  isplitr
  · unfold records
    isplitr; · iapply (Entails.of_eq (invs_of (valsOf m) κ)) $$ Hinv
    iapply hre $$ Hr
  iapply (Entails.of_eq (bigSep_sep' (M := 𝕄) Finset.univ _ _).symm)
  isplitr [HB]
  · unfold linear
    iapply (Entails.of_eq (bigSep_sep' (M := 𝕄) Finset.univ _ _).symm); isplitl [Hat]; · iapply hat $$ Hat
    iapply (Entails.of_eq (bigSep_sep' (M := 𝕄) Finset.univ _ _).symm); isplitl [Hopen]; · iapply hopen $$ Hopen
    iapply (Entails.of_eq (toks_deal (F := F))) $$ Htok
  · iexact HB

/-! ## The run -/

theorem V2_ne (c : Dev nD) {b : Ref sig .tc} (h : b ≠ main_v34) (h' : b ≠ main_v35) (h'' : b ≠ main_v33) :
    V2 m c (Proc.devRef .tc b) = V m c b := by
  unfold V2
  rw [StableHlo.after_of_forall_not_mem (b := Proc.devRef .tc b) _ _ (List.forall_iff_forall_mem.mp (by
      simp only [hostOps1, List.Forall, StableHlo.unary_writes, StableHlo.reshape_writes, Finset.mem_singleton]
      exact ⟨StableHlo.devRef_ne_of_ne h, StableHlo.devRef_ne_of_ne h'⟩))]
  exact V1_ne m c (StableHlo.devRef_ne_of_ne h'')

/-- The program's result, the same on every device. -/
def resOf : (⟨S2x512x1024, .f32⟩ : BufTy).Contents (Elt F) :=
  shapeCast S2x512x1024 (extf .f32 (outOf m) bitsLt_bf16_f32) shapeCasts_S1024x1024_S2x512x1024
theorem V2_out (c : Dev nD) : V2 m c (Proc.devRef .tc main_v35) = resOf m := by
  unfold V2 resOf
  rw [StableHlo.after_cons, StableHlo.after_cons, StableHlo.after_nil, StableHlo.reshape_result, StableHlo.unary_result, V1_out]
  rfl

/-- The buffers named at the end. -/
def named : Finset (DevRef τ sig) := {Proc.devRef .tc main_v35, Proc.devRef .tc main_arg0, Proc.devRef .tc main_arg1, Proc.devRef .tc main_arg2, Proc.devRef .tc main_arg3, Proc.devRef .tc main_arg4}
theorem named_sub : named ⊆ allRefs := by decide +kernel

def kept (c : Dev nD) (s : MemSt nD τ sig (Elt F)) : Prop :=
  s.mem ((c : Thread nD τ).loc main_v35) = V2 m c (Proc.devRef .tc main_v35) ∧ s.mem ((c : Thread nD τ).loc main_arg0) = V2 m c (Proc.devRef .tc main_arg0)
    ∧ s.mem ((c : Thread nD τ).loc main_arg1) = V2 m c (Proc.devRef .tc main_arg1) ∧ s.mem ((c : Thread nD τ).loc main_arg2) = V2 m c (Proc.devRef .tc main_arg2)
    ∧ s.mem ((c : Thread nD τ).loc main_arg3) = V2 m c (Proc.devRef .tc main_arg3) ∧ s.mem ((c : Thread nD τ).loc main_arg4) = V2 m c (Proc.devRef .tc main_arg4)

theorem held_named (c : Dev nD) (W : Valuation τ sig (Elt F)) : (StableHlo.held (c.tc : Thread nD τ) named W : sProp 𝕄)
    = iprop((((c : Thread nD τ).loc main_v35) ↦{fullShare} W (Proc.devRef .tc main_v35)) ∗ (((c : Thread nD τ).loc main_arg0) ↦{fullShare} W (Proc.devRef .tc main_arg0))
      ∗ (((c : Thread nD τ).loc main_arg1) ↦{fullShare} W (Proc.devRef .tc main_arg1)) ∗ (((c : Thread nD τ).loc main_arg2) ↦{fullShare} W (Proc.devRef .tc main_arg2))
      ∗ (((c : Thread nD τ).loc main_arg3) ↦{fullShare} W (Proc.devRef .tc main_arg3)) ∗ (((c : Thread nD τ).loc main_arg4) ↦{fullShare} W (Proc.devRef .tc main_arg4))) :=
  bigSep_eq_bigSepL_of_eq [Proc.devRef .tc main_v35, Proc.devRef .tc main_arg0, Proc.devRef .tc main_arg1, Proc.devRef .tc main_arg2, Proc.devRef .tc main_arg3, Proc.devRef .tc main_arg4]
    (by decide +kernel) (by decide +kernel) _

theorem read_end (c : Dev nD) (s' : Phys nD τ sig (Elt F)) :
    iprop(Tₙ m c ∗ SI s') ⊢ (|={Set.univ}=> iprop(⌜kept m c s'.mem ∧ s'.mem.sem (cell c bar) = 0⌝ ∗ SI s') : sProp 𝕄) := by
  dsimp only [Tₙ]
  rw [StableHlo.held_sub_split (c.tc : Thread nD τ) named_sub, held_named]
  iintro ⟨⟨⟨⟨h0, h1, h2, h3, h4, h5⟩, -⟩, hb⟩, HSI⟩
  icombine HSI h0 gives %e0
  icombine HSI h1 gives %e1
  icombine HSI h2 gives %e2
  icombine HSI h3 gives %e3
  icombine HSI h4 gives %e4
  icombine HSI h5 gives %e5
  icombine HSI hb gives %hs
  imodintro
  isplitr
  · ipureintro
    exact ⟨⟨Buf.eq_of_forall_mem_univ e0, Buf.eq_of_forall_mem_univ e1, Buf.eq_of_forall_mem_univ e2, Buf.eq_of_forall_mem_univ e3,
      Buf.eq_of_forall_mem_univ e4, Buf.eq_of_forall_mem_univ e5⟩, by simpa using hs⟩
  iexact HSI

set_option backward.isDefEq.respectTransparency.types false in
/-- From any memory the program ends, with its arguments as they were, its result at `resOf`, and every semaphore at zero. -/
theorem run_main : θ_run defs (onTc (τ := τ) (main (F := F))) ⟨m, fun _ => 0, ρ⟩
    (fun r => (∀ c : Dev nD, r.2.mem ((c : Thread nD τ).loc main_v35) = resOf m
        ∧ r.2.mem ((c : Thread nD τ).loc main_arg0) = m ((c : Thread nD τ).loc main_arg0) ∧ r.2.mem ((c : Thread nD τ).loc main_arg1) = m ((c : Thread nD τ).loc main_arg1)
        ∧ r.2.mem ((c : Thread nD τ).loc main_arg2) = m ((c : Thread nD τ).loc main_arg2) ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := fun c => owedK c debts) (hL := L_of_ne) (G := G) (u₀ := u₀)
    (hu₀ := by
      unfold u₀
      iintro Hu
      ihave H := (ownU_pair _ _) $$ Hu
      icases H with ⟨HP, HX⟩
      imodintro
      isplitl [HP]; · iexact HP
      rw [all_G]; iexact HX)
    (T₀ := T₀ m) (Tₙ := Tₙ m)
    (hch := by
      refine ⟨fun c => .rfl, fun c => reg0_pre m c, fun c => reg0_post m c, fun c => ?_⟩
      show iprop(StableHlo.held (c.tc : Thread nD τ) allRefs (V2 m c) ∗ R1 c)
        ⊢ iprop(Tₙ m c ∗ ∃ W, owes (c : Thread nD τ) (0 : CellTallies nD τ sig Unit) W)
      unfold R1
      iintro ⟨Hh, Hb, HO⟩
      isplitr [HO]
      · isplitl [Hh] <;> iassumption
      · iexact HO)
    (hinit := init m ρ)
    (QY := fun c s => kept m c s ∧ s.sem (cell c bar) = 0)
    (hfin := fun c s' => read_end m c s')
    (hQ := fun s h hs => ⟨fun c => by
        obtain ⟨⟨h0, h1, h2, h3, h4, h5⟩, -⟩ := h c
        refine ⟨h0.trans (V2_out m c), h1.trans ?_, h2.trans ?_, h3.trans ?_, h4.trans ?_, h5.trans ?_⟩
        · rw [V2_ne m c (by decide) (by decide) (by decide)]; exact V_main_arg0 m c
        · rw [V2_ne m c (by decide) (by decide) (by decide)]; exact V_main_arg1 m c
        · rw [V2_ne m c (by decide) (by decide) (by decide)]; exact V_main_arg2 m c
        · rw [V2_ne m c (by decide) (by decide) (by decide)]; exact V_main_arg3 m c
        · rw [V2_ne m c (by decide) (by decide) (by decide)]; exact V_main_arg4 m c,
      sem_eq_zero hs fun c sm hsm => by
        obtain rfl := unscoped_bar sm hsm
        rw [← loc_bar]
        exact (h c).2⟩)

end Cert.Attn

end
-- ==== Proof.Frames.lean ====
/-
  The frames of the two kernels, from the one run.
-/
module

public import proofs.«01_k».proof.Proof.Run
public import proofs.«01_k».proof.Defs
public import proofs.«01_k».proof.Proof.Gen.Kernel
public import proofs.«01_k».proof.Proof.Gen.ReferenceIdeal.Run

@[expose] public section

noncomputable section

namespace Cert.Attn

open Idealize.ShloMosaic Idealize.ShloMosaic.TcCoe Idealize.SL.Sem

/-- At machine words a named constant is its word: the kernel as printed. -/
@[reducible] def plain : Named Bits where
  named _ _ {_} bits := Scalar.ofBits _ bits

/-! So the two programs are one text. -/

set_option maxRecDepth 100000 in
theorem body_same : Cert.Kernel.cc0_body (F := Bits) = (letI := plain; Cert.KernelIdeal.cc0_body (F := Bits)) := by
  delta Cert.Kernel.cc0_body Cert.KernelIdeal.cc0_body
  rfl
theorem table_same : Cert.Kernel.defs₀ (F := Bits) = (letI := plain; Cert.KernelIdeal.defs₀ (F := Bits)) := by
  unfold Cert.Kernel.defs₀ Cert.KernelIdeal.defs₀
  exact congrArg Defs.onTc (by funext l p; split <;> rfl)
theorem defs_same : Cert.Kernel.defs (F := Bits) = (letI := plain; Cert.KernelIdeal.defs (F := Bits)) :=
  congrArg (Pipeline.defs (Cert.Kernel.pcfgs (F := Bits))) table_same
theorem main_same : Cert.Kernel.main (F := Bits) = (letI := plain; Cert.KernelIdeal.main (F := Bits)) := rfl

theorem frame_kernel : Cert.quiescent_Kernel := fun m ρ _ => by
  letI := plain
  have h := run_main (F := Bits) m ρ
  rw [defs_same, main_same]
  exact (θ_run (Cert.KernelIdeal.defs (F := Bits)) _ _).mono (fun _ h => ⟨fun c => (h.1 c).2, h.2⟩) h

theorem frame_ideal : Cert.quiescent_KernelIdeal := fun m ρ _ =>
  (θ_run (Cert.KernelIdeal.defs (F := Ideal)) _ _).mono (fun _ h => ⟨fun c => (h.1 c).2, h.2⟩) (run_main m ρ)
theorem frame_ideal_finite [Cert.Pre_finite_KernelIdeal.Facts] : Cert.quiescent_KernelIdeal_pre_finite_KernelIdeal := fun m ρ _ =>
  frame_ideal m ρ trivial
/-- The reference is a straight line of host operations, and has no semaphore. -/
theorem frame_reference : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run m ρ)
theorem frame_reference_finite [Cert.Pre_finite_ReferenceIdeal.Facts] : Cert.quiescent_ReferenceIdeal_pre_finite_ReferenceIdeal := fun m ρ _ =>
  frame_reference m ρ trivial

theorem preserved : Cert.preserves_Kernel_KernelIdeal :=
  IdealRules.named_const.statement Cert.KernelIdeal.κ "scale" .bf16 0x3DB5#16 ((11863283 / 134217728 : ℝ) : EReal) rfl

end Cert.Attn

end
-- ==== Proof.Words.lean ====
/-
  The numbers that the programs' float words stand for, and the angles they make.
-/
module

public import Idealize.ShloMosaic.Lib.IdealHost
public import Mathlib.Analysis.SpecialFunctions.Pow.Real

@[expose] public section

noncomputable section

namespace Cert.Attn

open Idealize.ShloMosaic

theorem word_1e4 : Ideal.ofBits .f32 0x461C4000#32 = ((10000 : ℝ) : EReal) := by
  simp [Ideal.ofBits, Ideal.ieee, -EReal.coe_mul]; norm_num
theorem word_2 : Ideal.ofBits .f32 0x40000000#32 = ((2 : ℝ) : EReal) := by
  simp [Ideal.ofBits, Ideal.ieee, -EReal.coe_mul]; norm_num
theorem word_128 : Ideal.ofBits .f32 0x43000000#32 = ((128 : ℝ) : EReal) := by
  simp [Ideal.ofBits, Ideal.ieee, -EReal.coe_mul]; norm_num
theorem word_scale : Ideal.ofBits .f32 0x3DB504F3#32 = ((11863283 / 134217728 : ℝ) : EReal) := by
  simp [Ideal.ofBits, Ideal.ieee, -EReal.coe_mul]; norm_num
theorem word_bot : Ideal.ofBits .f32 0xFF800000#32 = ⊥ := by
  simp [Ideal.ofBits, Ideal.ieee]
theorem word_top : Ideal.ofBits .bf16 0x7F80#16 = ⊤ := by
  simp [Ideal.ofBits, Ideal.ieee]

/-- The scale of the scores. -/
abbrev sc : ℝ := 11863283 / 134217728

/-- A small number as a word is itself. -/
theorem sitofp_nat (n : ℕ) (h : n < 1024) : (FloatOps.sitofp (F := Ideal) FTy.f32 (BitVec.ofNat 32 n) : EReal) = ((n : ℝ) : EReal) := by
  show (((BitVec.ofNat 32 n).toInt : ℝ) : EReal) = _
  have : (BitVec.ofNat 32 n).toInt = (n : ℤ) := by
    rw [BitVec.toInt_eq_toNat_of_lt] <;> simp only [BitVec.toNat_ofNat] <;> omega
  rw [this]; simp

/-- The angle of a position and a pair of columns. -/
def ang (i : Fin 512) (p : Fin 64) : ℝ := i.val * (1 / Real.rpow 10000 ((2 * p.val : ℝ) / 128))

theorem ang_eq (i : Fin 512) (p : Fin 64) :
    (FloatOps.sitofp (F := Ideal) FTy.f32 (BitVec.ofNat 32 i.val) : EReal) * Ideal.div 1 (Ideal.pow ((10000 : ℝ) : EReal) (Ideal.div (((2 * p.val : ℝ)) : EReal) ((128 : ℝ) : EReal)))
      = (ang i p : EReal) := by
  have hp : Real.rpow 10000 ((2 * p.val : ℝ) / 128) ≠ 0 := (Real.rpow_pos_of_pos (by norm_num) _).ne'
  rw [Ideal.div_coe (by norm_num), ← EReal.coe_mul, Ideal.pow_coe_coe, mul_one_div, Ideal.div_coe hp, one_mul, sitofp_nat _ (by omega), ← EReal.coe_mul]
  rfl

end Cert.Attn

end
-- ==== Proof.RefVal.lean ====
/-
  The reference, stage by stage and element by element.
-/
module

public import proofs.«01_k».proof.Proof.Words
public import proofs.«01_k».proof.Proof.Gen.ReferenceIdeal.Run
public import Idealize.ShloMosaic.Lib.Pointwise

@[expose] public section

noncomputable section

namespace Cert.Attn.Ref

open Cert.ReferenceIdeal Cert.ReferenceIdeal.Gen
open Idealize.ShloMosaic

variable (X : FVec Ideal S2x512x1024 .bf16) (W : FVec Ideal S1024x16384 .bf16) (P Q K V : FVec Ideal S2x512x128x128 .f32)
  (T : FVec Ideal S512x64 .f32) (S E : FVec Ideal S2x128x512x512 .f32)

/-- A projection, cut in heads. -/
def proj : FVec Ideal S2x512x128x128 .f32 :=
  shapeCast _ (Host.dotGeneral dot_S2x512x1024_S1024x16384_S2x512x16384_2_0_01_1_n_n none (extf .f32 X bitsLt_bf16_f32) (extf .f32 W bitsLt_bf16_f32)) shapeCasts_S2x512x16384_S2x512x128x128
theorem proj_at (b : Fin 2) (i : Fin 512) (h d : Fin 128) :
    proj X W (ix4 b i h d) = ∑ k : Fin 1024, X (ix3 b i k) * W (ix2 k (⟨h.val * 128 + d.val, by omega⟩ : Fin 16384)) := by
  pointwise [proj]

/-- The angles. -/
def pos : FVec Ideal S512x64 .f32 :=
  mulf (broadcastInDim S512x64 ![0, 1] bcast_S512x1_S512x64_0_1 (sitofp .f32 (broadcastInDim S512x1 ![0] bcast_S512_S512x1_0 (iotaInDim S512 32 0)))) (broadcastInDim S512x64 ![0, 1] bcast_S1x64_S512x64_0_1 (broadcastInDim S1x64 ![1] bcast_S64_S1x64_1 (Host.divf (broadcastInDim S64 ![] bcast_S_S64 (constant S_ .f32 0x3F800000#32)) (Host.powf (broadcastInDim S64 ![] bcast_S_S64 (constant S_ .f32 0x461C4000#32)) (Host.divf (sitofp .f32 (addi (broadcastInDim S64 ![] bcast_S_S64 (constantI S_ 32 0#32)) (muli (broadcastInDim S64 ![] bcast_S_S64 (constantI S_ 32 2#32)) (iotaInDim S64 32 0)))) (broadcastInDim S64 ![] bcast_S_S64 (constant S_ .f32 0x43000000#32)))))))
theorem pos_at (i : Fin 512) (p : Fin 64) : pos (ix2 i p) = (ang i p : EReal) := by
  pointwise [pos]
  have h : IntOp.addi (0#32) (IntOp.muli (2#32) (BitVec.ofNat 32 p.val)) = BitVec.ofNat 32 (2 * p.val) := by
    apply BitVec.eq_of_toNat_eq; simp [IntOp.addi, IntOp.muli]
  rw [h, word_1e4, word_128, sitofp_nat (2 * p.val) (by omega)]
  push_cast
  exact ang_eq i p

/-- A table with each of its columns twice, for every batch and head. -/
def spread : FVec Ideal S2x512x128x128 .f32 :=
  broadcastInDim S2x512x128x128 ![0, 1, 2, 3] bcast_S1x512x1x128_S2x512x128x128_0_1_2_3 (broadcastInDim S1x512x1x128 ![1, 3] bcast_S512x128_S1x512x1x128_1_3 (shapeCast _ (broadcastInDim S512x64x2 ![0, 1] bcast_S512x64_S512x64x2_0_1 T) shapeCasts_S512x64x2_S512x128))
theorem spread_at (b : Fin 2) (i : Fin 512) (h d : Fin 128) : spread T (ix4 b i h d) = T (ix2 i (⟨d.val / 2, by omega⟩ : Fin 64)) := by
  pointwise [spread]

/-- The columns of each pair exchanged, and the one that comes first negated. -/
def swap : FVec Ideal S2x512x128x128 .f32 :=
  shapeCast _ (concatenate S2x512x128x64x2 4 [⟨S2x512x128x64x1, (broadcastInDim S2x512x128x64x1 ![0, 1, 2, 3] bcast_S2x512x128x64_S2x512x128x64x1_0_1_2_3 (Host.negf (shapeCast S2x512x128x64 (extractStridedSlice S2x512x128x64x1 ![0, 0, 0, 0, 1] (shapeCast S2x512x128x64x2 P shapeCasts_S2x512x128x128_S2x512x128x64x2) slices_S2x512x128x64x2_S2x512x128x64x1_0_0_0_0_1) shapeCasts_S2x512x128x64x1_S2x512x128x64)))⟩, ⟨S2x512x128x64x1, (broadcastInDim S2x512x128x64x1 ![0, 1, 2, 3] bcast_S2x512x128x64_S2x512x128x64x1_0_1_2_3 (shapeCast S2x512x128x64 (extractStridedSlice S2x512x128x64x1 ![0, 0, 0, 0, 0] (shapeCast S2x512x128x64x2 P shapeCasts_S2x512x128x128_S2x512x128x64x2) slices_S2x512x128x64x2_S2x512x128x64x1_0_0_0_0_0) shapeCasts_S2x512x128x64x1_S2x512x128x64))⟩] concatenates_S2x512x128x64x1_S2x512x128x64x1_S2x512x128x64x2_d4) shapeCasts_S2x512x128x64x2_S2x512x128x128

def rot : FVec Ideal S2x512x128x128 .f32 := addf (mulf P (spread (Host.cos pos))) (mulf (swap P) (spread (Host.sin pos)))

theorem swap_even (b : Fin 2) (i : Fin 512) (h : Fin 128) (p : Fin 64) :
    swap P (ix4 b i h (⟨p.val * 2, by omega⟩ : Fin 128)) = - P (ix4 b i h (⟨p.val * 2 + 1, by omega⟩ : Fin 128)) := by
  pointwise [swap]
  rw [dif_pos (by omega)]
theorem swap_odd (b : Fin 2) (i : Fin 512) (h : Fin 128) (p : Fin 64) :
    swap P (ix4 b i h (⟨p.val * 2 + 1, by omega⟩ : Fin 128)) = P (ix4 b i h (⟨p.val * 2, by omega⟩ : Fin 128)) := by
  pointwise [swap]
  rw [dif_neg (by omega)]

theorem mix {s : Shape} {φ : FTy} (A B C D : FVec Ideal s φ) (j : s.Idx) : addf (mulf A B) (mulf C D) j = A j * B j + C j * D j := rfl
theorem rot_at (j : S2x512x128x128.Idx) : rot P j = P j * spread (Host.cos pos) j + swap P j * spread (Host.sin pos) j := by
  unfold rot
  exact mix P _ (swap P) _ j
theorem cos_at (j : S512x64.Idx) : Host.cos T j = Ideal.cos (T j) := rfl
theorem sin_at (j : S512x64.Idx) : Host.sin T j = Ideal.sin (T j) := rfl
theorem spread_even (b : Fin 2) (i : Fin 512) (h : Fin 128) (p : Fin 64) : spread T (ix4 b i h (⟨p.val * 2, by omega⟩ : Fin 128)) = T (ix2 i p) :=
  (spread_at T b i h _).trans (congrArg (fun q => T (ix2 i q)) (Fin.ext (Nat.mul_div_cancel _ (by decide))))
theorem spread_odd (b : Fin 2) (i : Fin 512) (h : Fin 128) (p : Fin 64) : spread T (ix4 b i h (⟨p.val * 2 + 1, by omega⟩ : Fin 128)) = T (ix2 i p) :=
  (spread_at T b i h _).trans (congrArg (fun q => T (ix2 i q)) (Fin.ext (by simp only; omega)))
theorem rot_even (b : Fin 2) (i : Fin 512) (h : Fin 128) (p : Fin 64) :
    rot P (ix4 b i h (⟨p.val * 2, by omega⟩ : Fin 128)) = P (ix4 b i h (⟨p.val * 2, by omega⟩ : Fin 128)) * ((Real.cos (ang i p) : ℝ) : EReal)
      + (- P (ix4 b i h (⟨p.val * 2 + 1, by omega⟩ : Fin 128))) * ((Real.sin (ang i p) : ℝ) : EReal) := by
  rw [rot_at, swap_even, spread_even, spread_even, cos_at, sin_at, pos_at, Ideal.cos_coe, Ideal.sin_coe]
theorem rot_odd (b : Fin 2) (i : Fin 512) (h : Fin 128) (p : Fin 64) :
    rot P (ix4 b i h (⟨p.val * 2 + 1, by omega⟩ : Fin 128)) = P (ix4 b i h (⟨p.val * 2 + 1, by omega⟩ : Fin 128)) * ((Real.cos (ang i p) : ℝ) : EReal)
      + P (ix4 b i h (⟨p.val * 2, by omega⟩ : Fin 128)) * ((Real.sin (ang i p) : ℝ) : EReal) := by
  rw [rot_at, swap_odd, spread_odd, spread_odd, cos_at, sin_at, pos_at, Ideal.cos_coe, Ideal.sin_coe]

/-- The scores. -/
def score : FVec Ideal S2x128x512x512 .f32 :=
  mulf (Host.dotGeneral dot_S2x512x128x128_S2x512x128x128_S2x128x512x512_3_3_1_1_02_02 none Q K) (broadcastInDim S2x128x512x512 ![] bcast_S_S2x128x512x512 (constant S_ .f32 0x3DB504F3#32))
theorem score_at (b : Fin 2) (h : Fin 128) (i j : Fin 512) :
    score Q K (ix4 b h i j) = (∑ d : Fin 128, Q (ix4 b i h d) * K (ix4 b j h d)) * (sc : EReal) := by
  rw [← word_scale]
  pointwise [score]

/-- A row's value along its row. -/
def along (M : FVec Ideal S2x128x512 .f32) : FVec Ideal S2x128x512x512 .f32 :=
  broadcastInDim S2x128x512x512 ![0, 1, 2, 3] bcast_S2x128x512x1_S2x128x512x512_0_1_2_3 (broadcastInDim S2x128x512x1 ![0, 1, 2] bcast_S2x128x512_S2x128x512x1_0_1_2 M)
theorem along_at (M : FVec Ideal S2x128x512 .f32) (b : Fin 2) (h : Fin 128) (i j : Fin 512) : along M (ix4 b h i j) = M (ix3 b h i) := by
  pointwise [along]

/-- The greatest of a row. -/
def top : FVec Ideal S2x128x512 .f32 :=
  Host.reduce FloatOps.maximumf S (constant S_ .f32 0xFF800000#32) reducesTo_S2x128x512x512_S2x128x512_d3 h_S_
theorem top_at (b : Fin 2) (h : Fin 128) (i : Fin 512) : top S (ix3 b h i) = Finset.univ.fold max ⊥ fun j : Fin 512 => S (ix4 b h i j) := by
  rw [← word_bot]
  pointwise [top]

def expo : FVec Ideal S2x128x512x512 .f32 := Host.exp (subf S (along (top S)))
theorem expo_at (b : Fin 2) (h : Fin 128) (i j : Fin 512) : expo S (ix4 b h i j) = Ideal.exp (S (ix4 b h i j) - top S (ix3 b h i)) := by
  rw [← along_at (top S) b h i j]; rfl

def soft : FVec Ideal S2x128x512x512 .f32 :=
  Host.divf E (along (Host.reduceAdd E (constant S_ .f32 0x00000000#32) reducesTo_S2x128x512x512_S2x128x512_d3 h_S_))
theorem soft_at (b : Fin 2) (h : Fin 128) (i j : Fin 512) :
    soft E (ix4 b h i j) = Ideal.div (E (ix4 b h i j)) (∑ j : Fin 512, E (ix4 b h i j)) := by
  pointwise [soft, along]

/-- The context, laid out by rows. -/
def ctx : FVec Ideal S2x512x128x128 .f32 :=
  transpose S2x512x128x128 [0, 3, 1, 2] (Host.dotGeneral dot_S2x512x128x128_S2x128x512x512_S2x128x128x512_1_3_3_2_02_01 none V S) transposes_S2x128x128x512_S2x512x128x128_0_3_1_2
theorem ctx_at (b : Fin 2) (i : Fin 512) (h d : Fin 128) : ctx V S (ix4 b i h d) = ∑ j : Fin 512, V (ix4 b j h d) * S (ix4 b h i j) := by
  pointwise [ctx]

def out (O : FVec Ideal S16384x1024 .bf16) : FVec Ideal S2x512x1024 .f32 :=
  Host.dotGeneral dot_S2x512x16384_S16384x1024_S2x512x1024_2_0_01_1_n_n none (shapeCast _ P shapeCasts_S2x512x128x128_S2x512x16384) (extf .f32 O bitsLt_bf16_f32)
theorem out_at (O : FVec Ideal S16384x1024 .bf16) (b : Fin 2) (i : Fin 512) (n : Fin 1024) :
    out P O (ix3 b i n) = ∑ k : Fin 16384, P (ix4 b i (⟨k.val / 128, by omega⟩ : Fin 128) (⟨k.val % 128, by omega⟩ : Fin 128)) * O (ix2 k n) := by
  pointwise [out]

/-- The whole reference. -/
def whole (WQ WK WV : FVec Ideal S1024x16384 .bf16) (O : FVec Ideal S16384x1024 .bf16) : FVec Ideal S2x512x1024 .f32 :=
  let s := score (rot (proj X WQ)) (rot (proj X WK))
  out (ctx (proj X WV) (soft (expo s))) O

theorem whole_eq (m : (ℓ : Loc nD τ sig) → Buf (Elt Ideal) ℓ) (c : Dev nD) :
    Value.res_main_v85 m c = whole (m (c.tc.loc main_arg0)) (m (c.tc.loc main_arg1)) (m (c.tc.loc main_arg2)) (m (c.tc.loc main_arg3)) (m (c.tc.loc main_arg4)) := rfl

end Cert.Attn.Ref

end
-- ==== Proof.Sums.lean ====
/-
  Sums of extended reals: cut in blocks, scaled by a real, and the weights of an attention.
-/
module

public import Idealize.ShloMosaic.Lib.IdealHost

@[expose] public section

noncomputable section

namespace Cert.Attn

open Idealize.ShloMosaic
open scoped BigOperators

/-- A sum over `a * b` positions, block by block. -/
theorem sum_cut {M : Type} [AddCommMonoid M] (a b n : ℕ) (hn : a * b = n) (hp : ∀ (x : Fin a) (y : Fin b), b * x.val + y.val < n) (f : Fin n → M) :
    ∑ k, f k = ∑ x : Fin a, ∑ y : Fin b, f ⟨b * x.val + y.val, hp x y⟩ := by
  subst hn
  rw [← Equiv.sum_comp finProdFinEquiv, Fintype.sum_prod_type]
  refine Finset.sum_congr rfl fun x _ => Finset.sum_congr rfl fun y _ => congrArg f (Fin.ext ?_)
  simp [finProdFinEquiv, add_comm]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A factor that is a real and not negative goes into a sum of extended reals. -/
theorem real_mul_sum {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

/-- The greatest of some reals, one at least, is a real. -/
theorem fold_max_real {ι : Type} (S : Finset ι) (f : ι → ℝ) (h : S.Nonempty) : ∃ M : ℝ, S.fold max ⊥ (fun i => (f i : EReal)) = (M : EReal) := by
  classical
  induction h using Finset.Nonempty.cons_induction with
  | singleton a => exact ⟨f a, by simp⟩
  | cons a s ha hs ih =>
    obtain ⟨M, hM⟩ := ih
    exact ⟨max (f a) M, by rw [Finset.fold_cons, hM]; exact (EReal.coe_strictMono.monotone.map_max).symm⟩

/-- Weights shifted by any real, and divided before the sum or after it, give one average. -/
theorem average {ι : Type} [Fintype ι] [Nonempty ι] (s : ι → ℝ) (M : ℝ) (v : ι → EReal) :
    ∑ j, v j * Ideal.div (Ideal.exp ((s j : EReal) - (M : EReal))) (∑ j, Ideal.exp ((s j : EReal) - (M : EReal)))
      = (∑ j, Ideal.exp (s j : EReal) * v j) * Ideal.div 1 (∑ j, Ideal.exp (s j : EReal)) := by
  have hz : 0 < ∑ j, Real.exp (s j) := Finset.sum_pos (fun j _ => Real.exp_pos _) Finset.univ_nonempty
  have hm : 0 < ∑ j, Real.exp (s j - M) := Finset.sum_pos (fun j _ => Real.exp_pos _) Finset.univ_nonempty
  have e : ∀ j, Real.exp (s j - M) * (1 / ∑ j, Real.exp (s j - M)) = (1 / ∑ j, Real.exp (s j)) * Real.exp (s j) := fun j => by
    simp only [Real.exp_sub, ← Finset.sum_div]
    have := Real.exp_pos M
    field_simp
  simp only [← EReal.coe_sub, Ideal.exp_coe, ← coe_sum]
  rw [Ideal.div_coe hz.ne', one_mul, mul_comm, real_mul_sum _ _ (by positivity)]
  refine Finset.sum_congr rfl fun j _ => ?_
  rw [Ideal.div_coe hm.ne', ← EReal.coe_mul, e, mul_comm, ← mul_assoc, EReal.coe_mul]

end Cert.Attn

end
-- ==== Proof.Spec.lean ====
/-
  The attention block as sums, and the reference as that.
-/
module

public import proofs.«01_k».proof.Proof.RefVal
public import proofs.«01_k».proof.Proof.Sums

@[expose] public section

noncomputable section

namespace Cert.Attn

open Idealize.ShloMosaic

/-- A sum over the columns of a head, pair by pair. -/
theorem sum_pairs {M : Type} [AddCommMonoid M] (f : Fin 128 → M) :
    ∑ d, f d = ∑ p : Fin 64, (f ⟨p.val * 2, by omega⟩ + f ⟨p.val * 2 + 1, by omega⟩) := by
  rw [sum_cut 64 2 128 rfl (fun x y => by omega)]
  refine Finset.sum_congr rfl fun p _ => ?_
  rw [Fin.sum_univ_two]
  exact congrArg₂ (· + ·) (congrArg f (Fin.ext (by simp; omega))) (congrArg f (Fin.ext (by simp; omega)))
/-- A sum over the columns of a head, half by half. -/
theorem sum_halves {M : Type} [AddCommMonoid M] (f : Fin 128 → M) :
    ∑ d, f d = ∑ p : Fin 64, (f ⟨p.val, by omega⟩ + f ⟨64 + p.val, by omega⟩) := by
  rw [sum_cut 2 64 128 rfl (fun x y => by omega), Fin.sum_univ_two, ← Finset.sum_add_distrib]
  refine Finset.sum_congr rfl fun p _ => ?_
  exact congrArg₂ (· + ·) (congrArg f (Fin.ext (by simp))) (congrArg f (Fin.ext (by simp)))

variable (x : Fin 2 → Fin 512 → Fin 1024 → ℝ) (w wq wk : Fin 1024 → Fin 16384 → ℝ)
  (X : FVec Ideal (⟨3, ![2, 512, 1024]⟩ : Shape) .bf16) (WV : FVec Ideal (⟨2, ![1024, 16384]⟩ : Shape) .bf16) (O : FVec Ideal (⟨2, ![16384, 1024]⟩ : Shape) .bf16)

/-- One element of a projection. -/
def pj (b : Fin 2) (i : Fin 512) (h d : Fin 128) : ℝ := ∑ k, x b i k * w k ⟨h.val * 128 + d.val, by omega⟩
/-- A pair of its columns, turned by the pair's angle. -/
def lo (b : Fin 2) (i : Fin 512) (h : Fin 128) (p : Fin 64) : ℝ :=
  pj x w b i h ⟨p.val * 2, by omega⟩ * Real.cos (ang i p) - pj x w b i h ⟨p.val * 2 + 1, by omega⟩ * Real.sin (ang i p)
def hi (b : Fin 2) (i : Fin 512) (h : Fin 128) (p : Fin 64) : ℝ :=
  pj x w b i h ⟨p.val * 2 + 1, by omega⟩ * Real.cos (ang i p) + pj x w b i h ⟨p.val * 2, by omega⟩ * Real.sin (ang i p)
/-- The score of two positions. -/
def sco (b : Fin 2) (h : Fin 128) (i j : Fin 512) : ℝ :=
  (∑ p, (lo x wq b i h p * lo x wk b j h p + hi x wq b i h p * hi x wk b j h p)) * sc
/-- One element of the values, of a head's context, and of the output. -/
def val (b : Fin 2) (j : Fin 512) (h d : Fin 128) : EReal := ∑ k, X (ix3 b j k) * WV (ix2 k (⟨h.val * 128 + d.val, by omega⟩ : Fin 16384))
def mean (b : Fin 2) (i : Fin 512) (h d : Fin 128) : EReal :=
  (∑ j, Ideal.exp (sco x wq wk b h i j : EReal) * val X WV b j h d) * Ideal.div 1 (∑ j, Ideal.exp (sco x wq wk b h i j : EReal))
def spec (b : Fin 2) (i : Fin 512) (n : Fin 1024) : EReal :=
  ∑ h : Fin 128, ∑ d : Fin 128, mean x wq wk X WV b i h d * O (ix2 (⟨128 * h.val + d.val, by omega⟩ : Fin 16384) n)

variable (WQ WK : FVec Ideal (⟨2, ![1024, 16384]⟩ : Shape) .bf16)

namespace Ref

theorem proj_real (hX : ∀ b i k, X (ix3 b i k) = (x b i k : EReal)) (W : FVec Ideal (⟨2, ![1024, 16384]⟩ : Shape) .bf16) (hW : ∀ k j, W (ix2 k j) = (w k j : EReal))
    (b : Fin 2) (i : Fin 512) (h d : Fin 128) : proj X W (ix4 b i h d) = (pj x w b i h d : EReal) := by
  rw [proj_at]
  simp only [hX, hW, ← EReal.coe_mul, ← coe_sum]
  rfl

theorem rot_lo (P : FVec Ideal (⟨4, ![2, 512, 128, 128]⟩ : Shape) .f32) (hP : ∀ b i h d, P (ix4 b i h d) = (pj x w b i h d : EReal))
    (b : Fin 2) (i : Fin 512) (h : Fin 128) (p : Fin 64) : rot P (ix4 b i h (⟨p.val * 2, by omega⟩ : Fin 128)) = (lo x w b i h p : EReal) := by
  rw [rot_even, hP, hP, ← EReal.coe_neg, ← EReal.coe_mul, ← EReal.coe_mul, ← EReal.coe_add]
  exact congrArg _ (by unfold lo; ring)
theorem rot_hi (P : FVec Ideal (⟨4, ![2, 512, 128, 128]⟩ : Shape) .f32) (hP : ∀ b i h d, P (ix4 b i h d) = (pj x w b i h d : EReal))
    (b : Fin 2) (i : Fin 512) (h : Fin 128) (p : Fin 64) : rot P (ix4 b i h (⟨p.val * 2 + 1, by omega⟩ : Fin 128)) = (hi x w b i h p : EReal) := by
  rw [rot_odd, hP, hP, ← EReal.coe_mul, ← EReal.coe_mul, ← EReal.coe_add]
  rfl

variable (P P' : FVec Ideal (⟨4, ![2, 512, 128, 128]⟩ : Shape) .f32)

theorem score_real (hP : ∀ b i h d, P (ix4 b i h d) = (pj x wq b i h d : EReal)) (hP' : ∀ b i h d, P' (ix4 b i h d) = (pj x wk b i h d : EReal))
    (b : Fin 2) (h : Fin 128) (i j : Fin 512) : score (rot P) (rot P') (ix4 b h i j) = (sco x wq wk b h i j : EReal) := by
  rw [score_at, sum_pairs]
  simp only [rot_lo x wq P hP, rot_lo x wk P' hP', rot_hi x wq P hP, rot_hi x wk P' hP', ← EReal.coe_mul, ← EReal.coe_add, ← coe_sum]
  rfl

theorem ctx_real (S : FVec Ideal (⟨4, ![2, 128, 512, 512]⟩ : Shape) .f32) (hS : ∀ b h i j, S (ix4 b h i j) = (sco x wq wk b h i j : EReal))
    (b : Fin 2) (i : Fin 512) (h d : Fin 128) : ctx (proj X WV) (soft (expo S)) (ix4 b i h d) = mean x wq wk X WV b i h d := by
  obtain ⟨M, hM⟩ := fold_max_real Finset.univ (fun j => sco x wq wk b h i j) Finset.univ_nonempty
  have ht : top S (ix3 b h i) = (M : EReal) := by rw [top_at, ← hM]; simp only [hS]
  rw [ctx_at]
  simp only [soft_at, expo_at, hS, ht, proj_at]
  exact average (fun j => sco x wq wk b h i j) M (fun j => val X WV b j h d)

theorem whole_spec (hX : ∀ b i k, X (ix3 b i k) = (x b i k : EReal)) (hQ : ∀ k j, WQ (ix2 k j) = (wq k j : EReal)) (hK : ∀ k j, WK (ix2 k j) = (wk k j : EReal))
    (b : Fin 2) (i : Fin 512) (n : Fin 1024) : whole X WQ WK WV O (ix3 b i n) = spec x wq wk X WV O b i n := by
  refine (out_at _ O b i n).trans ?_
  rw [sum_cut 128 128 16384 rfl (fun x y => by omega)]
  refine Finset.sum_congr rfl fun h _ => Finset.sum_congr rfl fun d _ => congrArg (· * _) ?_
  rw [← ctx_real x wq wk X WV _ (score_real x wq wk _ _ (proj_real x wq X hX WQ hQ) (proj_real x wk X hX WK hK)) b i h d]
  exact congrArg₂ (fun u v => ctx _ _ (ix4 b i u v)) (Fin.ext (by simp only; omega)) (Fin.ext (by simp only; omega))

end Ref

end Cert.Attn

end
-- ==== Proof.KerVal.lean ====
/-
  A device's part of the output, stage by stage and element by element.
-/
module

public import proofs.«01_k».proof.Proof.Words
public import proofs.«01_k».proof.Proof.Sums
public import proofs.«01_k».proof.Proof.Attn
public import Idealize.ShloMosaic.Lib.Pointwise

@[expose] public section

noncomputable section

namespace Cert.Attn

open Cert.KernelIdeal Cert.KernelIdeal.Gen
open Idealize.ShloMosaic

variable (I : Ins Ideal)

theorem km_at (r j : Fin 1024) : I.km (ix2 r j) = ∑ k : Fin 1024, I.x (ix2 r k) * I.wk (ix2 k j) := by
  pointwise [Ins.km, k0_pay3]
theorem vals_at (r j : Fin 1024) : I.vals (ix2 r j) = ∑ k : Fin 1024, I.x (ix2 r k) * I.wv (ix2 k j) := by
  pointwise [Ins.vals, k0_pay28]
theorem named_scale : (Named.named Cert.KernelIdeal.κ "scale" 0x3DB5#16 : Ideal .bf16) = ((sc : ℝ) : EReal) :=
  IdealRules.named_const.ideal_named_scalar _ _ _ _ rfl
theorem qs_at (b : Fin 2) (i : Fin 512) (j : Fin 1024) :
    I.qs b (ix2 i j) = ∑ k : Fin 1024, I.x (ix2 (⟨512 * b.val + i.val, by omega⟩ : Fin 1024) k) * (I.wq (ix2 k j) * ((sc : ℝ) : EReal)) := by
  rw [← named_scale]
  pointwise [Ins.qs, k0_pay29, rows]
theorem tile_at (X : FVec Ideal S1024x1024 .bf16) (b : Fin 2) (h : Fin 8) (i : Fin 512) (d : Fin 128) :
    tile X b h (ix2 i d) = X (ix2 (⟨512 * b.val + i.val, by omega⟩ : Fin 1024) (⟨128 * h.val + d.val, by omega⟩ : Fin 1024)) := by
  pointwise [tile]
theorem cols_at (X : FVec Ideal S512x1024 .bf16) (h : Fin 8) (i : Fin 512) (d : Fin 128) :
    cols X h (ix2 i d) = X (ix2 i (⟨128 * h.val + d.val, by omega⟩ : Fin 1024)) := by
  pointwise [cols]
theorem rope_lo (cs sn : FVec Ideal S512x64 .bf16) (y : FVec Ideal S512x128 .bf16) (i : Fin 512) (p : Fin 64) :
    rope cs sn y (ix2 i (⟨p.val, by omega⟩ : Fin 128))
      = y (ix2 i (⟨p.val, by omega⟩ : Fin 128)) * cs (ix2 i p) - y (ix2 i (⟨64 + p.val, by omega⟩ : Fin 128)) * sn (ix2 i p) := by
  pointwise [rope]
theorem rope_hi (cs sn : FVec Ideal S512x64 .bf16) (y : FVec Ideal S512x128 .bf16) (i : Fin 512) (p : Fin 64) :
    rope cs sn y (ix2 i (⟨64 + p.val, by omega⟩ : Fin 128))
      = y (ix2 i (⟨64 + p.val, by omega⟩ : Fin 128)) * cs (ix2 i p) + y (ix2 i (⟨p.val, by omega⟩ : Fin 128)) * sn (ix2 i p) := by
  pointwise [rope]
theorem att_at (q k v : FVec Ideal S512x128 .bf16) (i : Fin 512) (d : Fin 128) :
    att q k v (ix2 i d) = (∑ j : Fin 512, Ideal.exp (∑ e : Fin 128, q (ix2 i e) * k (ix2 j e)) * v (ix2 j d))
      * Ideal.div 1 (∑ j : Fin 512, Ideal.exp (∑ e : Fin 128, q (ix2 i e) * k (ix2 j e))) := by
  pointwise [att]
theorem half_at (b : Fin 2) (i : Fin 512) (n : Fin 1024) :
    I.half b (ix2 i n) = ∑ h : Fin 8, ∑ d : Fin 128, I.head b h (ix2 i d) * I.wo (ix2 (⟨128 * h.val + d.val, by omega⟩ : Fin 1024) n) := by
  pointwise [Ins.half, k0_pay71]
  rw [sum_cut 8 128 1024 rfl (fun x y => by omega)]
  refine Finset.sum_congr rfl fun h _ => Finset.sum_congr rfl fun d _ => congrArg (· * _) ?_
  have pick : ∀ (k : Fin 8) (e : Fin 128), k.val = h.val → e.val = d.val → I.head b k (ix2 i e) = I.head b h (ix2 i d) := fun k e hk he => by
    rw [Fin.ext hk, Fin.ext he]
  have := h.isLt
  have := d.isLt
  have e : (⟨128 * h.val + d.val, by omega⟩ : Fin 1024).val = 128 * h.val + d.val := rfl
  split_ifs <;> exact pick _ _ (by simp; omega) (by simp; omega)

end Cert.Attn

end
-- ==== Proof.Hosts.lean ====
/-
  What the host's operations before the kernel leave in its arrays, element by element.
-/
module

public import proofs.«01_k».proof.Proof.Region
public import proofs.«01_k».proof.Proof.Words
public import Idealize.ShloMosaic.Lib.StableHlo.ReadAt
public import Idealize.ShloMosaic.Lib.Pointwise

@[expose] public section

noncomputable section

namespace Cert.Attn

open Cert.KernelIdeal Cert.KernelIdeal.Gen
open Idealize.ShloMosaic Idealize.ShloMosaic.TcCoe

variable (m : (ℓ : Loc nD τ sig) → Buf (Elt Ideal) ℓ)

/-- The rows of the input, both batches under one another. -/
theorem x_at (c : Dev nD) (r : Fin 1024) (k : Fin 1024) :
    (insOf m c).x (ix2 r k) = m (c.tc.loc main_arg0) (ix3 (⟨r.val / 512, by omega⟩ : Fin 2) (⟨r.val % 512, by omega⟩ : Fin 512) k) := by
  show V m c main_v1 (ix2 r k) = _
  after_reads_at

/-- Where a column of the kernel's weights comes from: in each head the even columns are put before the odd ones. -/
def src (j : Fin 1024) : Fin 1024 := ⟨j.val / 128 * 128 + j.val % 64 * 2 + j.val / 64 % 2, by omega⟩

theorem wq_at (c : Dev nD) (k j : Fin 1024) : (insOf m c).wq (ix2 k j) = m (c.tc.loc main_arg1) (ix2 k (src j)) := by
  show V m c main_v27 (ix2 k j) = _
  after_reads_at
  rfl
theorem wk_at (c : Dev nD) (k j : Fin 1024) : (insOf m c).wk (ix2 k j) = m (c.tc.loc main_arg2) (ix2 k (src j)) := by
  show V m c main_v32 (ix2 k j) = _
  after_reads_at
  rfl
theorem wv_at (c : Dev nD) : (insOf m c).wv = m (c.tc.loc main_arg3) := V_main_arg3 m c
theorem wo_at (c : Dev nD) : (insOf m c).wo = m (c.tc.loc main_arg4) := V_main_arg4 m c

theorem cs_at (c : Dev nD) (i : Fin 512) (p : Fin 64) : (insOf m c).cs (ix2 i p) = ((Real.cos (ang i p) : ℝ) : EReal) := by
  show V m c main_v20 (ix2 i p) = _
  after_reads_at
  rw [word_1e4, word_2, word_128, sitofp_nat p.val (by omega), ← EReal.coe_mul, ang_eq]
  rfl
theorem sn_at (c : Dev nD) (i : Fin 512) (p : Fin 64) : (insOf m c).sn (ix2 i p) = ((Real.sin (ang i p) : ℝ) : EReal) := by
  show V m c main_v22 (ix2 i p) = _
  after_reads_at
  rw [word_1e4, word_2, word_128, sitofp_nat p.val (by omega), ← EReal.coe_mul, ang_eq]
  rfl

end Cert.Attn

end
-- ==== Proof.KerSpec.lean ====
/-
  A device's part of the output as sums.
-/
module

public import proofs.«01_k».proof.Proof.Spec
public import proofs.«01_k».proof.Proof.KerVal
public import proofs.«01_k».proof.Proof.Hosts

@[expose] public section

noncomputable section

namespace Cert.Attn

open Idealize.ShloMosaic

variable (x : Fin 2 → Fin 512 → Fin 1024 → ℝ) (w wq wk : Fin 1024 → Fin 16384 → ℝ)
  (X : FVec Ideal (⟨3, ![2, 512, 1024]⟩ : Shape) .bf16) (WV : FVec Ideal (⟨2, ![1024, 16384]⟩ : Shape) .bf16) (O : FVec Ideal (⟨2, ![16384, 1024]⟩ : Shape) .bf16)

/-- A device is given the whole input and its own block of each weight, in the columns' order that the host puts. -/
structure Given (c : Fin 16) (I : Ins Ideal) : Prop where
  real : ∀ b i k, X (ix3 b i k) = (x b i k : EReal)
  x : ∀ r k : Fin 1024, I.x (ix2 r k) = X (ix3 (⟨r.val / 512, by omega⟩ : Fin 2) (⟨r.val % 512, by omega⟩ : Fin 512) k)
  wq : ∀ k j : Fin 1024, I.wq (ix2 k j) = (wq k ⟨1024 * c.val + (src j).val, by omega⟩ : EReal)
  wk : ∀ k j : Fin 1024, I.wk (ix2 k j) = (wk k ⟨1024 * c.val + (src j).val, by omega⟩ : EReal)
  wv : ∀ k j : Fin 1024, I.wv (ix2 k j) = WV (ix2 k (⟨1024 * c.val + j.val, by omega⟩ : Fin 16384))
  wo : ∀ j n : Fin 1024, I.wo (ix2 j n) = O (ix2 (⟨1024 * c.val + j.val, by omega⟩ : Fin 16384) n)
  cs : ∀ i p, I.cs (ix2 i p) = ((Real.cos (ang i p) : ℝ) : EReal)
  sn : ∀ i p, I.sn (ix2 i p) = ((Real.sin (ang i p) : ℝ) : EReal)

/-- The whole's head, and the column of a head that the host puts at a column. -/
def headOf (c : Fin 16) (h : Fin 8) : Fin 128 := ⟨8 * c.val + h.val, by omega⟩
def colOf (d : Fin 128) : Fin 128 := ⟨d.val % 64 * 2 + d.val / 64, by omega⟩

namespace Given

variable {x wq wk X WV O} {c : Fin 16} {I : Ins Ideal} (G : Given x wq wk X WV O c I)
include G

theorem row (b : Fin 2) (i : Fin 512) (k : Fin 1024) : I.x (ix2 (⟨512 * b.val + i.val, by omega⟩ : Fin 1024) k) = X (ix3 b i k) := by
  rw [G.x]
  exact congrArg₂ (fun u v => X (ix3 u v k)) (Fin.ext (by simp only; omega)) (Fin.ext (by simp only; omega))

theorem col (w : Fin 1024 → Fin 16384 → ℝ) (k : Fin 1024) (h : Fin 8) (d : Fin 128) (l) (l') :
    w k ⟨1024 * c.val + (src ⟨128 * h.val + d.val, l⟩).val, l'⟩ = w k ⟨(headOf c h).val * 128 + (colOf d).val, by omega⟩ :=
  congrArg (w k) (Fin.ext (by simp only [src, headOf, colOf]; omega))

theorem queries (b : Fin 2) (i : Fin 512) (h : Fin 8) (d : Fin 128) :
    I.qs b (ix2 i (⟨128 * h.val + d.val, by omega⟩ : Fin 1024)) = ((pj x wq b i (headOf c h) (colOf d) * sc : ℝ) : EReal) := by
  rw [qs_at]
  simp only [G.row, G.real, G.wq, G.col wq, ← EReal.coe_mul, ← coe_sum]
  refine congrArg _ ?_
  rw [pj, Finset.sum_mul]
  exact Finset.sum_congr rfl fun k _ => (mul_assoc _ _ _).symm

theorem keys (b : Fin 2) (i : Fin 512) (h : Fin 8) (d : Fin 128) :
    I.km (ix2 (⟨512 * b.val + i.val, by omega⟩ : Fin 1024) (⟨128 * h.val + d.val, by omega⟩ : Fin 1024)) = (pj x wk b i (headOf c h) (colOf d) : EReal) := by
  rw [km_at]
  simp only [G.row, G.real, G.wk, G.col wk, ← EReal.coe_mul, ← coe_sum]
  rfl

theorem values (b : Fin 2) (i : Fin 512) (h : Fin 8) (d : Fin 128) :
    I.vals (ix2 (⟨512 * b.val + i.val, by omega⟩ : Fin 1024) (⟨128 * h.val + d.val, by omega⟩ : Fin 1024)) = val X WV b i (headOf c h) d := by
  rw [vals_at]
  simp only [G.row, G.wv]
  refine Finset.sum_congr rfl fun k _ => congrArg (fun u => X (ix3 b i k) * WV (ix2 k u)) (Fin.ext ?_)
  simp only [headOf]; omega

omit G in
theorem colOf_lo (p : Fin 64) (l) : colOf ⟨p.val, l⟩ = ⟨p.val * 2, by omega⟩ := Fin.ext (by simp only [colOf]; omega)
omit G in
theorem colOf_hi (p : Fin 64) (l) : colOf ⟨64 + p.val, l⟩ = ⟨p.val * 2 + 1, by omega⟩ := Fin.ext (by simp only [colOf]; omega)

/-- Any head whose columns are a projection, scaled or not, turned by the tables. -/
theorem turn_lo (y : FVec Ideal (⟨2, ![512, 128]⟩ : Shape) .bf16) (w : Fin 1024 → Fin 16384 → ℝ) (b : Fin 2) (h : Fin 128) (a : ℝ)
    (hy : ∀ i d, y (ix2 i d) = ((pj x w b i h (colOf d) * a : ℝ) : EReal)) (i : Fin 512) (p : Fin 64) :
    rope I.cs I.sn y (ix2 i (⟨p.val, by omega⟩ : Fin 128)) = ((lo x w b i h p * a : ℝ) : EReal) := by
  rw [rope_lo, hy, hy, G.cs, G.sn, colOf_lo, colOf_hi, ← EReal.coe_mul, ← EReal.coe_mul, ← EReal.coe_sub]
  exact congrArg _ (by unfold lo; ring)
theorem turn_hi (y : FVec Ideal (⟨2, ![512, 128]⟩ : Shape) .bf16) (w : Fin 1024 → Fin 16384 → ℝ) (b : Fin 2) (h : Fin 128) (a : ℝ)
    (hy : ∀ i d, y (ix2 i d) = ((pj x w b i h (colOf d) * a : ℝ) : EReal)) (i : Fin 512) (p : Fin 64) :
    rope I.cs I.sn y (ix2 i (⟨64 + p.val, by omega⟩ : Fin 128)) = ((hi x w b i h p * a : ℝ) : EReal) := by
  rw [rope_hi, hy, hy, G.cs, G.sn, colOf_lo, colOf_hi, ← EReal.coe_mul, ← EReal.coe_mul, ← EReal.coe_add]
  exact congrArg _ (by unfold hi; ring)

theorem scores (b : Fin 2) (h : Fin 8) (i j : Fin 512) :
    ∑ e : Fin 128, rope I.cs I.sn (cols (I.qs b) h) (ix2 i e) * tile I.keys b h (ix2 j e) = (sco x wq wk b (headOf c h) i j : EReal) := by
  have hq : ∀ i d, cols (I.qs b) h (ix2 i d) = ((pj x wq b i (headOf c h) (colOf d) * sc : ℝ) : EReal) := fun i d => by rw [cols_at, G.queries]
  have hk : ∀ i d, tile I.km b h (ix2 i d) = ((pj x wk b i (headOf c h) (colOf d) * 1 : ℝ) : EReal) := fun i d => by rw [tile_at, G.keys, mul_one]
  rw [keys_tile, sum_halves]
  simp only [G.turn_lo _ wq b _ sc hq, G.turn_lo _ wk b _ 1 hk, G.turn_hi _ wq b _ sc hq, G.turn_hi _ wk b _ 1 hk, ← EReal.coe_mul, ← EReal.coe_add, ← coe_sum]
  refine congrArg _ ?_
  rw [sco, Finset.sum_mul]
  exact Finset.sum_congr rfl fun p _ => by ring

theorem head (b : Fin 2) (h : Fin 8) (i : Fin 512) (d : Fin 128) : I.head b h (ix2 i d) = mean x wq wk X WV b i (headOf c h) d := by
  refine (att_at _ _ _ i d).trans ?_
  simp only [G.scores]
  simp only [tile_at, G.values]
  rfl

theorem half (b : Fin 2) (i : Fin 512) (n : Fin 1024) :
    I.half b (ix2 i n) = ∑ h : Fin 8, ∑ d : Fin 128, mean x wq wk X WV b i (headOf c h) d * O (ix2 (⟨128 * (headOf c h).val + d.val, by omega⟩ : Fin 16384) n) := by
  rw [half_at]
  refine Finset.sum_congr rfl fun h _ => Finset.sum_congr rfl fun d _ => ?_
  rw [G.head, G.wo]
  have e : (⟨1024 * c.val + (128 * h.val + d.val), by omega⟩ : Fin 16384) = ⟨128 * (headOf c h).val + d.val, by omega⟩ :=
    Fin.ext (by simp only [headOf]; omega)
  exact congrArg (fun u : Fin 16384 => mean x wq wk X WV b i (headOf c h) d * O (ix2 u n)) e

theorem part (b : Fin 2) (i : Fin 512) (n : Fin 1024) :
    I.part (ix2 (⟨512 * b.val + i.val, by omega⟩ : Fin 1024) n)
      = ∑ h : Fin 8, ∑ d : Fin 128, mean x wq wk X WV b i (headOf c h) d * O (ix2 (⟨128 * (headOf c h).val + d.val, by omega⟩ : Fin 16384) n) := by
  rw [← G.half, ← part_rows]
  pointwise [rows]

end Given

end Cert.Attn

end
-- ==== Proof.Total.lean ====
/-
  The kernel's result is the sum of all devices' parts: the attention block.
-/
module

public import proofs.«01_k».proof.Proof.KerSpec
public import proofs.«01_k».proof.Proof.Run

@[expose] public section

noncomputable section

namespace Cert.Attn

open Cert.KernelIdeal Cert.KernelIdeal.Gen
open Idealize.ShloMosaic Idealize.ShloMosaic.TcCoe

/-- The devices in the order in which a device's sum takes them. -/
def around (c : Dev nD) : List (Dev nD) :=
  (c :: (List.ofFn zm).map (px c)).flatMap fun e => e :: (List.ofFn pm).map (px e)
theorem around_all : ∀ c : Dev nD, (around c).Perm (List.finRange 16) := by decide +kernel

variable (m : (ℓ : Loc nD τ sig) → Buf (Elt Ideal) ℓ)

/-- Every device's total is the sum over all devices. -/
theorem tot_at (c : Dev nD) (i : S1024x1024.Idx) : totOf m c i = (∑ e : Dev nD, partOf m e i : EReal) := by
  have h : (((around c).map fun e => (partOf m e i : EReal)).sum : EReal) = ∑ e : Dev nD, (partOf m e i : EReal) :=
    (List.Perm.sum_eq ((around_all c).map fun e => (partOf m e i : EReal))).trans (Fin.sum_univ_def fun e : Fin 16 => (partOf m e i : EReal)).symm
  refine Eq.trans ?_ h
  simp only [around, List.ofFn_succ, List.ofFn_zero, List.map_cons, List.map_nil, List.flatMap_cons, List.flatMap_nil, List.cons_append, List.nil_append, List.sum_cons, List.sum_nil, add_zero]
  simp only [totOf, accOf, Ideal.addf_def, add_assoc]
  rfl

theorem res_at (b : Fin 2) (i : Fin 512) (n : Fin 1024) :
    resOf m (ix3 b i n) = outOf m (ix2 (⟨512 * b.val + i.val, by omega⟩ : Fin 1024) n) := by
  pointwise [resOf]
  simp only [Nat.mul_comm]

variable {x : Fin 2 → Fin 512 → Fin 1024 → ℝ} {wq wk : Fin 1024 → Fin 16384 → ℝ}
  {X : FVec Ideal (⟨3, ![2, 512, 1024]⟩ : Shape) .bf16} {WV : FVec Ideal (⟨2, ![1024, 16384]⟩ : Shape) .bf16} {O : FVec Ideal (⟨2, ![16384, 1024]⟩ : Shape) .bf16}

theorem res_spec (G : ∀ c : Dev nD, Given x wq wk X WV O c (insOf m c)) (b : Fin 2) (i : Fin 512) (n : Fin 1024) :
    resOf m (ix3 b i n) = spec x wq wk X WV O b i n := by
  rw [res_at, spec, sum_cut 16 8 128 rfl (fun x y => by omega)]
  refine (tot_at m _ _).trans (Finset.sum_congr rfl fun c _ => ?_)
  exact (G c).part b i n

end Cert.Attn

end
-- ==== Proof.Algebraic.lean ====
/-
  On finite inputs and weights of queries and keys, the kernel's result is the reference's.
-/
module

public import proofs.«01_k».proof.Proof.Total
public import proofs.«01_k».proof.Defs
public import Idealize.ShloMosaic.Lib.ReduceAll

@[expose] public section

noncomputable section

namespace Cert.Attn

open Idealize.ShloMosaic Idealize.ShloMosaic.TcCoe Idealize.SL.Sem

instance : Subsingleton (⟨0, ![]⟩ : Shape).Idx := ⟨fun _ _ => funext fun a => a.elim0⟩

/-- A number whose size is below the infinite one is a real. -/
theorem real_of_small (a : Ideal .bf16) (h : FloatOps.cmpf (F := Ideal) .olt (FloatOps.absf a) (Ideal.ofBits .bf16 0x7F80#16) = 1#1) :
    (a : EReal) = ((EReal.toReal a : ℝ) : EReal) := by
  rw [word_top, Ideal.absf_def, Ideal.cmpf_def] at h
  have hl : max (a : EReal) (-a) < ⊤ := by
    by_contra hn
    rw [Ideal.cmp_olt, decide_eq_false hn] at h
    exact absurd h (by decide)
  have h1 : (a : EReal) ≠ ⊤ := fun e => by rw [e] at hl; simp at hl
  have h2 : (a : EReal) ≠ ⊥ := fun e => by rw [e] at hl; simp at hl
  exact (EReal.coe_toReal h1 h2).symm

section
variable [Cert.Pre_finite_KernelIdeal.Facts] (m : (ℓ : Loc Cert.KernelIdeal.nD Cert.KernelIdeal.τ Cert.KernelIdeal.sig) → Buf (Elt Ideal) ℓ)

/-- What the precondition says of each element. -/
theorem finite_real (A : FVec Ideal (⟨3, ![2, 512, 1024]⟩ : Shape) .bf16) (B C D E : FVec Ideal (⟨2, ![1024, 1024]⟩ : Shape) .bf16)
    (h : Cert.Pre_finite_KernelIdeal.fn (F := Ideal) A B C D E = fun _ => 1#1) :
    (∀ i, (A i : EReal) = ((EReal.toReal (A i) : ℝ) : EReal)) ∧ (∀ i, (B i : EReal) = ((EReal.toReal (B i) : ℝ) : EReal))
      ∧ ∀ i, (C i : EReal) = ((EReal.toReal (C i) : ℝ) : EReal) := by
  have h0 := congrFun h (Shape.Idx.first Cert.Pre_finite_KernelIdeal.Facts.h_S_)
  unfold Cert.Pre_finite_KernelIdeal.fn at h0
  obtain ⟨h1, hC⟩ := IntOp.andi_eq_one.1 h0
  obtain ⟨hA, hB⟩ := IntOp.andi_eq_one.1 h1
  exact ⟨fun i => real_of_small _ (Host.reduce_andi_all _ _ _ _ _ hA i), fun i => real_of_small _ (Host.reduce_andi_all _ _ _ _ _ hB i),
    fun i => real_of_small _ (Host.reduce_andi_all _ _ _ _ _ hC i)⟩
end

/-! A device's block of a weight, by the whole's columns or rows. -/

theorem block_cols (c : Fin 16) (v : (⟨2, ![1024, 16384]⟩ : Shape).Idx → EReal) (k j : Fin 1024) :
    Layout.block ⟨2, ![1024, 1024]⟩ ⟨2, ![1024, 16384]⟩ 1 16 c v (by decide) (ix2 k j) = v (ix2 k (⟨1024 * c.val + j.val, by omega⟩ : Fin 16384)) := by
  rw [Layout.block_apply]
  refine congrArg v ((ValueIdx.eq_ix2 _).trans ?_)
  exact congrArg₂ ValueIdx.ix2 (Fin.ext rfl) (Fin.ext (congrArg (· + j.val) (Nat.mul_comm c.val 1024)))
theorem block_rows (c : Fin 16) (v : (⟨2, ![16384, 1024]⟩ : Shape).Idx → EReal) (j n : Fin 1024) :
    Layout.block ⟨2, ![1024, 1024]⟩ ⟨2, ![16384, 1024]⟩ 0 16 c v (by decide) (ix2 j n) = v (ix2 (⟨1024 * c.val + j.val, by omega⟩ : Fin 16384) n) := by
  rw [Layout.block_apply]
  refine congrArg v ((ValueIdx.eq_ix2 _).trans ?_)
  exact congrArg₂ ValueIdx.ix2 (Fin.ext (congrArg (· + j.val) (Nat.mul_comm c.val 1024))) (Fin.ext rfl)

/-- A weight all of whose blocks are real is real. -/
theorem whole_real (v : (⟨2, ![1024, 16384]⟩ : Shape).Idx → EReal)
    (h : ∀ (c : Fin 16) i, Layout.block ⟨2, ![1024, 1024]⟩ ⟨2, ![1024, 16384]⟩ 1 16 c v (by decide) i
      = ((EReal.toReal (Layout.block ⟨2, ![1024, 1024]⟩ ⟨2, ![1024, 16384]⟩ 1 16 c v (by decide) i) : ℝ) : EReal)) (k : Fin 1024) (j : Fin 16384) :
    v (ix2 k j) = ((EReal.toReal (v (ix2 k j)) : ℝ) : EReal) := by
  have e := h ⟨j.val / 1024, by omega⟩ (ix2 k (⟨j.val % 1024, by omega⟩ : Fin 1024))
  rw [block_cols] at e
  have hj : (⟨1024 * (j.val / 1024) + j.val % 1024, by omega⟩ : Fin 16384) = j := Fin.ext (Nat.div_add_mod _ _)
  simpa only [hj] using e

theorem algebraic [Cert.Pre_finite_KernelIdeal.Facts] : Cert.algebraic_KernelIdeal_ReferenceIdeal_pre_finite_KernelIdeal := by
  intro m g m' g' hp hb
  let X : FVec Ideal (⟨3, ![2, 512, 1024]⟩ : Shape) .bf16 := m' (((0 : Dev Cert.ReferenceIdeal.nD).tc : Thread Cert.ReferenceIdeal.nD Cert.ReferenceIdeal.τ).loc Cert.ReferenceIdeal.main_arg0)
  let WQ : FVec Ideal (⟨2, ![1024, 16384]⟩ : Shape) .bf16 := m' (((0 : Dev Cert.ReferenceIdeal.nD).tc : Thread Cert.ReferenceIdeal.nD Cert.ReferenceIdeal.τ).loc Cert.ReferenceIdeal.main_arg1)
  let WK : FVec Ideal (⟨2, ![1024, 16384]⟩ : Shape) .bf16 := m' (((0 : Dev Cert.ReferenceIdeal.nD).tc : Thread Cert.ReferenceIdeal.nD Cert.ReferenceIdeal.τ).loc Cert.ReferenceIdeal.main_arg2)
  let WV : FVec Ideal (⟨2, ![1024, 16384]⟩ : Shape) .bf16 := m' (((0 : Dev Cert.ReferenceIdeal.nD).tc : Thread Cert.ReferenceIdeal.nD Cert.ReferenceIdeal.τ).loc Cert.ReferenceIdeal.main_arg3)
  let O : FVec Ideal (⟨2, ![16384, 1024]⟩ : Shape) .bf16 := m' (((0 : Dev Cert.ReferenceIdeal.nD).tc : Thread Cert.ReferenceIdeal.nD Cert.ReferenceIdeal.τ).loc Cert.ReferenceIdeal.main_arg4)
  have fin := fun c => finite_real _ _ _ _ _ (hp c)
  have hX : ∀ b i k, X (ix3 b i k) = ((EReal.toReal (X (ix3 b i k)) : ℝ) : EReal) := fun b i k => by
    have := (fin 0).1 (ix3 b i k)
    rw [(hb 0).1] at this
    exact this
  have hQ : ∀ k j, WQ (ix2 k j) = ((EReal.toReal (WQ (ix2 k j)) : ℝ) : EReal) := whole_real WQ fun c i => by
    have := (fin c).2.1 i
    rw [(hb c).2.1] at this
    exact this
  have hK : ∀ k j, WK (ix2 k j) = ((EReal.toReal (WK (ix2 k j)) : ℝ) : EReal) := whole_real WK fun c i => by
    have := (fin c).2.2 i
    rw [(hb c).2.2.1] at this
    exact this
  have G : ∀ c : Dev Cert.KernelIdeal.nD, Given (fun b i k => EReal.toReal (X (ix3 b i k))) (fun k j => EReal.toReal (WQ (ix2 k j))) (fun k j => EReal.toReal (WK (ix2 k j)))
      X WV O c (insOf m c) := fun c =>
    { real := hX
      x := fun r k => by rw [x_at, (hb c).1]
      wq := fun k j => by rw [wq_at, (hb c).2.1]; exact (block_cols c WQ k (src j)).trans (hQ _ _)
      wk := fun k j => by rw [wk_at, (hb c).2.2.1]; exact (block_cols c WK k (src j)).trans (hK _ _)
      wv := fun k j => by rw [wv_at, (hb c).2.2.2.1]; exact block_cols c WV k j
      wo := fun j n => by rw [wo_at, (hb c).2.2.2.2]; exact block_rows c O j n
      cs := cs_at m c
      sn := sn_at m c }
  have e : resOf m = Ref.whole X WQ WK WV O := by
    funext i
    rw [ValueIdx.eq_ix3 i]
    exact (res_spec m G _ _ _).trans (Ref.whole_spec _ _ _ X WV O WQ WK hX hQ hK _ _ _).symm
  refine ⟨Ref.whole X WQ WK WV O, ?_, ?_⟩
  · exact (θ_run (Cert.KernelIdeal.defs (F := Ideal)) _ _).mono (fun _ h c => ⟨(h.1 c).1.trans e, (h.1 c).2⟩) (run_main m g)
  · exact (θ_run (Cert.ReferenceIdeal.defs (F := Ideal)) _ _).mono (fun _ h => ⟨(h 0).1.trans (Ref.whole_eq m' 0), (h 0).2⟩) (Cert.ReferenceIdeal.Value.run m' g')

end Cert.Attn

end
-- ==== Proof.lean ====
/-
  The claims of this directory, put together. The run of the kernel is Proof/Run.lean's, the frames are Proof/Frames.lean's, the comparison with the
  reference is Proof/Algebraic.lean's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Frames
public import proofs.«01_k».proof.Proof.Algebraic

@[expose] public section

noncomputable section

namespace Cert.Proof

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  Cert.Attn.frame_kernel, Cert.Attn.frame_ideal, Cert.Attn.frame_ideal_finite, Cert.Attn.frame_reference, Cert.Attn.frame_reference_finite,
  Cert.Attn.preserved, Cert.Attn.algebraic⟩

end Cert.Proof

end
